-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_experts : Cert.Pre_experts.Facts] (m : (ℓ : Loc Cert.Kernel4.nD Cert.Kernel4.τ Cert.Kernel4.sig) → Buf (Elt Bits) ℓ) : Prop :=
  ∀ c : Dev Cert.Kernel4.nD,
    (Cert.Pre_experts.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5))) = (fun _ => 1#1)

def Pre_Kernel4Ideal [hPre_experts : Cert.Pre_experts.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_experts.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal [hPre_experts : Cert.Pre_experts.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_experts.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] [hPre_experts : Cert.Pre_experts.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] [hPre_experts : Cert.Pre_experts.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] [hPre_experts : Cert.Pre_experts.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15)
      ∧ r.2.mem ((c.tc : Thread Cert.Kernel5.nD Cert.Kernel5.τ).loc Cert.Kernel5.main_arg16) = m ((c.tc : Thread Cert.Kernel5.nD Cert.Kernel5.τ).loc Cert.Kernel5.main_arg16)
      ∧ r.2.mem ((c.tc : Thread Cert.Kernel5.nD Cert.Kernel5.τ).loc Cert.Kernel5.main_arg17) = m ((c.tc : Thread Cert.Kernel5.nD Cert.Kernel5.τ).loc Cert.Kernel5.main_arg17))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
      ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
      ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15)
      ∧ r.2.mem ((c.tc : Thread Cert.Reference5Ideal.nD Cert.Reference5Ideal.τ).loc Cert.Reference5Ideal.main_arg16) = m ((c.tc : Thread Cert.Reference5Ideal.nD Cert.Reference5Ideal.τ).loc Cert.Reference5Ideal.main_arg16)
      ∧ r.2.mem ((c.tc : Thread Cert.Reference5Ideal.nD Cert.Reference5Ideal.τ).loc Cert.Reference5Ideal.main_arg17) = m ((c.tc : Thread Cert.Reference5Ideal.nD Cert.Reference5Ideal.τ).loc Cert.Reference5Ideal.main_arg17))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v89) = v0 c
          ∧ r.2.mem ((c.tc : Thread Cert.Reference3Ideal.nD Cert.Reference3Ideal.τ).loc Cert.Reference3Ideal.main_v91) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] [hPre_experts : Cert.Pre_experts.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)
      ∧ m' ((c.tc : Thread Cert.Reference5Ideal.nD Cert.Reference5Ideal.τ).loc Cert.Reference5Ideal.main_arg16) = m ((c.tc : Thread Cert.Kernel5Ideal.nD Cert.Kernel5Ideal.τ).loc Cert.Kernel5Ideal.main_arg16)
      ∧ m' ((c.tc : Thread Cert.Reference5Ideal.nD Cert.Reference5Ideal.τ).loc Cert.Reference5Ideal.main_arg17) = m ((c.tc : Thread Cert.Kernel5Ideal.nD Cert.Kernel5Ideal.τ).loc Cert.Kernel5Ideal.main_arg17)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
          ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
          ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v75) = v0 c
          ∧ r.2.mem ((c.tc : Thread Cert.Reference5Ideal.nD Cert.Reference5Ideal.τ).loc Cert.Reference5Ideal.main_v120) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15)
          ∧ r.2.mem ((c.tc : Thread Cert.Reference5Ideal.nD Cert.Reference5Ideal.τ).loc Cert.Reference5Ideal.main_arg16) = m' ((c.tc : Thread Cert.Reference5Ideal.nD Cert.Reference5Ideal.τ).loc Cert.Reference5Ideal.main_arg16)
          ∧ r.2.mem ((c.tc : Thread Cert.Reference5Ideal.nD Cert.Reference5Ideal.τ).loc Cert.Reference5Ideal.main_arg17) = m' ((c.tc : Thread Cert.Reference5Ideal.nD Cert.Reference5Ideal.τ).loc Cert.Reference5Ideal.main_arg17))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_experts : Cert.Pre_experts.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_experts := hPre_experts)
    ∧ quiescent_Kernel4Ideal (hKernel4Ideal := hKernel4Ideal) (hPre_experts := hPre_experts)
    ∧ quiescent_Reference4Ideal (hReference4Ideal := hReference4Ideal) (hPre_experts := hPre_experts)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_experts := hPre_experts)
    ∧ preserves_Kernel5_Kernel5Ideal
    ∧ algebraic_Kernel5Ideal_Reference5Ideal (hKernel5Ideal := hKernel5Ideal) (hReference5Ideal := hReference5Ideal)
-- ==== Pre_experts.lean ====
abbrev S36864x1024 : Shape := ⟨2, ![36864, 1024]⟩
abbrev S72 : Shape := ⟨1, ![72]⟩
abbrev S1 : Shape := ⟨1, ![1]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel

variable [Facts]

def fn {F : FTy → Type} [FloatOps F] (main_arg0 : FVec F S36864x1024 .bf16) (main_arg1 : IVec S72 32) (main_arg2 : IVec S1 32) (main_arg3 : FVec F S8x1024x3584 .bf16) (main_arg4 : FVec F S8x1024x3584 .bf16) (main_arg5 : FVec F S8x3584x1024 .bf16) : IVec S_ 1 :=
  let main_c : IVec S_ 32 := constantI S_ 32 0#32
  let main_v0 : IVec S72 32 := broadcastInDim S72 ![] bcast_S_S72 main_c
  let main_v1 : IVec S72 1 := cmpi .sge main_arg1 main_v0
  let main_c_0 : IVec S_ 32 := constantI S_ 32 8#32
  let main_v2 : IVec S72 32 := broadcastInDim S72 ![] bcast_S_S72 main_c_0
  let main_v3 : IVec S72 1 := cmpi .slt main_arg1 main_v2
  let main_v4 : IVec S72 1 := andi main_v1 main_v3
  let main_c_1 : IVec S_ 1 := constantI S_ 1 1#1
  let main_v5 : IVec S_ 1 := (fun x v => Host.reduce IntOp.andi x v reducesTo_S72_S_d0 h_S_) main_v4 main_c_1
  main_v5
-- ==== Pre_finite.lean ====
abbrev S4x4352x1152 : Shape := ⟨3, ![4, 4352, 1152]⟩
abbrev S6x15x31 : Shape := ⟨3, ![6, 15, 31]⟩
abbrev S_ : Shape := ⟨0, ![]⟩

class Facts : Prop where
  bcast_S_S4x4352x1152 : S_.BroadcastsInDim S4x4352x1152 (![] : Fin 0 → Fin S4x4352x1152.rank)
  reducesTo_S4x4352x1152_S_d0_1_2 : S4x4352x1152.ReducesTo [0, 1, 2] S_
  h_S_ : 0 < S_.numel
  bcast_S_S6x15x31 : S_.BroadcastsInDim S6x15x31 (![] : Fin 0 → Fin S6x15x31.rank)
  reducesTo_S6x15x31_S_d0_1_2 : S6x15x31.ReducesTo [0, 1, 2] S_

variable [Facts]

def fn {F : FTy → Type} [FloatOps F] (main_arg0 : FVec F S4x4352x1152 .bf16) (main_arg1 : FVec F S6x15x31 .f32) : IVec S_ 1 × IVec S_ 1 :=
  let main_v0 : FVec F S4x4352x1152 .bf16 := Host.absf main_arg0
  let main_cst : FVec F S_ .bf16 := constant S_ .bf16 0x7F80#16
  let main_v1 : FVec F S4x4352x1152 .bf16 := broadcastInDim S4x4352x1152 ![] bcast_S_S4x4352x1152 main_cst
  let main_v2 : IVec S4x4352x1152 1 := cmpf .olt main_v0 main_v1
  let main_c : IVec S_ 1 := constantI S_ 1 1#1
  let main_v3 : IVec S_ 1 := (fun x v => Host.reduce IntOp.andi x v reducesTo_S4x4352x1152_S_d0_1_2 h_S_) main_v2 main_c
  let main_v4 : FVec F S6x15x31 .f32 := Host.absf main_arg1
  let main_cst_0 : FVec F S_ .f32 := constant S_ .f32 0x7F800000#32
  let main_v5 : FVec F S6x15x31 .f32 := broadcastInDim S6x15x31 ![] bcast_S_S6x15x31 main_cst_0
  let main_v6 : IVec S6x15x31 1 := cmpf .olt main_v4 main_v5
  let main_c_1 : IVec S_ 1 := constantI S_ 1 1#1
  let main_v7 : IVec S_ 1 := (fun x v => Host.reduce IntOp.andi x v reducesTo_S6x15x31_S_d0_1_2 h_S_) main_v6 main_c_1
  (main_v3, main_v7)
-- ==== Kernel.lean ====
abbrev S4x4352x1152 : Shape := ⟨3, ![4, 4352, 1152]⟩
abbrev S6x15x31 : Shape := ⟨3, ![6, 15, 31]⟩
abbrev S3x4x11 : Shape := ⟨3, ![3, 4, 11]⟩
abbrev S3x4x1x11x1 : Shape := ⟨5, ![3, 4, 1, 11, 1]⟩
abbrev S16 : Shape := ⟨1, ![16]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S1x1x64x1x64 : Shape := ⟨5, ![1, 1, 64, 1, 64]⟩
abbrev S3x4x64x11x64 : Shape := ⟨5, ![3, 4, 64, 11, 64]⟩
abbrev S3x4x64x11x64x1 : Shape := ⟨6, ![3, 4, 64, 11, 64, 1]⟩
abbrev S3x4x64x11x64x2 : Shape := ⟨6, ![3, 4, 64, 11, 64, 2]⟩
abbrev S6x3x4x64x11x64 : Shape := ⟨6, ![6, 3, 4, 64, 11, 64]⟩
abbrev S3x6x4x64x11x64 : Shape := ⟨6, ![3, 6, 4, 64, 11, 64]⟩
abbrev S3x1x4x1x11x1 : Shape := ⟨6, ![3, 1, 4, 1, 11, 1]⟩
abbrev S1x1x1x64x1x64 : Shape := ⟨6, ![1, 1, 1, 64, 1, 64]⟩
abbrev S3x1x4x64x11x64 : Shape := ⟨6, ![3, 1, 4, 64, 11, 64]⟩
abbrev S3x6x256x704 : Shape := ⟨4, ![3, 6, 256, 704]⟩
abbrev S4x4096x384 : Shape := ⟨3, ![4, 4096, 384]⟩
abbrev S1x256x384 : Shape := ⟨3, ![1, 256, 384]⟩
abbrev S1x4352x384 : Shape := ⟨3, ![1, 4352, 384]⟩
abbrev S1x6x256x704 : Shape := ⟨4, ![1, 6, 256, 704]⟩
abbrev S1 : Shape := ⟨1, ![1]⟩
abbrev S256x128 : Shape := ⟨2, ![256, 128]⟩
abbrev S1x256x128 : Shape := ⟨3, ![1, 256, 128]⟩
abbrev S1x704x128 : Shape := ⟨3, ![1, 704, 128]⟩
abbrev S704x128 : Shape := ⟨2, ![704, 128]⟩
abbrev S1x1x256x704 : Shape := ⟨4, ![1, 1, 256, 704]⟩
abbrev S256x704 : Shape := ⟨2, ![256, 704]⟩
abbrev S512x128 : Shape := ⟨2, ![512, 128]⟩
abbrev S512x704 : Shape := ⟨2, ![512, 704]⟩
abbrev S512x256 : Shape := ⟨2, ![512, 256]⟩
abbrev S512 : Shape := ⟨1, ![512]⟩
abbrev S512x1 : Shape := ⟨2, ![512, 1]⟩

abbrev nBuf : Space → Nat
  | .hbm => 79
  | .vmem => 10
  | .smem => 1
  | _ => 0

abbrev bufTy : (tb : Table) → Fin (tcTables nBuf tb) → BufTy
  | .hbm, ⟨0, _⟩ => ⟨S4x4352x1152, .bf16⟩
  | .hbm, ⟨1, _⟩ => ⟨S6x15x31, .f32⟩
  | .hbm, ⟨2, _⟩ => ⟨S3x4x11, .i32⟩
  | .hbm, ⟨3, _⟩ => ⟨S3x4x1x11x1, .i32⟩
  | .hbm, ⟨4, _⟩ => ⟨S3x4x1x11x1, .i1⟩
  | .hbm, ⟨5, _⟩ => ⟨S3x4x11, .i1⟩
  | .hbm, ⟨6, _⟩ => ⟨S64, .i32⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S_, .i32⟩
  | .hbm, ⟨16, _⟩ => ⟨S64, .i32⟩
  | .hbm, ⟨17, _⟩ => ⟨S64, .i32⟩
  | .hbm, ⟨18, _⟩ => ⟨S1x64, .i32⟩
  | .hbm, ⟨19, _⟩ => ⟨S64x1, .i32⟩
  | .hbm, ⟨20, _⟩ => ⟨S64x64, .i32⟩
  | .hbm, ⟨21, _⟩ => ⟨S64x64, .i32⟩
  | .hbm, ⟨22, _⟩ => ⟨S64x64, .i1⟩
  | .hbm, ⟨23, _⟩ => ⟨S1x64, .i32⟩
  | .hbm, ⟨24, _⟩ => ⟨S64x1, .i32⟩
  | .hbm, ⟨25, _⟩ => ⟨S_, .i32⟩
  | .hbm, ⟨26, _⟩ => ⟨S64x1, .i32⟩
  | .hbm, ⟨27, _⟩ => ⟨S64x1, .i32⟩
  | .hbm, ⟨28, _⟩ => ⟨S64x64, .i32⟩
  | .hbm, ⟨29, _⟩ => ⟨S64x64, .i32⟩
  | .hbm, ⟨30, _⟩ => ⟨S64x64, .i1⟩
  | .hbm, ⟨31, _⟩ => ⟨S64x64, .i1⟩
  | .hbm, ⟨32, _⟩ => ⟨S1x64, .i32⟩
  | .hbm, ⟨33, _⟩ => ⟨S64x1, .i32⟩
  | .hbm, ⟨34, _⟩ => ⟨S64x64, .i32⟩
  | .hbm, ⟨35, _⟩ => ⟨S64x64, .i32⟩
  | .hbm, ⟨36, _⟩ => ⟨S64x64, .i32⟩
  | .hbm, ⟨37, _⟩ => ⟨S_, .i32⟩
  | .hbm, ⟨38, _⟩ => ⟨S64x64, .i32⟩
  | .hbm, ⟨39, _⟩ => ⟨S64x64, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S64x64, .i32⟩
  | .hbm, ⟨44, _⟩ => ⟨S64x64, .i32⟩
  | .hbm, ⟨45, _⟩ => ⟨S_, .i32⟩
  | .hbm, ⟨46, _⟩ => ⟨S64x64, .i32⟩
  | .hbm, ⟨47, _⟩ => ⟨S64x64, .i32⟩
  | .hbm, ⟨48, _⟩ => ⟨S1x1x64x1x64, .i32⟩
  | .hbm, ⟨49, _⟩ => ⟨S_, .i32⟩
  | .hbm, ⟨50, _⟩ => ⟨S3x4x1x11x1, .i32⟩
  | .hbm, ⟨51, _⟩ => ⟨S3x4x1x11x1, .i32⟩
  | .hbm, ⟨52, _⟩ => ⟨S3x4x1x11x1, .i32⟩
  | .hbm, ⟨53, _⟩ => ⟨S_, .i32⟩
  | .hbm, ⟨54, _⟩ => ⟨S1x1x64x1x64, .i32⟩
  | .hbm, ⟨55, _⟩ => ⟨S1x1x64x1x64, .i1⟩
  | .hbm, ⟨56, _⟩ => ⟨S_, .i32⟩
  | .hbm, ⟨57, _⟩ => ⟨S1x1x64x1x64, .i32⟩
  | .hbm, ⟨58, _⟩ => ⟨S1x1x64x1x64, .i32⟩
  | .hbm, ⟨59, _⟩ => ⟨S1x1x64x1x64, .i32⟩
  | .hbm, ⟨60, _⟩ => ⟨S3x4x64x11x64, .i32⟩
  | .hbm, ⟨61, _⟩ => ⟨S3x4x64x11x64, .i32⟩
  | .hbm, ⟨62, _⟩ => ⟨S3x4x64x11x64x1, .i32⟩
  | .hbm, ⟨63, _⟩ => ⟨S3x4x64x11x64x1, .i32⟩
  | .hbm, ⟨64, _⟩ => ⟨S3x4x64x11x64x2, .i32⟩
  | .hbm, ⟨65, _⟩ => ⟨S6x3x4x64x11x64, .f32⟩
  | .hbm, ⟨66, _⟩ => ⟨S3x6x4x64x11x64, .f32⟩
  | .hbm, ⟨67, _⟩ => ⟨S3x1x4x1x11x1, .i1⟩
  | .hbm, ⟨68, _⟩ => ⟨S1x1x1x64x1x64, .i1⟩
  | .hbm, ⟨69, _⟩ => ⟨S3x1x4x64x11x64, .i1⟩
  | .hbm, ⟨70, _⟩ => ⟨S3x1x4x64x11x64, .i1⟩
  | .hbm, ⟨71, _⟩ => ⟨S3x1x4x64x11x64, .i1⟩
  | .hbm, ⟨72, _⟩ => ⟨S_, .f32⟩
  | .hbm, ⟨73, _⟩ => ⟨S_, .f32⟩
  | .hbm, ⟨74, _⟩ => ⟨S3x6x4x64x11x64, .i1⟩
  | .hbm, ⟨75, _⟩ => ⟨S3x6x4x64x11x64, .f32⟩
  | .hbm, ⟨76, _⟩ => ⟨S3x6x4x64x11x64, .f32⟩
  | .hbm, ⟨77, _⟩ => ⟨S3x6x256x704, .f32⟩
  | .hbm, ⟨78, _⟩ => ⟨S4x4096x384, .bf16⟩
  | .local _ .vmem, ⟨0, _⟩ => ⟨S1x256x384, .bf16⟩
  | .local _ .vmem, ⟨1, _⟩ => ⟨S1x256x384, .bf16⟩
  | .local _ .vmem, ⟨2, _⟩ => ⟨S1x4352x384, .bf16⟩
  | .local _ .vmem, ⟨3, _⟩ => ⟨S1x4352x384, .bf16⟩
  | .local _ .vmem, ⟨4, _⟩ => ⟨S1x4352x384, .bf16⟩
  | .local _ .vmem, ⟨5, _⟩ => ⟨S1x4352x384, .bf16⟩
  | .local _ .vmem, ⟨6, _⟩ => ⟨S1x6x256x704, .f32⟩
  | .local _ .vmem, ⟨7, _⟩ => ⟨S1x6x256x704, .f32⟩
  | .local _ .vmem, ⟨8, _⟩ => ⟨S1x256x384, .bf16⟩
  | .local _ .vmem, ⟨9, _⟩ => ⟨S1x256x384, .bf16⟩
  | .local _ .smem, ⟨0, _⟩ => ⟨S16, .i32⟩
  | _, _ => ⟨S4x4352x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_c_1 : Ref sig .tc := ⟨.hbm, 5, rfl⟩
abbrev main_v1 : Ref sig .tc := ⟨.hbm, 6, rfl⟩
abbrev main_c_3 : Ref sig .tc := ⟨.hbm, 7, rfl⟩
abbrev main_v2 : Ref sig .tc := ⟨.hbm, 8, rfl⟩
abbrev main_v3 : Ref sig .tc := ⟨.hbm, 9, rfl⟩
abbrev main_c_4 : Ref sig .tc := ⟨.hbm, 10, rfl⟩
abbrev main_c_5 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_6 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_7 : Ref sig .tc := ⟨.hbm, 37, rfl⟩
abbrev main_v23 : Ref sig .tc := ⟨.hbm, 38, rfl⟩
abbrev main_v24 : Ref sig .tc := ⟨.hbm, 39, rfl⟩
abbrev main_c_8 : Ref sig .tc := ⟨.hbm, 40, rfl⟩
abbrev main_c_9 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v25 : Ref sig .tc := ⟨.hbm, 47, rfl⟩
abbrev main_v26 : Ref sig .tc := ⟨.hbm, 48, rfl⟩
abbrev main_c_10 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_11 : Ref sig .tc := ⟨.hbm, 53, rfl⟩
abbrev main_v30 : Ref sig .tc := ⟨.hbm, 54, rfl⟩
abbrev main_v31 : Ref sig .tc := ⟨.hbm, 55, rfl⟩
abbrev main_c_12 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

abbrev pre0 : Pipeline.Prefetch sig := ⟨1, ![main_c_2.idx], fun | 0 => main_c_2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (i : grid0.Coords) : BitVec 32 :=
  let c256_i32 : BitVec 32 := 256#32
  let c53_i32 : BitVec 32 := 53#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c53_i32 v2
  let c64_i32 : BitVec 32 := 64#32
  let v4 : BitVec 32 := Scalar.muli v3 c64_i32
  let v5 : BitVec 32 := Scalar.addi c256_i32 v4
  v5
def k0_off2 (i : grid0.Coords) : Fin 3 → Nat :=
  let c0_3 : Index := 0#32
  let c256_i32 : BitVec 32 := 256#32
  let c53_i32 : BitVec 32 := 53#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c53_i32 v2
  let c64_i32 : BitVec 32 := 64#32
  let v4 : BitVec 32 := Scalar.muli v3 c64_i32
  let v5 : BitVec 32 := Scalar.addi c256_i32 v4
  let v6 : BitVec 32 := v5
  let v12 : Index := Scalar.indexCast v6
  let c0_4 : Index := 0#32
  ![0, v12.toNat, 0]
def k0_off3 (i : grid0.Coords) : Fin 3 → Nat :=
  let c0_39 : Index := 0#32
  let c256_i32 : BitVec 32 := 256#32
  let c53_i32 : BitVec 32 := 53#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c53_i32 v2
  let c64_i32 : BitVec 32 := 64#32
  let v4 : BitVec 32 := Scalar.muli v3 c64_i32
  let v5 : BitVec 32 := Scalar.addi c256_i32 v4
  let v6 : BitVec 32 := v5
  let v82 : Index := Scalar.indexCast v6
  let c128_40 : Index := 128#32
  ![0, v82.toNat, 128]
def k0_off4 (i : grid0.Coords) : Fin 3 → Nat :=
  let c0_75 : Index := 0#32
  let c256_i32 : BitVec 32 := 256#32
  let c53_i32 : BitVec 32 := 53#32
  let c0_i32 : BitVec 32 := 0#32
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.subi v0 c4_i32_0
  let v2 : BitVec 32 := Scalar.maxsi c0_i32 v1
  let v3 : BitVec 32 := Scalar.minsi c53_i32 v2
  let c64_i32 : BitVec 32 := 64#32
  let v4 : BitVec 32 := Scalar.muli v3 c64_i32
  let v5 : BitVec 32 := Scalar.addi c256_i32 v4
  let v6 : BitVec 32 := v5
  let v152 : Index := Scalar.indexCast v6
  let c256_76 : Index := 256#32
  ![0, v152.toNat, 256]
def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_3 (k0_off1_inb : ∀ i : grid0.Coords, ∀ a, (k0_off1 i) a + S1.size a ≤ S16.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S16) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4352x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4352x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x6x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x4352x1152 : Shape := ⟨3, ![4, 4352, 1152]⟩
abbrev S6x15x31 : Shape := ⟨3, ![6, 15, 31]⟩
abbrev S4x256x1152 : Shape := ⟨3, ![4, 256, 1152]⟩
abbrev S4x4096x1152 : Shape := ⟨3, ![4, 4096, 1152]⟩
abbrev S4x4096x384 : Shape := ⟨3, ![4, 4096, 384]⟩
abbrev S4x4096x6x64 : Shape := ⟨4, ![4, 4096, 6, 64]⟩
abbrev S4x256x384 : Shape := ⟨3, ![4, 256, 384]⟩
abbrev S4x256x6x64 : Shape := ⟨4, ![4, 256, 6, 64]⟩
abbrev S4x64x64x6x64 : Shape := ⟨5, ![4, 64, 64, 6, 64]⟩
abbrev S_ : Shape := ⟨0, ![]⟩
abbrev S64 : Shape := ⟨1, ![64]⟩
abbrev S64x1 : Shape := ⟨2, ![64, 1]⟩
abbrev S8 : Shape := ⟨1, ![8]⟩
abbrev S1x8 : Shape := ⟨2, ![1, 8]⟩
abbrev S64x8 : Shape := ⟨2, ![64, 8]⟩
abbrev S16 : Shape := ⟨1, ![16]⟩
abbrev S1x16 : Shape := ⟨2, ![1, 16]⟩
abbrev S64x16 : Shape := ⟨2, ![64, 16]⟩
abbrev S64x1x8x1 : Shape := ⟨4, ![64, 1, 8, 1]⟩
abbrev S1x64x1x16 : Shape := ⟨4, ![1, 64, 1, 16]⟩
abbrev S64x64x8x16 : Shape := ⟨4, ![64, 64, 8, 16]⟩
abbrev S64x64x8x16x1 : Shape := ⟨5, ![64, 64, 8, 16, 1]⟩
abbrev S64x64x8x16x2 : Shape := ⟨5, ![64, 64, 8, 16, 2]⟩
abbrev S4x64x64x8x16x6x64 : Shape := ⟨7, ![4, 64, 64, 8, 16, 6, 64]⟩
abbrev S6x64x64x8x16 : Shape := ⟨5, ![6, 64, 64, 8, 16]⟩
abbrev S4x6x64x64x8x16 : Shape := ⟨6, ![4, 6, 64, 64, 8, 16]⟩
abbrev S1x6x64x64x8x16 : Shape := ⟨6, ![1, 6, 64, 64, 8, 16]⟩
abbrev S4x6x64x64x256 : Shape := ⟨5, ![4, 6, 64, 64, 256]⟩
abbrev S4x6x64x64x128 : Shape := ⟨5, ![4, 6, 64, 64, 128]⟩
abbrev S4x6x64x64x384 : Shape := ⟨5, ![4, 6, 64, 64, 384]⟩
abbrev S4x6x64x64 : Shape := ⟨4, ![4, 6, 64, 64]⟩
abbrev S4x6x64x64x1 : Shape := ⟨5, ![4, 6, 64, 64, 1]⟩
abbrev S4x6x64x64x64 : Shape := ⟨5, ![4, 6, 64, 64, 64]⟩

abbrev nBuf : Space → Nat
  | .hbm => 167
  | .vmem => 0
  | .smem => 0
  | _ => 0

abbrev hbmTy0_0 (i : Nat) : BufTy := match i % 128 with
  | 0 => ⟨S4x4352x1152, .bf16⟩
  | 1 => ⟨S6x15x31, .f32⟩
  | 2 => ⟨S4x4352x1152, .f32⟩
  | 3 => ⟨S4x256x1152, .f32⟩
  | 4 => ⟨S4x4096x1152, .f32⟩
  | 5 => ⟨S4x4096x384, .f32⟩
  | 6 => ⟨S4x4096x6x64, .f32⟩
  | 7 => ⟨S4x4096x384, .f32⟩
  | 8 => ⟨S4x4096x6x64, .f32⟩
  | 9 => ⟨S4x4096x384, .f32⟩
  | 10 => ⟨S4x4096x6x64, .f32⟩
  | 11 => ⟨S4x256x384, .f32⟩
  | 12 => ⟨S4x256x6x64, .f32⟩
  | 13 => ⟨S4x256x384, .f32⟩
  | 14 => ⟨S4x256x6x64, .f32⟩
  | 15 => ⟨S4x256x384, .f32⟩
  | 16 => ⟨S4x256x6x64, .f32⟩
  | 17 => ⟨S4x64x64x6x64, .f32⟩
  | 18 => ⟨S4x64x64x6x64, .f32⟩
  | 19 => ⟨S_, .f32⟩
  | 20 => ⟨S4x4096x6x64, .f32⟩
  | 21 => ⟨S4x4096x6x64, .f32⟩
  | 22 => ⟨S4x64x64x6x64, .f32⟩
  | 23 => ⟨S64, .i32⟩
  | 24 => ⟨S_, .i32⟩
  | 25 => ⟨S64, .i32⟩
  | 26 => ⟨S64, .i32⟩
  | 27 => ⟨S_, .i32⟩
  | 28 => ⟨S_, .i32⟩
  | 29 => ⟨S_, .i32⟩
  | 30 => ⟨S64, .i32⟩
  | 31 => ⟨S64, .i32⟩
  | 32 => ⟨S_, .i32⟩
  | 33 => ⟨S64, .i32⟩
  | 34 => ⟨S64, .i32⟩
  | 35 => ⟨S64x1, .i32⟩
  | 36 => ⟨S8, .i32⟩
  | 37 => ⟨S1x8, .i32⟩
  | 38 => ⟨S64x8, .i32⟩
  | 39 => ⟨S64x8, .i32⟩
  | 40 => ⟨S64x8, .i32⟩
  | 41 => ⟨S64, .i32⟩
  | 42 => ⟨S_, .i32⟩
  | 43 => ⟨S64, .i32⟩
  | 44 => ⟨S64, .i32⟩
  | 45 => ⟨S_, .i32⟩
  | 46 => ⟨S_, .i32⟩
  | 47 => ⟨S_, .i32⟩
  | 48 => ⟨S64, .i32⟩
  | 49 => ⟨S64, .i32⟩
  | 50 => ⟨S_, .i32⟩
  | 51 => ⟨S64, .i32⟩
  | 52 => ⟨S64, .i32⟩
  | 53 => ⟨S64x1, .i32⟩
  | 54 => ⟨S16, .i32⟩
  | 55 => ⟨S1x16, .i32⟩
  | 56 => ⟨S64x16, .i32⟩
  | 57 => ⟨S64x16, .i32⟩
  | 58 => ⟨S64x16, .i32⟩
  | 59 => ⟨S64x1, .i32⟩
  | 60 => ⟨S64x16, .i32⟩
  | 61 => ⟨S64x16, .i32⟩
  | 62 => ⟨S_, .i32⟩
  | 63 => ⟨S64x16, .i32⟩
  | 64 => ⟨S64x16, .i32⟩
  | 65 => ⟨S64x1, .i32⟩
  | 66 => ⟨S64x8, .i32⟩
  | 67 => ⟨S64x8, .i32⟩
  | 68 => ⟨S_, .i32⟩
  | 69 => ⟨S64x8, .i32⟩
  | 70 => ⟨S64x8, .i32⟩
  | 71 => ⟨S64x1x8x1, .i32⟩
  | 72 => ⟨S1x64x1x16, .i32⟩
  | 73 => ⟨S_, .i32⟩
  | 74 => ⟨S64x1x8x1, .i32⟩
  | 75 => ⟨S64x1x8x1, .i1⟩
  | 76 => ⟨S_, .i32⟩
  | 77 => ⟨S64x1x8x1, .i32⟩
  | 78 => ⟨S64x1x8x1, .i32⟩
  | 79 => ⟨S64x1x8x1, .i32⟩
  | 80 => ⟨S_, .i32⟩
  | 81 => ⟨S1x64x1x16, .i32⟩
  | 82 => ⟨S1x64x1x16, .i1⟩
  | 83 => ⟨S_, .i32⟩
  | 84 => ⟨S1x64x1x16, .i32⟩
  | 85 => ⟨S1x64x1x16, .i32⟩
  | 86 => ⟨S1x64x1x16, .i32⟩
  | 87 => ⟨S64x64x8x16, .i32⟩
  | 88 => ⟨S64x64x8x16, .i32⟩
  | 89 => ⟨S64x64x8x16x1, .i32⟩
  | 90 => ⟨S64x64x8x16x1, .i32⟩
  | 91 => ⟨S64x64x8x16x2, .i32⟩
  | 92 => ⟨S4x64x64x8x16x6x64, .f32⟩
  | 93 => ⟨S64x1x8x1, .i32⟩
  | 94 => ⟨S1x64x1x16, .i32⟩
  | 95 => ⟨S_, .i32⟩
  | 96 => ⟨S64x1x8x1, .i32⟩
  | 97 => ⟨S64x1x8x1, .i1⟩
  | 98 => ⟨S_, .i32⟩
  | 99 => ⟨S64x1x8x1, .i32⟩
  | 100 => ⟨S64x1x8x1, .i32⟩
  | 101 => ⟨S64x1x8x1, .i32⟩
  | 102 => ⟨S_, .i32⟩
  | 103 => ⟨S1x64x1x16, .i32⟩
  | 104 => ⟨S1x64x1x16, .i1⟩
  | 105 => ⟨S_, .i32⟩
  | 106 => ⟨S1x64x1x16, .i32⟩
  | 107 => ⟨S1x64x1x16, .i32⟩
  | 108 => ⟨S1x64x1x16, .i32⟩
  | 109 => ⟨S64x64x8x16, .i32⟩
  | 110 => ⟨S64x64x8x16, .i32⟩
  | 111 => ⟨S64x64x8x16x1, .i32⟩
  | 112 => ⟨S64x64x8x16x1, .i32⟩
  | 113 => ⟨S64x64x8x16x2, .i32⟩
  | 114 => ⟨S4x64x64x8x16x6x64, .f32⟩
  | 115 => ⟨S64x1x8x1, .i32⟩
  | 116 => ⟨S1x64x1x16, .i32⟩
  | 117 => ⟨S_, .i32⟩
  | 118 => ⟨S64x1x8x1, .i32⟩
  | 119 => ⟨S64x1x8x1, .i1⟩
  | 120 => ⟨S_, .i32⟩
  | 121 => ⟨S64x1x8x1, .i32⟩
  | 122 => ⟨S64x1x8x1, .i32⟩
  | 123 => ⟨S64x1x8x1, .i32⟩
  | 124 => ⟨S_, .i32⟩
  | 125 => ⟨S1x64x1x16, .i32⟩
  | 126 => ⟨S1x64x1x16, .i1⟩
  | 127 => ⟨S_, .i32⟩
  | _ => ⟨S4x4352x1152, .bf16⟩

abbrev hbmTy0_1 (i : Nat) : BufTy := match i % 128 with
  | 0 => ⟨S1x64x1x16, .i32⟩
  | 1 => ⟨S1x64x1x16, .i32⟩
  | 2 => ⟨S1x64x1x16, .i32⟩
  | 3 => ⟨S64x64x8x16, .i32⟩
  | 4 => ⟨S64x64x8x16, .i32⟩
  | 5 => ⟨S64x64x8x16x1, .i32⟩
  | 6 => ⟨S64x64x8x16x1, .i32⟩
  | 7 => ⟨S64x64x8x16x2, .i32⟩
  | 8 => ⟨S6x64x64x8x16, .f32⟩
  | 9 => ⟨S4x6x64x64x8x16, .f32⟩
  | 10 => ⟨S1x6x64x64x8x16, .f32⟩
  | 11 => ⟨S4x6x64x64x8x16, .f32⟩
  | 12 => ⟨S4x6x64x64x8x16, .f32⟩
  | 13 => ⟨S4x6x64x64x256, .f32⟩
  | 14 => ⟨S4x6x64x64x128, .f32⟩
  | 15 => ⟨S4x6x64x64x384, .f32⟩
  | 16 => ⟨S_, .f32⟩
  | 17 => ⟨S4x6x64x64, .f32⟩
  | 18 => ⟨S_, .f32⟩
  | 19 => ⟨S4x6x64x64, .f32⟩
  | 20 => ⟨S4x6x64x64, .f32⟩
  | 21 => ⟨S4x6x64x64x1, .f32⟩
  | 22 => ⟨S4x6x64x64x384, .f32⟩
  | 23 => ⟨S4x6x64x64x384, .f32⟩
  | 24 => ⟨S4x6x64x64x384, .f32⟩
  | 25 => ⟨S_, .f32⟩
  | 26 => ⟨S4x6x64x64, .f32⟩
  | 27 => ⟨S4x6x64x64x1, .f32⟩
  | 28 => ⟨S4x6x64x64x384, .f32⟩
  | 29 => ⟨S4x6x64x64x384, .f32⟩
  | 30 => ⟨S4x6x64x64x128, .f32⟩
  | 31 => ⟨S4x6x64x64x8x16, .f32⟩
  | 32 => ⟨S4x64x64x6x64, .f32⟩
  | 33 => ⟨S4x6x64x64x256, .f32⟩
  | 34 => ⟨S4x6x64x64x64, .f32⟩
  | 35 => ⟨S4x64x64x6x64, .f32⟩
  | 36 => ⟨S4x64x64x6x64, .f32⟩
  | 37 => ⟨S4x4096x384, .f32⟩
  | 38 => ⟨S4x4096x384, .bf16⟩
  | _ => ⟨S4x4352x1152, .bf16⟩

abbrev hbmTy (i : Nat) : BufTy := match i / 128 with
  | 0 => hbmTy0_0 i
  | 1 => hbmTy0_1 i
  | _ => ⟨S4x4352x1152, .bf16⟩

abbrev bufTy : (tb : Table) → Fin (tcTables nBuf tb) → BufTy
  | .hbm, ⟨i, _⟩ => hbmTy i
  | _, _ => ⟨S4x4352x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_c : Ref sig .tc := ⟨.hbm, 24, rfl⟩
abbrev main_v21 : Ref sig .tc := ⟨.hbm, 25, rfl⟩
abbrev main_v22 : Ref sig .tc := ⟨.hbm, 26, rfl⟩
abbrev main_c_0 : Ref sig .tc := ⟨.hbm, 27, rfl⟩
abbrev main_c_1 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_2 : Ref sig .tc := ⟨.hbm, 42, rfl⟩
abbrev main_v31 : Ref sig .tc := ⟨.hbm, 43, rfl⟩
abbrev main_v32 : Ref sig .tc := ⟨.hbm, 44, rfl⟩
abbrev main_c_3 : Ref sig .tc := ⟨.hbm, 45, rfl⟩
abbrev main_c_4 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_5 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_6 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_7 : Ref sig .tc := ⟨.hbm, 73, rfl⟩
abbrev main_v52 : Ref sig .tc := ⟨.hbm, 74, rfl⟩
abbrev main_v53 : Ref sig .tc := ⟨.hbm, 75, rfl⟩
abbrev main_c_8 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_9 : Ref sig .tc := ⟨.hbm, 80, rfl⟩
abbrev main_v57 : Ref sig .tc := ⟨.hbm, 81, rfl⟩
abbrev main_v58 : Ref sig .tc := ⟨.hbm, 82, rfl⟩
abbrev main_c_10 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_11 : Ref sig .tc := ⟨.hbm, 95, rfl⟩
abbrev main_v70 : Ref sig .tc := ⟨.hbm, 96, rfl⟩
abbrev main_v71 : Ref sig .tc := ⟨.hbm, 97, rfl⟩
abbrev main_c_12 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_13 : Ref sig .tc := ⟨.hbm, 102, rfl⟩
abbrev main_v75 : Ref sig .tc := ⟨.hbm, 103, rfl⟩
abbrev main_v76 : Ref sig .tc := ⟨.hbm, 104, rfl⟩
abbrev main_c_14 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_c_15 : Ref sig .tc := ⟨.hbm, 117, rfl⟩
abbrev main_v88 : Ref sig .tc := ⟨.hbm, 118, rfl⟩
abbrev main_v89 : Ref sig .tc := ⟨.hbm, 119, rfl⟩
abbrev main_c_16 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_c_17 : Ref sig .tc := ⟨.hbm, 124, rfl⟩
abbrev main_v93 : Ref sig .tc := ⟨.hbm, 125, rfl⟩
abbrev main_v94 : Ref sig .tc := ⟨.hbm, 126, rfl⟩
abbrev main_c_18 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_cst_19 : Ref sig .tc := ⟨.hbm, 144, rfl⟩
abbrev main_v111 : Ref sig .tc := ⟨.hbm, 145, rfl⟩
abbrev main_cst_20 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_cst_21 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩

abbrev nD : Nat := 1
abbrev τ : Topo := Topo.v7x

variable {F : FTy → Type} [FloatOps F]
-- ==== Kernel2.lean ====
abbrev S17408x1024 : Shape := ⟨2, ![17408, 1024]⟩
abbrev S1024x7040 : Shape := ⟨2, ![1024, 7040]⟩
abbrev S1024x4096 : Shape := ⟨2, ![1024, 4096]⟩
abbrev S17408x4096 : Shape := ⟨2, ![17408, 4096]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S17408x1024, .bf16⟩
  | .hbm, ⟨1, _⟩ => ⟨S1024x7040, .f32⟩
  | .hbm, ⟨2, _⟩ => ⟨S1024x7040, .bf16⟩
  | .hbm, ⟨3, _⟩ => ⟨S1024x4096, .bf16⟩
  | .hbm, ⟨4, _⟩ => ⟨S17408x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S17408x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![17, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S17408x1024 : Shape := ⟨2, ![17408, 1024]⟩
abbrev S1024x7040 : Shape := ⟨2, ![1024, 7040]⟩
abbrev S17408x7040 : Shape := ⟨2, ![17408, 7040]⟩
abbrev S17408x4096 : Shape := ⟨2, ![17408, 4096]⟩

abbrev nBuf : Space → Nat
  | .hbm => 6
  | .vmem => 0
  | .smem => 0
  | _ => 0

abbrev bufTy : (tb : Table) → Fin (tcTables nBuf tb) → BufTy
  | .hbm, ⟨0, _⟩ => ⟨S17408x1024, .bf16⟩
  | .hbm, ⟨1, _⟩ => ⟨S1024x7040, .f32⟩
  | .hbm, ⟨2, _⟩ => ⟨S17408x1024, .f32⟩
  | .hbm, ⟨3, _⟩ => ⟨S17408x7040, .f32⟩
  | .hbm, ⟨4, _⟩ => ⟨S17408x4096, .f32⟩
  | .hbm, ⟨5, _⟩ => ⟨S17408x4096, .bf16⟩
  | _, _ => ⟨S17408x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel3.lean ====
abbrev S4x4352x1024 : Shape := ⟨3, ![4, 4352, 1024]⟩
abbrev S4x2x6x1024 : Shape := ⟨4, ![4, 2, 6, 1024]⟩
abbrev S1024x2816 : Shape := ⟨2, ![1024, 2816]⟩
abbrev S2816x1024 : Shape := ⟨2, ![2816, 1024]⟩
abbrev S1024 : Shape := ⟨1, ![1024]⟩
abbrev S17408x1024 : Shape := ⟨2, ![17408, 1024]⟩
abbrev S1x1024 : Shape := ⟨2, ![1, 1024]⟩
abbrev S544x1024 : Shape := ⟨2, ![544, 1024]⟩
abbrev S1x2x6x1024 : Shape := ⟨4, ![1, 2, 6, 1024]⟩
abbrev S1024x1408 : Shape := ⟨2, ![1024, 1408]⟩
abbrev S1408x1024 : Shape := ⟨2, ![1408, 1024]⟩
abbrev S544x1408 : Shape := ⟨2, ![544, 1408]⟩
abbrev S544x1 : Shape := ⟨2, ![544, 1]⟩
abbrev S1x1x1x1024 : Shape := ⟨4, ![1, 1, 1, 1024]⟩
abbrev S544 : Shape := ⟨1, ![544]⟩

abbrev nBuf : Space → Nat
  | .hbm => 18
  | .vmem => 21
  | .smem => 0
  | _ => 0

abbrev bufTy : (tb : Table) → Fin (tcTables nBuf tb) → BufTy
  | .hbm, ⟨0, _⟩ => ⟨S4x4352x1024, .bf16⟩
  | .hbm, ⟨1, _⟩ => ⟨S4x4352x1024, .f32⟩
  | .hbm, ⟨2, _⟩ => ⟨S4x2x6x1024, .f32⟩
  | .hbm, ⟨3, _⟩ => ⟨S4x2x6x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S17408x1024, .bf16⟩
  | .hbm, ⟨13, _⟩ => ⟨S17408x1024, .f32⟩
  | .hbm, ⟨14, _⟩ => ⟨S1x1024, .f32⟩
  | .hbm, ⟨15, _⟩ => ⟨S1x1024, .f32⟩
  | .hbm, ⟨16, _⟩ => ⟨S17408x1024, .f32⟩
  | .hbm, ⟨17, _⟩ => ⟨S17408x1024, .bf16⟩
  | .local _ .vmem, ⟨0, _⟩ => ⟨S544x1024, .bf16⟩
  | .local _ .vmem, ⟨1, _⟩ => ⟨S544x1024, .bf16⟩
  | .local _ .vmem, ⟨2, _⟩ => ⟨S544x1024, .f32⟩
  | .local _ .vmem, ⟨3, _⟩ => ⟨S544x1024, .f32⟩
  | .local _ .vmem, ⟨4, _⟩ => ⟨S1x2x6x1024, .f32⟩
  | .local _ .vmem, ⟨5, _⟩ => ⟨S1x2x6x1024, .f32⟩
  | .local _ .vmem, ⟨6, _⟩ => ⟨S1x2x6x1024, .f32⟩
  | .local _ .vmem, ⟨7, _⟩ => ⟨S1x2x6x1024, .f32⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1408x1024, .bf16⟩
  | .local _ .vmem, ⟨13, _⟩ => ⟨S1408x1024, .bf16⟩
  | .local _ .vmem, ⟨14, _⟩ => ⟨S1x1024, .f32⟩
  | .local _ .vmem, ⟨15, _⟩ => ⟨S1x1024, .f32⟩
  | .local _ .vmem, ⟨16, _⟩ => ⟨S544x1024, .f32⟩
  | .local _ .vmem, ⟨17, _⟩ => ⟨S544x1024, .f32⟩
  | .local _ .vmem, ⟨18, _⟩ => ⟨S544x1024, .bf16⟩
  | .local _ .vmem, ⟨19, _⟩ => ⟨S544x1024, .bf16⟩
  | .local _ .vmem, ⟨20, _⟩ => ⟨S544x1024, .f32⟩
  | _, _ => ⟨S4x4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v29 : BitVec 1 := Scalar.cmpi .eq arg1 c1_i32
  let v30 : BitVec 32 := Scalar.extui v29
  let c0_i32_17 : BitVec 32 := 0#32
  let v31 : BitVec 1 := Scalar.cmpi .ne v30 c0_i32_17
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S544x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S544x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S544x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S544x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference3Ideal.lean ====
abbrev S4x4352x1024 : Shape := ⟨3, ![4, 4352, 1024]⟩
abbrev S4x2x6x1024 : Shape := ⟨4, ![4, 2, 6, 1024]⟩
abbrev S1024x2816 : Shape := ⟨2, ![1024, 2816]⟩
abbrev S2816x1024 : Shape := ⟨2, ![2816, 1024]⟩
abbrev S1024 : Shape := ⟨1, ![1024]⟩
abbrev S4x4352x2816 : Shape := ⟨3, ![4, 4352, 2816]⟩
abbrev S_ : Shape := ⟨0, ![]⟩
abbrev S4352 : Shape := ⟨1, ![4352]⟩
abbrev S1x4352x1 : Shape := ⟨3, ![1, 4352, 1]⟩
abbrev S4x1x1x1024 : Shape := ⟨4, ![4, 1, 1, 1024]⟩
abbrev S4x1024 : Shape := ⟨2, ![4, 1024]⟩
abbrev S4x1x1024 : Shape := ⟨3, ![4, 1, 1024]⟩
abbrev S4x4352 : Shape := ⟨2, ![4, 4352]⟩
abbrev S4x4352x1 : Shape := ⟨3, ![4, 4352, 1]⟩
abbrev S1x1x1024 : Shape := ⟨3, ![1, 1, 1024]⟩
abbrev S17408x1024 : Shape := ⟨2, ![17408, 1024]⟩

abbrev nBuf : Space → Nat
  | .hbm => 133
  | .vmem => 0
  | .smem => 0
  | _ => 0

abbrev hbmTy0_0 (i : Nat) : BufTy := match i % 128 with
  | 0 => ⟨S4x4352x1024, .bf16⟩
  | 1 => ⟨S4x4352x1024, .f32⟩
  | 2 => ⟨S4x2x6x1024, .f32⟩
  | 3 => ⟨S4x2x6x1024, .f32⟩
  | 4 => ⟨S1024x2816, .f32⟩
  | 5 => ⟨S1024x2816, .f32⟩
  | 6 => ⟨S2816x1024, .f32⟩
  | 7 => ⟨S1024, .f32⟩
  | 8 => ⟨S1024, .f32⟩
  | 9 => ⟨S4x4352x1024, .f32⟩
  | 10 => ⟨S4x4352x2816, .f32⟩
  | 11 => ⟨S4x4352x2816, .f32⟩
  | 12 => ⟨S4x4352x2816, .f32⟩
  | 13 => ⟨S_, .f32⟩
  | 14 => ⟨S4x4352x2816, .f32⟩
  | 15 => ⟨S4x4352x2816, .f32⟩
  | 16 => ⟨S_, .f32⟩
  | 17 => ⟨S4x4352x2816, .f32⟩
  | 18 => ⟨S4x4352x2816, .f32⟩
  | 19 => ⟨S4x4352x2816, .f32⟩
  | 20 => ⟨S4x4352x2816, .f32⟩
  | 21 => ⟨S4x4352x2816, .f32⟩
  | 22 => ⟨S4x4352x1024, .f32⟩
  | 23 => ⟨S_, .f32⟩
  | 24 => ⟨S4x4352x1024, .f32⟩
  | 25 => ⟨S4x4352x1024, .f32⟩
  | 26 => ⟨S4352, .i32⟩
  | 27 => ⟨S_, .i32⟩
  | 28 => ⟨S4352, .i32⟩
  | 29 => ⟨S4352, .i1⟩
  | 30 => ⟨S1x4352x1, .i1⟩
  | 31 => ⟨S4x1x1x1024, .f32⟩
  | 32 => ⟨S4x1024, .f32⟩
  | 33 => ⟨S4x1x1024, .f32⟩
  | 34 => ⟨S4x1x1x1024, .f32⟩
  | 35 => ⟨S4x1024, .f32⟩
  | 36 => ⟨S4x1x1024, .f32⟩
  | 37 => ⟨S4x4352x1024, .i1⟩
  | 38 => ⟨S4x4352x1024, .f32⟩
  | 39 => ⟨S4x4352x1024, .f32⟩
  | 40 => ⟨S4x4352x1024, .f32⟩
  | 41 => ⟨S4x4352x1024, .f32⟩
  | 42 => ⟨S4x4352x1024, .f32⟩
  | 43 => ⟨S_, .f32⟩
  | 44 => ⟨S4x4352, .f32⟩
  | 45 => ⟨S4x4352x1, .f32⟩
  | 46 => ⟨S_, .f32⟩
  | 47 => ⟨S4x4352x1, .f32⟩
  | 48 => ⟨S4x4352x1, .f32⟩
  | 49 => ⟨S4x4352x1024, .f32⟩
  | 50 => ⟨S4x4352x1024, .f32⟩
  | 51 => ⟨S4x4352x1024, .f32⟩
  | 52 => ⟨S_, .f32⟩
  | 53 => ⟨S4x4352, .f32⟩
  | 54 => ⟨S4x4352x1, .f32⟩
  | 55 => ⟨S_, .f32⟩
  | 56 => ⟨S4x4352x1, .f32⟩
  | 57 => ⟨S4x4352x1, .f32⟩
  | 58 => ⟨S4x4352x1024, .f32⟩
  | 59 => ⟨S4x4352x1024, .f32⟩
  | 60 => ⟨S_, .f32⟩
  | 61 => ⟨S4x4352x1, .f32⟩
  | 62 => ⟨S4x4352x1, .f32⟩
  | 63 => ⟨S4x4352x1, .f32⟩
  | 64 => ⟨S4x4352x1024, .f32⟩
  | 65 => ⟨S4x4352x1024, .f32⟩
  | 66 => ⟨S1x1x1024, .f32⟩
  | 67 => ⟨S4x4352x1024, .f32⟩
  | 68 => ⟨S4x4352x1024, .f32⟩
  | 69 => ⟨S1x1x1024, .f32⟩
  | 70 => ⟨S4x4352x1024, .f32⟩
  | 71 => ⟨S4x4352x1024, .f32⟩
  | 72 => ⟨S_, .f32⟩
  | 73 => ⟨S4x4352, .f32⟩
  | 74 => ⟨S4x4352x1, .f32⟩
  | 75 => ⟨S_, .f32⟩
  | 76 => ⟨S4x4352x1, .f32⟩
  | 77 => ⟨S4x4352x1, .f32⟩
  | 78 => ⟨S4x4352x1024, .f32⟩
  | 79 => ⟨S4x4352x1024, .f32⟩
  | 80 => ⟨S4x4352x1024, .f32⟩
  | 81 => ⟨S_, .f32⟩
  | 82 => ⟨S4x4352, .f32⟩
  | 83 => ⟨S4x4352x1, .f32⟩
  | 84 => ⟨S_, .f32⟩
  | 85 => ⟨S4x4352x1, .f32⟩
  | 86 => ⟨S4x4352x1, .f32⟩
  | 87 => ⟨S4x4352x1024, .f32⟩
  | 88 => ⟨S4x4352x1024, .f32⟩
  | 89 => ⟨S_, .f32⟩
  | 90 => ⟨S4x4352x1, .f32⟩
  | 91 => ⟨S4x4352x1, .f32⟩
  | 92 => ⟨S4x4352x1, .f32⟩
  | 93 => ⟨S4x4352x1024, .f32⟩
  | 94 => ⟨S4x4352x1024, .f32⟩
  | 95 => ⟨S4352, .i32⟩
  | 96 => ⟨S_, .i32⟩
  | 97 => ⟨S4352, .i32⟩
  | 98 => ⟨S4352, .i1⟩
  | 99 => ⟨S1x4352x1, .i1⟩
  | 100 => ⟨S4x1x1x1024, .f32⟩
  | 101 => ⟨S4x1024, .f32⟩
  | 102 => ⟨S4x1x1024, .f32⟩
  | 103 => ⟨S4x1x1x1024, .f32⟩
  | 104 => ⟨S4x1024, .f32⟩
  | 105 => ⟨S4x1x1024, .f32⟩
  | 106 => ⟨S4x4352x1024, .i1⟩
  | 107 => ⟨S4x4352x1024, .f32⟩
  | 108 => ⟨S4x4352x1024, .f32⟩
  | 109 => ⟨S4x4352x1024, .f32⟩
  | 110 => ⟨S_, .f32⟩
  | 111 => ⟨S4x4352x1024, .f32⟩
  | 112 => ⟨S4x4352x1024, .f32⟩
  | 113 => ⟨S4x4352x1024, .f32⟩
  | 114 => ⟨S4352, .i32⟩
  | 115 => ⟨S_, .i32⟩
  | 116 => ⟨S4352, .i32⟩
  | 117 => ⟨S4352, .i1⟩
  | 118 => ⟨S1x4352x1, .i1⟩
  | 119 => ⟨S4x1x1x1024, .f32⟩
  | 120 => ⟨S4x1024, .f32⟩
  | 121 => ⟨S4x1x1024, .f32⟩
  | 122 => ⟨S4x1x1x1024, .f32⟩
  | 123 => ⟨S4x1024, .f32⟩
  | 124 => ⟨S4x1x1024, .f32⟩
  | 125 => ⟨S4x4352x1024, .i1⟩
  | 126 => ⟨S4x4352x1024, .f32⟩
  | 127 => ⟨S4x4352x1024, .f32⟩
  | _ => ⟨S4x4352x1024, .bf16⟩

abbrev hbmTy0_1 (i : Nat) : BufTy := match i % 128 with
  | 0 => ⟨S4x4352x1024, .f32⟩
  | 1 => ⟨S4x4352x1024, .f32⟩
  | 2 => ⟨S17408x1024, .f32⟩
  | 3 => ⟨S17408x1024, .f32⟩
  | 4 => ⟨S17408x1024, .bf16⟩
  | _ => ⟨S4x4352x1024, .bf16⟩

abbrev hbmTy (i : Nat) : BufTy := match i / 128 with
  | 0 => hbmTy0_0 i
  | 1 => hbmTy0_1 i
  | _ => ⟨S4x4352x1024, .bf16⟩

abbrev bufTy : (tb : Table) → Fin (tcTables nBuf tb) → BufTy
  | .hbm, ⟨i, _⟩ => hbmTy i
  | _, _ => ⟨S4x4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_0 : Ref sig .tc := ⟨.hbm, 43, rfl⟩
abbrev main_v21 : Ref sig .tc := ⟨.hbm, 44, rfl⟩
abbrev main_v22 : Ref sig .tc := ⟨.hbm, 45, rfl⟩
abbrev main_cst_1 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_2 : Ref sig .tc := ⟨.hbm, 52, rfl⟩
abbrev main_v28 : Ref sig .tc := ⟨.hbm, 53, rfl⟩
abbrev main_v29 : Ref sig .tc := ⟨.hbm, 54, rfl⟩
abbrev main_cst_3 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_4 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_5 : Ref sig .tc := ⟨.hbm, 72, rfl⟩
abbrev main_v45 : Ref sig .tc := ⟨.hbm, 73, rfl⟩
abbrev main_v46 : Ref sig .tc := ⟨.hbm, 74, rfl⟩
abbrev main_cst_6 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_7 : Ref sig .tc := ⟨.hbm, 81, rfl⟩
abbrev main_v52 : Ref sig .tc := ⟨.hbm, 82, rfl⟩
abbrev main_v53 : Ref sig .tc := ⟨.hbm, 83, rfl⟩
abbrev main_cst_8 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_9 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c_10 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_call2_v0 : Ref sig .tc := ⟨.hbm, 106, rfl⟩
abbrev main_call2_v1 : Ref sig .tc := ⟨.hbm, 107, rfl⟩
abbrev main_call2_v2 : Ref sig .tc := ⟨.hbm, 108, rfl⟩
abbrev main_v73 : Ref sig .tc := ⟨.hbm, 109, rfl⟩
abbrev main_cst_11 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_c_12 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_call3_v0 : Ref sig .tc := ⟨.hbm, 125, rfl⟩
abbrev main_call3_v1 : Ref sig .tc := ⟨.hbm, 126, rfl⟩
abbrev main_call3_v2 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩

abbrev nD : Nat := 1
abbrev τ : Topo := Topo.v7x

variable {F : FTy → Type} [FloatOps F]
-- ==== Kernel4.lean ====
abbrev S36864x1024 : Shape := ⟨2, ![36864, 1024]⟩
abbrev S72 : Shape := ⟨1, ![72]⟩
abbrev S1 : Shape := ⟨1, ![1]⟩
abbrev S8x1024x3584 : Shape := ⟨3, ![8, 1024, 3584]⟩
abbrev S8x3584x1024 : Shape := ⟨3, ![8, 3584, 1024]⟩
abbrev S512x1024 : Shape := ⟨2, ![512, 1024]⟩
abbrev S1x1024x512 : Shape := ⟨3, ![1, 1024, 512]⟩
abbrev S1x512x1024 : Shape := ⟨3, ![1, 512, 1024]⟩
abbrev S1024x512 : Shape := ⟨2, ![1024, 512]⟩
abbrev S512x512 : Shape := ⟨2, ![512, 512]⟩

abbrev nBuf : Space → Nat
  | .hbm => 5
  | .vmem => 11
  | .smem => 2
  | _ => 0

abbrev bufTy : (tb : Table) → Fin (tcTables nBuf tb) → BufTy
  | .hbm, ⟨0, _⟩ => ⟨S36864x1024, .bf16⟩
  | .hbm, ⟨1, _⟩ => ⟨S8x1024x3584, .bf16⟩
  | .hbm, ⟨2, _⟩ => ⟨S8x1024x3584, .bf16⟩
  | .hbm, ⟨3, _⟩ => ⟨S8x3584x1024, .bf16⟩
  | .hbm, ⟨4, _⟩ => ⟨S36864x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .smem, ⟨0, _⟩ => ⟨S72, .i32⟩
  | .local _ .smem, ⟨1, _⟩ => ⟨S1, .i32⟩
  | _, _ => ⟨S36864x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 7], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c6_i32 : BitVec 32 := 6#32
  let v7 : BitVec 1 := Scalar.cmpi .eq arg1 c6_i32
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference4Ideal.lean ====
abbrev S36864x1024 : Shape := ⟨2, ![36864, 1024]⟩
abbrev S72 : Shape := ⟨1, ![72]⟩
abbrev S1 : Shape := ⟨1, ![1]⟩
abbrev S8x1024x3584 : Shape := ⟨3, ![8, 1024, 3584]⟩
abbrev S8x3584x1024 : Shape := ⟨3, ![8, 3584, 1024]⟩
abbrev S_ : Shape := ⟨0, ![]⟩
abbrev S8 : Shape := ⟨1, ![8]⟩
abbrev S8x1 : Shape := ⟨2, ![8, 1]⟩
abbrev S72x512 : Shape := ⟨2, ![72, 512]⟩
abbrev S36864 : Shape := ⟨1, ![36864]⟩
abbrev S1x36864 : Shape := ⟨2, ![1, 36864]⟩
abbrev S8x36864 : Shape := ⟨2, ![8, 36864]⟩
abbrev S8x3584x36864 : Shape := ⟨3, ![8, 3584, 36864]⟩
abbrev S8x36864x3584 : Shape := ⟨3, ![8, 36864, 3584]⟩
abbrev S8x36864x1024 : Shape := ⟨3, ![8, 36864, 1024]⟩
abbrev S8x36864x1 : Shape := ⟨3, ![8, 36864, 1]⟩

abbrev nBuf : Space → Nat
  | .hbm => 50
  | .vmem => 0
  | .smem => 0
  | _ => 0

abbrev bufTy : (tb : Table) → Fin (tcTables nBuf tb) → BufTy
  | .hbm, ⟨0, _⟩ => ⟨S36864x1024, .bf16⟩
  | .hbm, ⟨1, _⟩ => ⟨S72, .i32⟩
  | .hbm, ⟨2, _⟩ => ⟨S1, .i32⟩
  | .hbm, ⟨3, _⟩ => ⟨S8x1024x3584, .bf16⟩
  | .hbm, ⟨4, _⟩ => ⟨S8x1024x3584, .bf16⟩
  | .hbm, ⟨5, _⟩ => ⟨S8x3584x1024, .bf16⟩
  | .hbm, ⟨6, _⟩ => ⟨S72, .i32⟩
  | .hbm, ⟨7, _⟩ => ⟨S_, .i32⟩
  | .hbm, ⟨8, _⟩ => ⟨S72, .i32⟩
  | .hbm, ⟨9, _⟩ => ⟨S72, .i1⟩
  | .hbm, ⟨10, _⟩ => ⟨S_, .i32⟩
  | .hbm, ⟨11, _⟩ => ⟨S_, .i32⟩
  | .hbm, ⟨12, _⟩ => ⟨S72, .i32⟩
  | .hbm, ⟨13, _⟩ => ⟨S72, .i32⟩
  | .hbm, ⟨14, _⟩ => ⟨S8, .i32⟩
  | .hbm, ⟨15, _⟩ => ⟨S8x1, .i32⟩
  | .hbm, ⟨16, _⟩ => ⟨S72x512, .i32⟩
  | .hbm, ⟨17, _⟩ => ⟨S36864, .i32⟩
  | .hbm, ⟨18, _⟩ => ⟨S1x36864, .i32⟩
  | .hbm, ⟨19, _⟩ => ⟨S8x36864, .i32⟩
  | .hbm, ⟨20, _⟩ => ⟨S8x36864, .i32⟩
  | .hbm, ⟨21, _⟩ => ⟨S8x36864, .i1⟩
  | .hbm, ⟨22, _⟩ => ⟨S36864x1024, .f32⟩
  | .hbm, ⟨23, _⟩ => ⟨S8x1024x3584, .f32⟩
  | .hbm, ⟨24, _⟩ => ⟨S8x3584x36864, .f32⟩
  | .hbm, ⟨25, _⟩ => ⟨S8x36864x3584, .f32⟩
  | .hbm, ⟨26, _⟩ => ⟨S8x1024x3584, .f32⟩
  | .hbm, ⟨27, _⟩ => ⟨S8x3584x36864, .f32⟩
  | .hbm, ⟨28, _⟩ => ⟨S8x36864x3584, .f32⟩
  | .hbm, ⟨29, _⟩ => ⟨S8x36864x3584, .f32⟩
  | .hbm, ⟨30, _⟩ => ⟨S8x36864x3584, .f32⟩
  | .hbm, ⟨31, _⟩ => ⟨S_, .f32⟩
  | .hbm, ⟨32, _⟩ => ⟨S8x36864x3584, .f32⟩
  | .hbm, ⟨33, _⟩ => ⟨S8x36864x3584, .f32⟩
  | .hbm, ⟨34, _⟩ => ⟨S_, .f32⟩
  | .hbm, ⟨35, _⟩ => ⟨S8x36864x3584, .f32⟩
  | .hbm, ⟨36, _⟩ => ⟨S8x36864x3584, .f32⟩
  | .hbm, ⟨37, _⟩ => ⟨S8x36864x3584, .f32⟩
  | .hbm, ⟨38, _⟩ => ⟨S8x36864x3584, .f32⟩
  | .hbm, ⟨39, _⟩ => ⟨S8x3584x1024, .f32⟩
  | .hbm, ⟨40, _⟩ => ⟨S8x36864x1024, .f32⟩
  | .hbm, ⟨41, _⟩ => ⟨S8x36864x1, .i1⟩
  | .hbm, ⟨42, _⟩ => ⟨S_, .f32⟩
  | .hbm, ⟨43, _⟩ => ⟨S_, .f32⟩
  | .hbm, ⟨44, _⟩ => ⟨S8x36864x1024, .i1⟩
  | .hbm, ⟨45, _⟩ => ⟨S8x36864x1024, .f32⟩
  | .hbm, ⟨46, _⟩ => ⟨S8x36864x1024, .f32⟩
  | .hbm, ⟨47, _⟩ => ⟨S_, .f32⟩
  | .hbm, ⟨48, _⟩ => ⟨S36864x1024, .f32⟩
  | .hbm, ⟨49, _⟩ => ⟨S36864x1024, .bf16⟩
  | _, _ => ⟨S36864x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call1_v0 : Ref sig .tc := ⟨.hbm, 29, rfl⟩
abbrev main_call1_v1 : Ref sig .tc := ⟨.hbm, 30, rfl⟩
abbrev main_call1_cst : Ref sig .tc := ⟨.hbm, 31, rfl⟩
abbrev main_call1_v2 : Ref sig .tc := ⟨.hbm, 32, rfl⟩
abbrev main_call1_v3 : Ref sig .tc := ⟨.hbm, 33, rfl⟩
abbrev main_call1_cst_0 : Ref sig .tc := ⟨.hbm, 34, rfl⟩
abbrev main_call1_v4 : Ref sig .tc := ⟨.hbm, 35, rfl⟩
abbrev main_call1_v5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_v25 : Ref sig .tc := ⟨.hbm, 46, rfl⟩
abbrev main_cst_0 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== Kernel5.lean ====
abbrev S4x4352x384 : Shape := ⟨3, ![4, 4352, 384]⟩
abbrev S4x4096x128 : Shape := ⟨3, ![4, 4096, 128]⟩
abbrev S4x256x256 : Shape := ⟨3, ![4, 256, 256]⟩
abbrev S4x4096x384 : Shape := ⟨3, ![4, 4096, 384]⟩
abbrev S4x256x384 : Shape := ⟨3, ![4, 256, 384]⟩
abbrev S4x4352x256 : Shape := ⟨3, ![4, 4352, 256]⟩
abbrev S4x4352x4096 : Shape := ⟨3, ![4, 4352, 4096]⟩
abbrev S4x256x1024 : Shape := ⟨3, ![4, 256, 1024]⟩
abbrev S4x4096x1024 : Shape := ⟨3, ![4, 4096, 1024]⟩
abbrev S4x2x6x1024 : Shape := ⟨4, ![4, 2, 6, 1024]⟩
abbrev S384x1024 : Shape := ⟨2, ![384, 1024]⟩
abbrev S256x1024 : Shape := ⟨2, ![256, 1024]⟩
abbrev S1024x1024 : Shape := ⟨2, ![1024, 1024]⟩
abbrev S1024 : Shape := ⟨1, ![1024]⟩
abbrev S1x1024 : Shape := ⟨2, ![1, 1024]⟩
abbrev S4x4352x1024 : Shape := ⟨3, ![4, 4352, 1024]⟩
abbrev S1x256x384 : Shape := ⟨3, ![1, 256, 384]⟩
abbrev S1x256x128 : Shape := ⟨3, ![1, 256, 128]⟩
abbrev S1x256x256 : Shape := ⟨3, ![1, 256, 256]⟩
abbrev S1x256x4096 : Shape := ⟨3, ![1, 256, 4096]⟩
abbrev S1x256x1024 : Shape := ⟨3, ![1, 256, 1024]⟩
abbrev S1x1x6x1024 : Shape := ⟨4, ![1, 1, 6, 1024]⟩
abbrev S256x128 : Shape := ⟨2, ![256, 128]⟩
abbrev S256x256 : Shape := ⟨2, ![256, 256]⟩
abbrev S256x384 : Shape := ⟨2, ![256, 384]⟩
abbrev S6x1024 : Shape := ⟨2, ![6, 1024]⟩
abbrev S256 : Shape := ⟨1, ![256]⟩
abbrev S256x1 : Shape := ⟨2, ![256, 1]⟩

abbrev nBuf : Space → Nat
  | .hbm => 27
  | .vmem => 33
  | .smem => 0
  | _ => 0

abbrev bufTy : (tb : Table) → Fin (tcTables nBuf tb) → BufTy
  | .hbm, ⟨0, _⟩ => ⟨S4x4352x384, .bf16⟩
  | .hbm, ⟨1, _⟩ => ⟨S4x4096x128, .f32⟩
  | .hbm, ⟨2, _⟩ => ⟨S4x4096x128, .f32⟩
  | .hbm, ⟨3, _⟩ => ⟨S4x256x256, .bf16⟩
  | .hbm, ⟨4, _⟩ => ⟨S4x4096x384, .bf16⟩
  | .hbm, ⟨5, _⟩ => ⟨S4x256x384, .bf16⟩
  | .hbm, ⟨6, _⟩ => ⟨S4x4352x256, .bf16⟩
  | .hbm, ⟨7, _⟩ => ⟨S4x4352x4096, .bf16⟩
  | .hbm, ⟨8, _⟩ => ⟨S4x256x1024, .f32⟩
  | .hbm, ⟨9, _⟩ => ⟨S4x4096x1024, .f32⟩
  | .hbm, ⟨10, _⟩ => ⟨S4x2x6x1024, .f32⟩
  | .hbm, ⟨11, _⟩ => ⟨S384x1024, .f32⟩
  | .hbm, ⟨12, _⟩ => ⟨S256x1024, .f32⟩
  | .hbm, ⟨13, _⟩ => ⟨S384x1024, .f32⟩
  | .hbm, ⟨14, _⟩ => ⟨S256x1024, .f32⟩
  | .hbm, ⟨15, _⟩ => ⟨S1024x1024, .f32⟩
  | .hbm, ⟨16, _⟩ => ⟨S1024, .f32⟩
  | .hbm, ⟨17, _⟩ => ⟨S1024, .f32⟩
  | .hbm, ⟨18, _⟩ => ⟨S384x1024, .bf16⟩
  | .hbm, ⟨19, _⟩ => ⟨S256x1024, .bf16⟩
  | .hbm, ⟨20, _⟩ => ⟨S384x1024, .bf16⟩
  | .hbm, ⟨21, _⟩ => ⟨S256x1024, .bf16⟩
  | .hbm, ⟨22, _⟩ => ⟨S1024x1024, .bf16⟩
  | .hbm, ⟨23, _⟩ => ⟨S1x1024, .f32⟩
  | .hbm, ⟨24, _⟩ => ⟨S1x1024, .f32⟩
  | .hbm, ⟨25, _⟩ => ⟨S4x4352x1024, .f32⟩
  | .hbm, ⟨26, _⟩ => ⟨S4x4352x1024, .bf16⟩
  | .local _ .vmem, ⟨0, _⟩ => ⟨S1x256x384, .bf16⟩
  | .local _ .vmem, ⟨1, _⟩ => ⟨S1x256x384, .bf16⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x256, .bf16⟩
  | .local _ .vmem, ⟨7, _⟩ => ⟨S1x256x256, .bf16⟩
  | .local _ .vmem, ⟨8, _⟩ => ⟨S1x256x384, .bf16⟩
  | .local _ .vmem, ⟨9, _⟩ => ⟨S1x256x384, .bf16⟩
  | .local _ .vmem, ⟨10, _⟩ => ⟨S1x256x384, .bf16⟩
  | .local _ .vmem, ⟨11, _⟩ => ⟨S1x256x384, .bf16⟩
  | .local _ .vmem, ⟨12, _⟩ => ⟨S1x256x256, .bf16⟩
  | .local _ .vmem, ⟨13, _⟩ => ⟨S1x256x256, .bf16⟩
  | .local _ .vmem, ⟨14, _⟩ => ⟨S1x256x4096, .bf16⟩
  | .local _ .vmem, ⟨15, _⟩ => ⟨S1x256x4096, .bf16⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x1x6x1024, .f32⟩
  | .local _ .vmem, ⟨21, _⟩ => ⟨S1x1x6x1024, .f32⟩
  | .local _ .vmem, ⟨22, _⟩ => ⟨S384x1024, .bf16⟩
  | .local _ .vmem, ⟨23, _⟩ => ⟨S256x1024, .bf16⟩
  | .local _ .vmem, ⟨24, _⟩ => ⟨S384x1024, .bf16⟩
  | .local _ .vmem, ⟨25, _⟩ => ⟨S256x1024, .bf16⟩
  | .local _ .vmem, ⟨26, _⟩ => ⟨S1024x1024, .bf16⟩
  | .local _ .vmem, ⟨27, _⟩ => ⟨S1x1024, .f32⟩
  | .local _ .vmem, ⟨28, _⟩ => ⟨S1x1024, .f32⟩
  | .local _ .vmem, ⟨29, _⟩ => ⟨S1x256x1024, .f32⟩
  | .local _ .vmem, ⟨30, _⟩ => ⟨S1x256x1024, .f32⟩
  | .local _ .vmem, ⟨31, _⟩ => ⟨S1x256x1024, .bf16⟩
  | .local _ .vmem, ⟨32, _⟩ => ⟨S1x256x1024, .bf16⟩
  | _, _ => ⟨S4x4352x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7_0 : Ref sig .tc := ⟨.hbm, 25, rfl⟩
abbrev main_v7_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨2, ![4, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.subi v0 c1_i32
  let c0_i32_0 : BitVec 32 := 0#32
  let v2 : BitVec 32 := Scalar.maxsi v1 c0_i32_0
  let c0_i32_1 : BitVec 32 := 0#32
  let c0_i32_2 : BitVec 32 := 0#32
  ![arg0.toNat, v2.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.subi v0 c1_i32
  let c0_i32_0 : BitVec 32 := 0#32
  let v2 : BitVec 32 := Scalar.maxsi v1 c0_i32_0
  let c0_i32_1 : BitVec 32 := 0#32
  let c0_i32_2 : BitVec 32 := 0#32
  ![arg0.toNat, v2.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.subi v0 c1_i32
  let c0_i32_0 : BitVec 32 := 0#32
  let v2 : BitVec 32 := Scalar.maxsi v1 c0_i32_0
  let c0_i32_1 : BitVec 32 := 0#32
  let c0_i32_2 : BitVec 32 := 0#32
  ![arg0.toNat, v2.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![arg0.toNat, v0.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.subi v0 c1_i32
  let c0_i32_0 : BitVec 32 := 0#32
  let v2 : BitVec 32 := Scalar.maxsi v1 c0_i32_0
  let c0_i32_1 : BitVec 32 := 0#32
  let c0_i32_2 : BitVec 32 := 0#32
  ![arg0.toNat, v2.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.minsi v0 c1_i32
  let c0_i32_0 : BitVec 32 := 0#32
  let c0_i32_1 : BitVec 32 := 0#32
  let c0_i32_2 : BitVec 32 := 0#32
  ![arg0.toNat, v1.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x6x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S384x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S384x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S1x256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference5Ideal.lean ====
abbrev S4x4352x384 : Shape := ⟨3, ![4, 4352, 384]⟩
abbrev S4x4096x128 : Shape := ⟨3, ![4, 4096, 128]⟩
abbrev S4x256x256 : Shape := ⟨3, ![4, 256, 256]⟩
abbrev S4x4096x384 : Shape := ⟨3, ![4, 4096, 384]⟩
abbrev S4x256x384 : Shape := ⟨3, ![4, 256, 384]⟩
abbrev S4x4352x256 : Shape := ⟨3, ![4, 4352, 256]⟩
abbrev S4x4352x4096 : Shape := ⟨3, ![4, 4352, 4096]⟩
abbrev S4x256x1024 : Shape := ⟨3, ![4, 256, 1024]⟩
abbrev S4x4096x1024 : Shape := ⟨3, ![4, 4096, 1024]⟩
abbrev S4x2x6x1024 : Shape := ⟨4, ![4, 2, 6, 1024]⟩
abbrev S384x1024 : Shape := ⟨2, ![384, 1024]⟩
abbrev S256x1024 : Shape := ⟨2, ![256, 1024]⟩
abbrev S1024x1024 : Shape := ⟨2, ![1024, 1024]⟩
abbrev S1024 : Shape := ⟨1, ![1024]⟩
abbrev S4x4096x256 : Shape := ⟨3, ![4, 4096, 256]⟩
abbrev S4x4352x1024 : Shape := ⟨3, ![4, 4352, 1024]⟩
abbrev S_ : Shape := ⟨0, ![]⟩
abbrev S4x4352x4x1024 : Shape := ⟨4, ![4, 4352, 4, 1024]⟩
abbrev S4x4352x1x1024 : Shape := ⟨4, ![4, 4352, 1, 1024]⟩
abbrev S4352 : Shape := ⟨1, ![4352]⟩
abbrev S1x4352x1 : Shape := ⟨3, ![1, 4352, 1]⟩
abbrev S4x1x1x1024 : Shape := ⟨4, ![4, 1, 1, 1024]⟩
abbrev S4x1024 : Shape := ⟨2, ![4, 1024]⟩
abbrev S4x1x1024 : Shape := ⟨3, ![4, 1, 1024]⟩
abbrev S4x4352 : Shape := ⟨2, ![4, 4352]⟩
abbrev S4x4352x1 : Shape := ⟨3, ![4, 4352, 1]⟩
abbrev S1x1x1024 : Shape := ⟨3, ![1, 1, 1024]⟩

abbrev nBuf : Space → Nat
  | .hbm => 165
  | .vmem => 0
  | .smem => 0
  | _ => 0

abbrev hbmTy0_0 (i : Nat) : BufTy := match i % 128 with
  | 0 => ⟨S4x4352x384, .bf16⟩
  | 1 => ⟨S4x4096x128, .f32⟩
  | 2 => ⟨S4x4096x128, .f32⟩
  | 3 => ⟨S4x256x256, .bf16⟩
  | 4 => ⟨S4x4096x384, .bf16⟩
  | 5 => ⟨S4x256x384, .bf16⟩
  | 6 => ⟨S4x4352x256, .bf16⟩
  | 7 => ⟨S4x4352x4096, .bf16⟩
  | 8 => ⟨S4x256x1024, .f32⟩
  | 9 => ⟨S4x4096x1024, .f32⟩
  | 10 => ⟨S4x2x6x1024, .f32⟩
  | 11 => ⟨S384x1024, .f32⟩
  | 12 => ⟨S256x1024, .f32⟩
  | 13 => ⟨S384x1024, .f32⟩
  | 14 => ⟨S256x1024, .f32⟩
  | 15 => ⟨S1024x1024, .f32⟩
  | 16 => ⟨S1024, .f32⟩
  | 17 => ⟨S1024, .f32⟩
  | 18 => ⟨S4x256x256, .f32⟩
  | 19 => ⟨S4x256x256, .f32⟩
  | 20 => ⟨S4x4096x256, .f32⟩
  | 21 => ⟨S4x4352x256, .f32⟩
  | 22 => ⟨S4x4352x384, .bf16⟩
  | 23 => ⟨S4x4352x384, .f32⟩
  | 24 => ⟨S4x4352x1024, .f32⟩
  | 25 => ⟨S4x4352x4096, .f32⟩
  | 26 => ⟨S4x4352x4096, .f32⟩
  | 27 => ⟨S4x4352x4096, .f32⟩
  | 28 => ⟨S_, .f32⟩
  | 29 => ⟨S4x4352x4096, .f32⟩
  | 30 => ⟨S4x4352x4096, .f32⟩
  | 31 => ⟨S_, .f32⟩
  | 32 => ⟨S4x4352x4096, .f32⟩
  | 33 => ⟨S4x4352x4096, .f32⟩
  | 34 => ⟨S4x4352x4x1024, .f32⟩
  | 35 => ⟨S4x4352x1x1024, .f32⟩
  | 36 => ⟨S4x4352x1024, .f32⟩
  | 37 => ⟨S4x4352x384, .f32⟩
  | 38 => ⟨S4x4352x1024, .f32⟩
  | 39 => ⟨S4x4352x1024, .f32⟩
  | 40 => ⟨S4x4352x1x1024, .f32⟩
  | 41 => ⟨S4x4352x1024, .f32⟩
  | 42 => ⟨S4x4352x1024, .f32⟩
  | 43 => ⟨S4x4352x1024, .f32⟩
  | 44 => ⟨S4x4352x1024, .f32⟩
  | 45 => ⟨S4x4352x1x1024, .f32⟩
  | 46 => ⟨S4x4352x1024, .f32⟩
  | 47 => ⟨S4x4352x1024, .f32⟩
  | 48 => ⟨S4x4352x1024, .f32⟩
  | 49 => ⟨S4x4352x1024, .f32⟩
  | 50 => ⟨S4x4352x1x1024, .f32⟩
  | 51 => ⟨S4x4352x1024, .f32⟩
  | 52 => ⟨S4x4352x256, .f32⟩
  | 53 => ⟨S4x4352x1024, .f32⟩
  | 54 => ⟨S4x4352x1024, .f32⟩
  | 55 => ⟨S4x4352x1024, .f32⟩
  | 56 => ⟨S_, .f32⟩
  | 57 => ⟨S4x4352x1024, .f32⟩
  | 58 => ⟨S4x4352x1024, .f32⟩
  | 59 => ⟨S4352, .i32⟩
  | 60 => ⟨S_, .i32⟩
  | 61 => ⟨S4352, .i32⟩
  | 62 => ⟨S4352, .i1⟩
  | 63 => ⟨S1x4352x1, .i1⟩
  | 64 => ⟨S4x1x1x1024, .f32⟩
  | 65 => ⟨S4x1024, .f32⟩
  | 66 => ⟨S4x1x1024, .f32⟩
  | 67 => ⟨S4x1x1x1024, .f32⟩
  | 68 => ⟨S4x1024, .f32⟩
  | 69 => ⟨S4x1x1024, .f32⟩
  | 70 => ⟨S4x4352x1024, .i1⟩
  | 71 => ⟨S4x4352x1024, .f32⟩
  | 72 => ⟨S4x4352x1024, .f32⟩
  | 73 => ⟨S4x4352x1024, .f32⟩
  | 74 => ⟨S4x4352x1024, .f32⟩
  | 75 => ⟨S4x4352x1024, .f32⟩
  | 76 => ⟨S4x4352x1024, .f32⟩
  | 77 => ⟨S_, .f32⟩
  | 78 => ⟨S4x4352, .f32⟩
  | 79 => ⟨S4x4352x1, .f32⟩
  | 80 => ⟨S_, .f32⟩
  | 81 => ⟨S4x4352x1, .f32⟩
  | 82 => ⟨S4x4352x1, .f32⟩
  | 83 => ⟨S4x4352x1024, .f32⟩
  | 84 => ⟨S4x4352x1024, .f32⟩
  | 85 => ⟨S4x4352x1024, .f32⟩
  | 86 => ⟨S_, .f32⟩
  | 87 => ⟨S4x4352, .f32⟩
  | 88 => ⟨S4x4352x1, .f32⟩
  | 89 => ⟨S_, .f32⟩
  | 90 => ⟨S4x4352x1, .f32⟩
  | 91 => ⟨S4x4352x1, .f32⟩
  | 92 => ⟨S4x4352x1024, .f32⟩
  | 93 => ⟨S4x4352x1024, .f32⟩
  | 94 => ⟨S_, .f32⟩
  | 95 => ⟨S4x4352x1, .f32⟩
  | 96 => ⟨S4x4352x1, .f32⟩
  | 97 => ⟨S4x4352x1, .f32⟩
  | 98 => ⟨S4x4352x1024, .f32⟩
  | 99 => ⟨S4x4352x1024, .f32⟩
  | 100 => ⟨S1x1x1024, .f32⟩
  | 101 => ⟨S4x4352x1024, .f32⟩
  | 102 => ⟨S4x4352x1024, .f32⟩
  | 103 => ⟨S1x1x1024, .f32⟩
  | 104 => ⟨S4x4352x1024, .f32⟩
  | 105 => ⟨S4x4352x1024, .f32⟩
  | 106 => ⟨S_, .f32⟩
  | 107 => ⟨S4x4352, .f32⟩
  | 108 => ⟨S4x4352x1, .f32⟩
  | 109 => ⟨S_, .f32⟩
  | 110 => ⟨S4x4352x1, .f32⟩
  | 111 => ⟨S4x4352x1, .f32⟩
  | 112 => ⟨S4x4352x1024, .f32⟩
  | 113 => ⟨S4x4352x1024, .f32⟩
  | 114 => ⟨S4x4352x1024, .f32⟩
  | 115 => ⟨S_, .f32⟩
  | 116 => ⟨S4x4352, .f32⟩
  | 117 => ⟨S4x4352x1, .f32⟩
  | 118 => ⟨S_, .f32⟩
  | 119 => ⟨S4x4352x1, .f32⟩
  | 120 => ⟨S4x4352x1, .f32⟩
  | 121 => ⟨S4x4352x1024, .f32⟩
  | 122 => ⟨S4x4352x1024, .f32⟩
  | 123 => ⟨S_, .f32⟩
  | 124 => ⟨S4x4352x1, .f32⟩
  | 125 => ⟨S4x4352x1, .f32⟩
  | 126 => ⟨S4x4352x1, .f32⟩
  | 127 => ⟨S4x4352x1024, .f32⟩
  | _ => ⟨S4x4352x384, .bf16⟩

abbrev hbmTy0_1 (i : Nat) : BufTy := match i % 128 with
  | 0 => ⟨S4x4352x1024, .f32⟩
  | 1 => ⟨S4352, .i32⟩
  | 2 => ⟨S_, .i32⟩
  | 3 => ⟨S4352, .i32⟩
  | 4 => ⟨S4352, .i1⟩
  | 5 => ⟨S1x4352x1, .i1⟩
  | 6 => ⟨S4x1x1x1024, .f32⟩
  | 7 => ⟨S4x1024, .f32⟩
  | 8 => ⟨S4x1x1024, .f32⟩
  | 9 => ⟨S4x1x1x1024, .f32⟩
  | 10 => ⟨S4x1024, .f32⟩
  | 11 => ⟨S4x1x1024, .f32⟩
  | 12 => ⟨S4x4352x1024, .i1⟩
  | 13 => ⟨S4x4352x1024, .f32⟩
  | 14 => ⟨S4x4352x1024, .f32⟩
  | 15 => ⟨S4x4352x1024, .f32⟩
  | 16 => ⟨S_, .f32⟩
  | 17 => ⟨S4x4352x1024, .f32⟩
  | 18 => ⟨S4x4352x1024, .f32⟩
  | 19 => ⟨S4x4352x1024, .f32⟩
  | 20 => ⟨S4352, .i32⟩
  | 21 => ⟨S_, .i32⟩
  | 22 => ⟨S4352, .i32⟩
  | 23 => ⟨S4352, .i1⟩
  | 24 => ⟨S1x4352x1, .i1⟩
  | 25 => ⟨S4x1x1x1024, .f32⟩
  | 26 => ⟨S4x1024, .f32⟩
  | 27 => ⟨S4x1x1024, .f32⟩
  | 28 => ⟨S4x1x1x1024, .f32⟩
  | 29 => ⟨S4x1024, .f32⟩
  | 30 => ⟨S4x1x1024, .f32⟩
  | 31 => ⟨S4x4352x1024, .i1⟩
  | 32 => ⟨S4x4352x1024, .f32⟩
  | 33 => ⟨S4x4352x1024, .f32⟩
  | 34 => ⟨S4x4352x1024, .f32⟩
  | 35 => ⟨S4x4352x1024, .f32⟩
  | 36 => ⟨S4x4352x1024, .bf16⟩
  | _ => ⟨S4x4352x384, .bf16⟩

abbrev hbmTy (i : Nat) : BufTy := match i / 128 with
  | 0 => hbmTy0_0 i
  | 1 => hbmTy0_1 i
  | _ => ⟨S4x4352x384, .bf16⟩

abbrev bufTy : (tb : Table) → Fin (tcTables nBuf tb) → BufTy
  | .hbm, ⟨i, _⟩ => hbmTy i
  | _, _ => ⟨S4x4352x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_v11 : Ref sig .tc := ⟨.hbm, 30, rfl⟩
abbrev main_cst_0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_1 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_2 : Ref sig .tc := ⟨.hbm, 77, rfl⟩
abbrev main_v52 : Ref sig .tc := ⟨.hbm, 78, rfl⟩
abbrev main_v53 : Ref sig .tc := ⟨.hbm, 79, rfl⟩
abbrev main_cst_3 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_4 : Ref sig .tc := ⟨.hbm, 86, rfl⟩
abbrev main_v59 : Ref sig .tc := ⟨.hbm, 87, rfl⟩
abbrev main_v60 : Ref sig .tc := ⟨.hbm, 88, rfl⟩
abbrev main_cst_5 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_6 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_7 : Ref sig .tc := ⟨.hbm, 106, rfl⟩
abbrev main_v76 : Ref sig .tc := ⟨.hbm, 107, rfl⟩
abbrev main_v77 : Ref sig .tc := ⟨.hbm, 108, rfl⟩
abbrev main_cst_8 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_9 : Ref sig .tc := ⟨.hbm, 115, rfl⟩
abbrev main_v83 : Ref sig .tc := ⟨.hbm, 116, rfl⟩
abbrev main_v84 : Ref sig .tc := ⟨.hbm, 117, rfl⟩
abbrev main_cst_10 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_11 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_c_12 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_call1_v0 : Ref sig .tc := ⟨.hbm, 140, rfl⟩
abbrev main_call1_v1 : Ref sig .tc := ⟨.hbm, 141, rfl⟩
abbrev main_call1_v2 : Ref sig .tc := ⟨.hbm, 142, rfl⟩
abbrev main_v104 : Ref sig .tc := ⟨.hbm, 143, rfl⟩
abbrev main_cst_13 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_c_14 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_call2_v0 : Ref sig .tc := ⟨.hbm, 159, rfl⟩
abbrev main_call2_v1 : Ref sig .tc := ⟨.hbm, 160, rfl⟩
abbrev main_call2_v2 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩

abbrev nD : Nat := 1
abbrev τ : Topo := Topo.v7x

variable {F : FTy → Type} [FloatOps F]
-- ==== Proof.Tables.lean ====
/- The prefetched table of the row blocks: what the launch finds in it, and the launch's side condition of it. -/
module

public import proofs.«01_k».proof.Proof.Gen.KernelIdeal.Frame
public import proofs.«01_k».proof.Proof.Gen.Kernel.Frame
public import Idealize.ShloMosaic.Lib.StableHlo.ReadAt

@[expose] public section

set_option maxRecDepth 16384

noncomputable section

open Idealize.ShloMosaic Idealize.ShloMosaic.TcCoe Idealize.ShloMosaic.Tactic

namespace Cert.KernelIdeal.Natten

open Cert.KernelIdeal Cert.KernelIdeal.Gen

variable {F : FTy → Type} [FloatOps F]
variable (m : (ℓ : Loc nD τ sig) → Buf (Elt F) ℓ)

/-- The table the launch finds: the variant of every row block. -/
theorem tbl_eq : tbl m 0 = (fun i => lit2 (S16.rowMajor i) : (⟨S16, .i32⟩ : BufTy).Contents (Elt F)) := by
  unfold tbl
  show V m 0 main_c_2 = _
  unfold_abbrev_sides
  after_reads_simp
  rfl

/-- The variant of row block `r`. -/
def variant (r : Fin 16) : ℕ := (lit2 r).toNat

theorem variant_lt : ∀ r, variant r < 3 := by decide +kernel

theorem idx3 (pf : pre0.Contents (Elt F)) (h : pf 0 = (fun i => lit2 (S16.rowMajor i) : (⟨S16, .i32⟩ : BufTy).Contents (Elt F)))
    (i : grid0.Coords) : cc0_transform_3 k0_off1_inb numel1_S1 pf i = ![variant (i 1), 0, 0, 0] := by
  unfold cc0_transform_3
  dsimp only
  unfold Pipeline.Prefetch.Contents.at
  rw [h]
  exact congrArg (fun x => ![(lit2 x).toNat, 0, 0, 0]) (Fin.ext ((by decide +kernel : ∀ i : grid0.Coords,
    (S16.rowMajor ((Rect.unit (s := S16) ![(Scalar.indexCast (BitVec.ofNat 32 (i 1).val)).toNat] S1.size (k0_off1_inb i)).emb
      (Shape.Idx.first (numel1_S1.symm ▸ Nat.one_pos)))).val = (i 1).val) i))

theorem ok : Ok m := by
  unfold Ok ok0
  intro i
  refine ⟨?_, .inl rfl⟩
  rw [idx3 _ (tbl_eq m)]
  have := variant_lt (i 1)
  intro a
  fin_cases a
  · show (variant (i 1) + 1) * 1 ≤ 3
    omega
  · show (0 + 1) * 6 ≤ 6
    decide
  · show (0 + 1) * 256 ≤ 256
    decide
  · show (0 + 1) * 704 ≤ 704
    decide

end Cert.KernelIdeal.Natten

namespace Cert.Kernel.Natten

open Cert.Kernel Cert.Kernel.Gen

variable {F : FTy → Type} [FloatOps F]
variable (m : (ℓ : Loc nD τ sig) → Buf (Elt F) ℓ)

/-- The table the launch finds: the variant of every row block. -/
theorem tbl_eq : tbl m 0 = (fun i => lit2 (S16.rowMajor i) : (⟨S16, .i32⟩ : BufTy).Contents (Elt F)) := by
  unfold tbl
  show V m 0 main_c_2 = _
  unfold_abbrev_sides
  after_reads_simp
  rfl

/-- The variant of row block `r`. -/
def variant (r : Fin 16) : ℕ := (lit2 r).toNat

theorem variant_lt : ∀ r, variant r < 3 := by decide +kernel

theorem idx3 (pf : pre0.Contents (Elt F)) (h : pf 0 = (fun i => lit2 (S16.rowMajor i) : (⟨S16, .i32⟩ : BufTy).Contents (Elt F)))
    (i : grid0.Coords) : cc0_transform_3 k0_off1_inb numel1_S1 pf i = ![variant (i 1), 0, 0, 0] := by
  unfold cc0_transform_3
  dsimp only
  unfold Pipeline.Prefetch.Contents.at
  rw [h]
  exact congrArg (fun x => ![(lit2 x).toNat, 0, 0, 0]) (Fin.ext ((by decide +kernel : ∀ i : grid0.Coords,
    (S16.rowMajor ((Rect.unit (s := S16) ![(Scalar.indexCast (BitVec.ofNat 32 (i 1).val)).toNat] S1.size (k0_off1_inb i)).emb
      (Shape.Idx.first (numel1_S1.symm ▸ Nat.one_pos)))).val = (i 1).val) i))

theorem ok : Ok m := by
  unfold Ok ok0
  intro i
  refine ⟨?_, .inl rfl⟩
  rw [idx3 _ (tbl_eq m)]
  have := variant_lt (i 1)
  intro a
  fin_cases a
  · show (variant (i 1) + 1) * 1 ≤ 3
    omega
  · show (0 + 1) * 6 ≤ 6
    decide
  · show (0 + 1) * 256 ≤ 256
    decide
  · show (0 + 1) * 704 ≤ 704
    decide

end Cert.Kernel.Natten

end
-- ==== Proof.Finite.lean ====
/- The precondition: its two bits say that every element of the two arguments is a real number. -/
module

public import proofs.«01_k».proof.Pre_finite
public import Idealize.ShloMosaic.Lib.Pipeline.ValueKit
public import Idealize.ShloMosaic.Lib.IdealHost

@[expose] public section

set_option maxRecDepth 16384

noncomputable section

open Idealize.ShloMosaic

namespace Cert.Natten

/-- The shape facts of the printed precondition. -/
theorem preFacts : Cert.Pre_finite.Facts := ⟨by decide, by decide, by decide, by decide, by decide⟩

/-! ## The constants -/

theorem ofBits_eighth_bf16 : Ideal.ofBits .bf16 0x3E00#16 = (((1 : ℝ) / 8 : ℝ) : EReal) := by
  simp [Ideal.ofBits, Ideal.ieee, -EReal.coe_mul]; norm_num
theorem ofBits_eighth_f32 : Ideal.ofBits .f32 0x3E000000#32 = (((1 : ℝ) / 8 : ℝ) : EReal) := by
  simp [Ideal.ofBits, Ideal.ieee, -EReal.coe_mul]; norm_num
theorem ofBits_top_bf16 : Ideal.ofBits .bf16 0x7F80#16 = (⊤ : EReal) := by
  simp [Ideal.ofBits, Ideal.ieee]
theorem ofBits_top_f32 : Ideal.ofBits .f32 0x7F800000#32 = (⊤ : EReal) := by
  simp [Ideal.ofBits, Ideal.ieee]
theorem ofBits_bot_f32 : Ideal.ofBits .f32 0xFF800000#32 = (⊥ : EReal) := by
  simp [Ideal.ofBits, Ideal.ieee]

/-! ## A fold of bits by «and» -/

theorem foldl_andi {α : Type} (g : α → BitVec 1) : ∀ (l : List α) (r : BitVec 1),
    l.foldl (fun r n => IntOp.andi r (g n)) r = 1#1 → r = 1#1 ∧ ∀ n ∈ l, g n = 1#1
  | [], r, h => ⟨h, fun n hn => absurd hn List.not_mem_nil⟩
  | a :: l, r, h => by
    obtain ⟨h1, h2⟩ := foldl_andi g l _ h
    have h3 : r = 1#1 ∧ g a = 1#1 := (by decide : ∀ r g : BitVec 1, IntOp.andi r g = 1#1 → r = 1#1 ∧ g = 1#1) _ _ h1
    refine ⟨h3.1, fun n hn => ?_⟩
    rcases List.mem_cons.1 hn with rfl | hn
    · exact h3.2
    · exact h2 n hn

/-- «And» over every axis is one only where every bit is one. -/
theorem reduce_andi {s t u : Shape} {axes : List (Fin s.rank)} (h : s.ReducesTo axes t) (hu : 0 < u.numel) (ht : Subsingleton t.Idx)
    (x : s.Idx → BitVec 1) (v : u.Idx → BitVec 1) (e : Host.reduce IntOp.andi x v h hu = fun _ => 1#1) (j : s.Idx) : x j = 1#1 := by
  have := (foldl_andi (fun n => x (s.rowMajor.symm n)) _ _ (congrFun e (h.drop j))).2 (s.rowMajor j)
    (List.mem_filter.2 ⟨List.mem_finRange _, by simpa using ht.elim _ _⟩)
  simpa using this

/-- An extended real whose absolute value is below the infinity is a real number. -/
theorem real_of_abs_lt (x : EReal) (h : max x (-x) < ⊤) : ∃ r : ℝ, x = r := by
  induction x with
  | bot => simp at h
  | top => simp at h
  | coe r => exact ⟨r, rfl⟩

/-- Under the precondition every element of the two arguments is a real number. -/
theorem real_of_pre [Cert.Pre_finite.Facts] (p : FVec Ideal Cert.Pre_finite.S4x4352x1152 .bf16) (b : FVec Ideal Cert.Pre_finite.S6x15x31 .f32)
    (h : (Cert.Pre_finite.fn (F := Ideal) p b).1 = fun _ => 1#1) (h' : (Cert.Pre_finite.fn (F := Ideal) p b).2 = fun _ => 1#1) :
    (∀ j, ∃ r : ℝ, p j = (r : EReal)) ∧ ∀ j, ∃ r : ℝ, b j = (r : EReal) := by
  have hsub : Subsingleton Cert.Pre_finite.S_.Idx := ⟨fun a b => funext fun i => i.elim0⟩
  unfold Cert.Pre_finite.fn at h h'
  dsimp only at h h'
  refine ⟨fun j => real_of_abs_lt _ ?_, fun j => real_of_abs_lt _ ?_⟩
  · have e := reduce_andi _ _ hsub _ _ h j
    have e2 : Ideal.cmp .olt (max (p j) (-p j)) (Ideal.ofBits .bf16 0x7F80#16) = 1#1 := by
      exact e
    rw [ofBits_top_bf16] at e2
    by_contra hc
    simp [Ideal.cmp, hc] at e2
  · have e := reduce_andi _ _ hsub _ _ h' j
    have e2 : Ideal.cmp .olt (max (b j) (-b j)) (Ideal.ofBits .f32 0x7F800000#32) = 1#1 := by
      exact e
    rw [ofBits_top_f32] at e2
    by_contra hc
    simp [Ideal.cmp, hc] at e2

end Cert.Natten
end
-- ==== Proof.Math.lean ====
/- Attention over extended reals: dropping the keys masked to minus infinity changes nothing, and dividing the weighted sum is
   dividing the weights. -/
module

public import Idealize.ShloMosaic.Lib.Pipeline.ValueKit
public import Idealize.ShloMosaic.Lib.IdealHost

@[expose] public section

noncomputable section

open Idealize.ShloMosaic

namespace Cert.Natten

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many real numbers, one at least, is a real number. -/
theorem sup_real {ι : Type} (s : Finset ι) (hs : s.Nonempty) (f : ι → ℝ) : ∃ M : ℝ, s.sup (fun i => (f i : EReal)) = M := by
  obtain ⟨i, _, hi⟩ := s.exists_mem_eq_sup hs (fun i => (f i : EReal))
  exact ⟨f i, hi⟩

section
variable {K W C : Type} [Fintype K] [Fintype W] [Fintype C] [Nonempty W]

/-- The sum of weights and values over the unmasked keys only. -/
theorem sum_masked (e : W → K) (he : Function.Injective e) (g : K → EReal) (h0 : ∀ k, (∀ w, e w ≠ k) → g k = 0) :
    ∑ k, g k = ∑ w, g (e w) := by
  classical
  rw [← Finset.sum_image (s := Finset.univ) (g := e) (f := g) (fun a _ b _ h => he h)]
  refine (Finset.sum_subset (Finset.subset_univ _) fun k _ hk => h0 k fun w hw => hk ?_).symm
  exact Finset.mem_image.2 ⟨w, Finset.mem_univ _, hw⟩

/-- The largest score over the unmasked keys only. -/
theorem sup_masked (e : W → K) (g : K → EReal) (h0 : ∀ k, (∀ w, e w ≠ k) → g k = ⊥) :
    Finset.univ.sup g = Finset.univ.sup fun w => g (e w) := by
  refine le_antisymm (Finset.sup_le fun k _ => ?_) (Finset.sup_le fun w _ => Finset.le_sup (f := g) (Finset.mem_univ _))
  by_cases hk : ∃ w, e w = k
  · obtain ⟨w, rfl⟩ := hk
    exact Finset.le_sup (f := fun w => g (e w)) (Finset.mem_univ w)
  · rw [h0 k fun w hw => hk ⟨w, hw⟩]
    exact bot_le

/-- One query's attention over `K` masked keys and `C` unmasked ones, the sum divided at the end, is its attention over the keys
    `e w` and `C`, the weights divided. -/
theorem attend_eq (e : W → K) (he : Function.Injective e) (s : K → EReal) (t : W → ℝ) (hs : ∀ w, s (e w) = t w)
    (hb : ∀ k, (∀ w, e w ≠ k) → s k = ⊥) (c : C → ℝ) (v : K → ℝ) (vc : C → ℝ)
    (m : EReal) (hm : m = max (Finset.univ.sup s) (Finset.univ.sup fun x => (c x : EReal)))
    (m' : EReal) (hm' : m' = max (Finset.univ.sup fun w => (t w : EReal)) (Finset.univ.sup fun x => (c x : EReal)))
    (den : EReal) (hden : den = ∑ w, Ideal.exp ((t w : EReal) - m') + ∑ x, Ideal.exp ((c x : EReal) - m')) :
    Ideal.div (∑ k, Ideal.exp (s k - m) * (v k : EReal) + ∑ x, Ideal.exp ((c x : EReal) - m) * (vc x : EReal))
        (∑ k, Ideal.exp (s k - m) + ∑ x, Ideal.exp ((c x : EReal) - m))
      = ∑ w, Ideal.div (Ideal.exp ((t w : EReal) - m')) den * (v (e w) : EReal)
        + ∑ x, Ideal.div (Ideal.exp ((c x : EReal) - m')) den * (vc x : EReal) := by
  have hmm : m = m' := by
    rw [hm, hm', sup_masked e s hb]
    simp only [hs]
  obtain ⟨M₁, hM₁⟩ := sup_real (Finset.univ : Finset W) Finset.univ_nonempty t
  obtain ⟨M, hM⟩ : ∃ M : ℝ, m' = M := by
    rw [hm', hM₁]
    rcases isEmpty_or_nonempty C with hC | hC
    · refine ⟨M₁, ?_⟩
      rw [Finset.univ_eq_empty, Finset.sup_empty]
      exact max_eq_left bot_le
    · obtain ⟨M₂, hM₂⟩ := sup_real (Finset.univ : Finset C) Finset.univ_nonempty c
      exact ⟨max M₁ M₂, by rw [hM₂]; exact (EReal.coe_strictMono.monotone.map_max).symm⟩
  have hbot : ∀ k, (∀ w, e w ≠ k) → Ideal.exp (s k - m) = 0 := fun k hk => by
    rw [hb k hk, EReal.bot_sub, Ideal.exp_bot]
  have hexp : ∀ x : ℝ, Ideal.exp ((x : EReal) - (M : EReal)) = (Real.exp (x - M) : EReal) := fun x => by
    rw [← EReal.coe_sub, Ideal.exp_coe]
  rw [sum_masked e he _ fun k hk => by rw [hbot k hk, zero_mul], sum_masked e he _ hbot]
  rw [hM] at hmm hden ⊢
  rw [hmm]
  simp only [hs, hexp] at hden ⊢
  have hpos : 0 < ∑ w, Real.exp (t w - M) + ∑ x, Real.exp (c x - M) :=
    add_pos_of_pos_of_nonneg (Finset.sum_pos (fun _ _ => Real.exp_pos _) Finset.univ_nonempty)
      (Finset.sum_nonneg fun _ _ => (Real.exp_pos _).le)
  have hden' : den = ((∑ w, Real.exp (t w - M) + ∑ x, Real.exp (c x - M) : ℝ) : EReal) := by
    rw [hden, EReal.coe_add, coe_sum, coe_sum]
  rw [← hden, hden']
  simp only [Ideal.div_coe hpos.ne', ← EReal.coe_mul]
  rw [← coe_sum, ← coe_sum, ← coe_sum, ← coe_sum, ← EReal.coe_add, ← EReal.coe_add, ← EReal.coe_mul]
  congr 1
  rw [add_mul, Finset.sum_mul, Finset.sum_mul]
  congr 1 <;> exact Finset.sum_congr rfl fun _ _ => by ring
end

end Cert.Natten
end
-- ==== Proof.Ref.lean ====
/- The reference's result as a chain of named stages. -/
module

public import proofs.«01_k».proof.Proof.Gen.ReferenceIdeal.Run
public import proofs.«01_k».proof.Proof.Finite
public import proofs.«01_k».proof.Proof.Math

@[expose] public section

set_option maxRecDepth 16384

noncomputable section

namespace Cert.ReferenceIdeal.Natten

open Idealize.ShloMosaic Idealize.ShloMosaic.TcCoe Idealize.ShloMosaic.Tactic
open Cert.ReferenceIdeal Cert.ReferenceIdeal.Gen

/-- The window row and column of every query and offset. -/
def rowTab : IVec S64x8 32 :=
  addi (broadcastInDim S64x8 ![0, 1] bcast_S64x1_S64x8_0_1 (broadcastInDim S64x1 ![0] bcast_S64_S64x1_0
      (minsi (broadcastInDim S64 ![] bcast_S_S64 (id (constantI S_ 32 56#32)))
        (maxsi (broadcastInDim S64 ![] bcast_S_S64 (id (constantI S_ 32 0#32))) (subi (iotaInDim S64 32 0) (broadcastInDim S64 ![] bcast_S_S64 (constantI S_ 32 4#32)))))))
    (broadcastInDim S64x8 ![0, 1] bcast_S1x8_S64x8_0_1 (broadcastInDim S1x8 ![1] bcast_S8_S1x8_1 (iotaInDim S8 32 0)))
def colTab : IVec S64x16 32 :=
  addi (broadcastInDim S64x16 ![0, 1] bcast_S64x1_S64x16_0_1 (broadcastInDim S64x1 ![0] bcast_S64_S64x1_0
      (minsi (broadcastInDim S64 ![] bcast_S_S64 (id (constantI S_ 32 48#32)))
        (maxsi (broadcastInDim S64 ![] bcast_S_S64 (id (constantI S_ 32 0#32))) (subi (iotaInDim S64 32 0) (broadcastInDim S64 ![] bcast_S_S64 (constantI S_ 32 8#32)))))))
    (broadcastInDim S64x16 ![0, 1] bcast_S1x16_S64x16_0_1 (broadcastInDim S1x16 ![1] bcast_S16_S1x16_1 (iotaInDim S16 32 0)))
/-- The same relative to the query. -/
def rowRel : IVec S64x8 32 :=
  addi (subi rowTab (broadcastInDim S64x8 ![0, 1] bcast_S64x1_S64x8_0_1 (broadcastInDim S64x1 ![0] bcast_S64_S64x1_0 (iotaInDim S64 32 0))))
    (broadcastInDim S64x8 ![] bcast_S_S64x8 (constantI S_ 32 7#32))
def colRel : IVec S64x16 32 :=
  addi (subi colTab (broadcastInDim S64x16 ![0, 1] bcast_S64x1_S64x16_0_1 (broadcastInDim S64x1 ![0] bcast_S64_S64x1_0 (iotaInDim S64 32 0))))
    (broadcastInDim S64x16 ![] bcast_S_S64x16 (constantI S_ 32 15#32))

/-- A table of rows, and one of columns, with negative entries counted from the end. -/
def rowWrap (n : BitVec 32) (x : IVec S64x8 32) : IVec S64x1x8x1 32 :=
  select (cmpi .slt (broadcastInDim S64x1x8x1 ![0, 2] bcast_S64x8_S64x1x8x1_0_2 x) (broadcastInDim S64x1x8x1 ![] bcast_S_S64x1x8x1 (constantI S_ 32 0#32)))
    (addi (broadcastInDim S64x1x8x1 ![0, 2] bcast_S64x8_S64x1x8x1_0_2 x) (broadcastInDim S64x1x8x1 ![] bcast_S_S64x1x8x1 (constantI S_ 32 n)))
    (broadcastInDim S64x1x8x1 ![0, 2] bcast_S64x8_S64x1x8x1_0_2 x)
def colWrap (n : BitVec 32) (x : IVec S64x16 32) : IVec S1x64x1x16 32 :=
  select (cmpi .slt (broadcastInDim S1x64x1x16 ![1, 3] bcast_S64x16_S1x64x1x16_1_3 x) (broadcastInDim S1x64x1x16 ![] bcast_S_S1x64x1x16 (constantI S_ 32 0#32)))
    (addi (broadcastInDim S1x64x1x16 ![1, 3] bcast_S64x16_S1x64x1x16_1_3 x) (broadcastInDim S1x64x1x16 ![] bcast_S_S1x64x1x16 (constantI S_ 32 n)))
    (broadcastInDim S1x64x1x16 ![1, 3] bcast_S64x16_S1x64x1x16_1_3 x)
/-- The pairs of a row and a column that a selection takes. -/
def pairTab (x : IVec S64x1x8x1 32) (y : IVec S1x64x1x16 32) : IVec S64x64x8x16x2 32 :=
  concatenate S64x64x8x16x2 4
    [⟨S64x64x8x16x1, broadcastInDim S64x64x8x16x1 ![0, 1, 2, 3] bcast_S64x64x8x16_S64x64x8x16x1_0_1_2_3 (broadcastInDim S64x64x8x16 ![0, 1, 2, 3] bcast_S64x1x8x1_S64x64x8x16_0_1_2_3 x)⟩,
     ⟨S64x64x8x16x1, broadcastInDim S64x64x8x16x1 ![0, 1, 2, 3] bcast_S64x64x8x16_S64x64x8x16x1_0_1_2_3 (broadcastInDim S64x64x8x16 ![0, 1, 2, 3] bcast_S1x64x1x16_S64x64x8x16_0_1_2_3 y)⟩]
    concatenates_S64x64x8x16x1_S64x64x8x16x1_S64x64x8x16x2_d4

/-- The latent tokens' and the context tokens' projections. -/
def latent (X : FVec Ideal S4x4352x1152 .bf16) : FVec Ideal S4x4096x1152 .f32 :=
  extractStridedSlice S4x4096x1152 ![0, 256, 0] (extf .f32 X bitsLt_bf16_f32) slices_S4x4352x1152_S4x4096x1152_0_256_0
def context (X : FVec Ideal S4x4352x1152 .bf16) : FVec Ideal S4x256x1152 .f32 :=
  extractStridedSlice S4x256x1152 ![0, 0, 0] (extf .f32 X bitsLt_bf16_f32) slices_S4x4352x1152_S4x256x1152_0_0_0
/-- The queries scaled, the keys and the values, on the grid. -/
def qg (X : FVec Ideal S4x4352x1152 .bf16) : FVec Ideal S4x64x64x6x64 .f32 :=
  shapeCast _ (mulf (shapeCast _ (extractStridedSlice S4x4096x384 ![0, 0, 0] (latent X) slices_S4x4096x1152_S4x4096x384_0_0_0) shapeCasts_S4x4096x384_S4x4096x6x64)
    (broadcastInDim S4x4096x6x64 ![] bcast_S_S4x4096x6x64 (constant S_ .f32 0x3E000000#32))) shapeCasts_S4x4096x6x64_S4x64x64x6x64
def kg (X : FVec Ideal S4x4352x1152 .bf16) : FVec Ideal S4x64x64x6x64 .f32 :=
  shapeCast _ (shapeCast S4x4096x6x64 (extractStridedSlice S4x4096x384 ![0, 0, 384] (latent X) slices_S4x4096x1152_S4x4096x384_0_0_384) shapeCasts_S4x4096x384_S4x4096x6x64) shapeCasts_S4x4096x6x64_S4x64x64x6x64
def vg (X : FVec Ideal S4x4352x1152 .bf16) : FVec Ideal S4x64x64x6x64 .f32 :=
  shapeCast _ (shapeCast S4x4096x6x64 (extractStridedSlice S4x4096x384 ![0, 0, 768] (latent X) slices_S4x4096x1152_S4x4096x384_0_0_768) shapeCasts_S4x4096x384_S4x4096x6x64) shapeCasts_S4x4096x6x64_S4x64x64x6x64
def kc (X : FVec Ideal S4x4352x1152 .bf16) : FVec Ideal S4x256x6x64 .f32 :=
  shapeCast _ (extractStridedSlice S4x256x384 ![0, 0, 384] (context X) slices_S4x256x1152_S4x256x384_0_0_384) shapeCasts_S4x256x384_S4x256x6x64
def vc (X : FVec Ideal S4x4352x1152 .bf16) : FVec Ideal S4x256x6x64 .f32 :=
  shapeCast _ (extractStridedSlice S4x256x384 ![0, 0, 768] (context X) slices_S4x256x1152_S4x256x384_0_0_768) shapeCasts_S4x256x384_S4x256x6x64

/-- Every query's window of keys or values. -/
def window (K : FVec Ideal S4x64x64x6x64 .f32) : FVec Ideal S4x64x64x8x16x6x64 .f32 :=
  Host.gather gather_S4x64x64x6x64_S64x64x8x16x2_S4x64x64x8x16x6x64_056_12_n_n_12_4_411664 K (pairTab (rowWrap 64#32 rowTab) (colWrap 64#32 colTab))
/-- Every query's window of biases. -/
def bias (B : FVec Ideal S6x15x31 .f32) : FVec Ideal S6x64x64x8x16 .f32 :=
  Host.gather gather_S6x15x31_S64x64x8x16x2_S6x64x64x8x16_0_12_n_n_12_4_611 B (pairTab (rowWrap 15#32 rowRel) (colWrap 31#32 colRel))

def winScores (X : FVec Ideal S4x4352x1152 .bf16) (B : FVec Ideal S6x15x31 .f32) : FVec Ideal S4x6x64x64x8x16 .f32 :=
  addf (Host.dotGeneral dot_S4x64x64x6x64_S4x64x64x8x16x6x64_S4x6x64x64x8x16_4_6_n_34_0312_0512 none (qg X) (window (kg X)))
    (broadcastInDim S4x6x64x64x8x16 ![0, 1, 2, 3, 4, 5] bcast_S1x6x64x64x8x16_S4x6x64x64x8x16_0_1_2_3_4_5
      (broadcastInDim S1x6x64x64x8x16 ![1, 2, 3, 4, 5] bcast_S6x64x64x8x16_S1x6x64x64x8x16_1_2_3_4_5 (bias B)))
def ctxScores (X : FVec Ideal S4x4352x1152 .bf16) : FVec Ideal S4x6x64x64x256 .f32 :=
  Host.dotGeneral dot_S4x64x64x6x64_S4x256x6x64_S4x6x64x64x256_4_3_12_1_03_02 none (qg X) (kc X)
def scores (s : FVec Ideal S4x6x64x64x8x16 .f32) (t : FVec Ideal S4x6x64x64x256 .f32) : FVec Ideal S4x6x64x64x384 .f32 :=
  concatenate S4x6x64x64x384 4 [⟨S4x6x64x64x128, shapeCast _ s shapeCasts_S4x6x64x64x8x16_S4x6x64x64x128⟩, ⟨S4x6x64x64x256, t⟩] concatenates_S4x6x64x64x128_S4x6x64x64x256_S4x6x64x64x384_d4
def top (s : FVec Ideal S4x6x64x64x384 .f32) : FVec Ideal S4x6x64x64 .f32 :=
  maximumf (broadcastInDim S4x6x64x64 ![] bcast_S_S4x6x64x64 (constant S_ .f32 0xFF800000#32))
    (Host.reduce FloatOps.maximumf s (constant S_ .f32 0xFF800000#32) reducesTo_S4x6x64x64x384_S4x6x64x64_d4 h_S_)
def spread (x : FVec Ideal S4x6x64x64 .f32) : FVec Ideal S4x6x64x64x384 .f32 :=
  broadcastInDim S4x6x64x64x384 ![0, 1, 2, 3, 4] bcast_S4x6x64x64x1_S4x6x64x64x384_0_1_2_3_4 (broadcastInDim S4x6x64x64x1 ![0, 1, 2, 3] bcast_S4x6x64x64_S4x6x64x64x1_0_1_2_3 x)
def weights (s : FVec Ideal S4x6x64x64x384 .f32) : FVec Ideal S4x6x64x64x384 .f32 := Host.exp (subf s (spread (top s)))
def total (e : FVec Ideal S4x6x64x64x384 .f32) : FVec Ideal S4x6x64x64 .f32 :=
  Host.reduceAdd e (constant S_ .f32 0x00000000#32) reducesTo_S4x6x64x64x384_S4x6x64x64_d4 h_S_
def softmax (s : FVec Ideal S4x6x64x64x384 .f32) : FVec Ideal S4x6x64x64x384 .f32 := Host.divf (weights s) (spread (total (weights s)))
def mixWin (p : FVec Ideal S4x6x64x64x384 .f32) (v : FVec Ideal S4x64x64x8x16x6x64 .f32) : FVec Ideal S4x64x64x6x64 .f32 :=
  Host.dotGeneral dot_S4x6x64x64x8x16_S4x64x64x8x16x6x64_S4x64x64x6x64_45_34_n_6_0231_0125 none
    (shapeCast _ (extractStridedSlice S4x6x64x64x128 ![0, 0, 0, 0, 0] p slices_S4x6x64x64x384_S4x6x64x64x128_0_0_0_0_0) shapeCasts_S4x6x64x64x128_S4x6x64x64x8x16) v
def mixCtx (p : FVec Ideal S4x6x64x64x384 .f32) (v : FVec Ideal S4x256x6x64 .f32) : FVec Ideal S4x64x64x6x64 .f32 :=
  transpose S4x64x64x6x64 [0, 3, 4, 1, 2] (Host.dotGeneral dot_S4x256x6x64_S4x6x64x64x256_S4x6x64x64x64_1_4_3_23_02_01 none v
    (extractStridedSlice S4x6x64x64x256 ![0, 0, 0, 0, 128] p slices_S4x6x64x64x384_S4x6x64x64x256_0_0_0_0_128)) transposes_S4x6x64x64x64_S4x64x64x6x64_0_3_4_1_2
/-- The reference's result. -/
def result (X : FVec Ideal S4x4352x1152 .bf16) (B : FVec Ideal S6x15x31 .f32) : FVec Ideal S4x4096x384 .bf16 :=
  truncf .bf16 (shapeCast _ (addf (mixWin (softmax (scores (winScores X B) (ctxScores X))) (window (vg X))) (mixCtx (softmax (scores (winScores X B) (ctxScores X))) (vc X)))
    shapeCasts_S4x64x64x6x64_S4x4096x384) bitsLt_bf16_f32

variable (m : (ℓ : Loc nD τ sig) → Buf (Elt Ideal) ℓ)

set_option maxHeartbeats 4000000 in
theorem res_eq (c : Dev nD) : Value.res_main_v130 (F := Ideal) m c
    = result (m ((c.tc : Thread nD τ).loc main_arg0)) (m ((c.tc : Thread nD τ).loc main_arg1)) := rfl

end Cert.ReferenceIdeal.Natten
end
-- ==== Proof.RefDot.lean ====
/- The reference's stages at an index: the scores, the softmax and the products with the values. -/
module

public import proofs.«01_k».proof.Proof.Ref
public import Idealize.ShloMosaic.Lib.Pipeline.Value
public import Idealize.ShloMosaic.Lib.ValueIdxRank6

@[expose] public section

set_option maxRecDepth 16384

noncomputable section

namespace Cert.ReferenceIdeal.Natten

open Idealize.ShloMosaic Idealize.ShloMosaic.TcCoe Idealize.ShloMosaic.Tactic
open Cert.ReferenceIdeal Cert.ReferenceIdeal.Gen Cert.Natten

theorem winDot_at (q : FVec Ideal S4x64x64x6x64 .f32) (k : FVec Ideal S4x64x64x8x16x6x64 .f32) (B : Fin 4) (h : Fin 6) (R w : Fin 64) (a : Fin 8) (b : Fin 16) :
    Host.dotGeneral dot_S4x64x64x6x64_S4x64x64x8x16x6x64_S4x6x64x64x8x16_4_6_n_34_0312_0512 none q k (ix6 B h R w a b)
      = (∑ d : Fin 64, (q (ix5 B R w h d) : EReal) * k (ix7 B R w a b h d) : EReal) := by
  pointwise

theorem ctxDot_at (q : FVec Ideal S4x64x64x6x64 .f32) (k : FVec Ideal S4x256x6x64 .f32) (B : Fin 4) (h : Fin 6) (R w : Fin 64) (n : Fin 256) :
    Host.dotGeneral dot_S4x64x64x6x64_S4x256x6x64_S4x6x64x64x256_4_3_12_1_03_02 none q k (ix5 B h R w n)
      = (∑ d : Fin 64, (q (ix5 B R w h d) : EReal) * k (ix4 B n h d) : EReal) := by
  pointwise

theorem mixDot_at (p : FVec Ideal S4x6x64x64x8x16 .f32) (v : FVec Ideal S4x64x64x8x16x6x64 .f32) (B : Fin 4) (R w : Fin 64) (h : Fin 6) (d : Fin 64) :
    Host.dotGeneral dot_S4x6x64x64x8x16_S4x64x64x8x16x6x64_S4x64x64x6x64_45_34_n_6_0231_0125 none p v (ix5 B R w h d)
      = (∑ x : Fin 8 × Fin 16, (p (ix6 B h R w x.1 x.2) : EReal) * v (ix7 B R w x.1 x.2 h d) : EReal) := by
  pointwise
  rw [Fintype.sum_prod_type]

theorem mixCtx_at (p : FVec Ideal S4x6x64x64x384 .f32) (v : FVec Ideal S4x256x6x64 .f32) (B : Fin 4) (R w : Fin 64) (h : Fin 6) (d : Fin 64) :
    mixCtx p v (ix5 B R w h d) = (∑ n : Fin 256, (p (ix5 B h R w (⟨128 + n.val, by omega⟩ : Fin 384)) : EReal) * v (ix4 B n h d) : EReal) := by
  pointwise [mixCtx]
  exact Finset.sum_congr rfl fun n _ => mul_comm _ _

/-- The place of a window's key among the scores, and that of a context token. -/
def winPos (x : Fin 8 × Fin 16) : Fin 384 := ⟨x.1.val * 16 + x.2.val, by have := x.1.isLt; have := x.2.isLt; omega⟩
def ctxPos (n : Fin 256) : Fin 384 := ⟨128 + n.val, by omega⟩

theorem flat_at (s : FVec Ideal S4x6x64x64x8x16 .f32) (B : Fin 4) (h : Fin 6) (R w : Fin 64) (a : Fin 8) (b : Fin 16) (x : Fin 128) (hx : x.val = a.val * 16 + b.val) :
    shapeCast S4x6x64x64x128 s shapeCasts_S4x6x64x64x8x16_S4x6x64x64x128 (ix5 B h R w x) = s (ix6 B h R w a b) := by
  refine shapeCast_apply s _ _ _ ?_
  rw [Shape.rowMajor_val_six, Shape.rowMajor_val_five]
  show (((((B.val * 6 + h.val) * 64 + R.val) * 64 + w.val) * 8 + a.val) * 16 + b.val : ℕ) = ((((B.val * 6 + h.val) * 64 + R.val) * 64 + w.val) * 128 + x.val)
  omega
theorem unflat_at (s : FVec Ideal S4x6x64x64x128 .f32) (B : Fin 4) (h : Fin 6) (R w : Fin 64) (a : Fin 8) (b : Fin 16) (x : Fin 128) (hx : x.val = a.val * 16 + b.val) :
    shapeCast S4x6x64x64x8x16 s shapeCasts_S4x6x64x64x128_S4x6x64x64x8x16 (ix6 B h R w a b) = s (ix5 B h R w x) := by
  refine shapeCast_apply s _ _ _ ?_
  rw [Shape.rowMajor_val_six, Shape.rowMajor_val_five]
  show ((((B.val * 6 + h.val) * 64 + R.val) * 64 + w.val) * 128 + x.val : ℕ) = (((((B.val * 6 + h.val) * 64 + R.val) * 64 + w.val) * 8 + a.val) * 16 + b.val)
  omega

theorem join_at (s : FVec Ideal S4x6x64x64x128 .f32) (t : FVec Ideal S4x6x64x64x256 .f32) (B : Fin 4) (h : Fin 6) (R w : Fin 64) (x : Fin 384) :
    concatenate S4x6x64x64x384 4 [⟨S4x6x64x64x128, s⟩, ⟨S4x6x64x64x256, t⟩] concatenates_S4x6x64x64x128_S4x6x64x64x256_S4x6x64x64x384_d4 (ix5 B h R w x)
      = if g : x.val < 128 then s (ix5 B h R w (⟨x.val, g⟩ : Fin 128)) else t (ix5 B h R w (⟨x.val - 128, by omega⟩ : Fin 256)) := by
  pointwise

theorem scores_win (s : FVec Ideal S4x6x64x64x8x16 .f32) (t : FVec Ideal S4x6x64x64x256 .f32) (B : Fin 4) (h : Fin 6) (R w : Fin 64) (x : Fin 8 × Fin 16) :
    scores s t (ix5 B h R w (winPos x)) = s (ix6 B h R w x.1 x.2) := by
  have h1 := x.1.isLt
  have h2 := x.2.isLt
  unfold scores
  refine (join_at _ _ _ _ _ _ _).trans ?_
  rw [dif_pos (show (winPos x).val < 128 by simp only [winPos]; omega)]
  exact flat_at _ _ _ _ _ _ _ _ rfl
theorem scores_ctx (s : FVec Ideal S4x6x64x64x8x16 .f32) (t : FVec Ideal S4x6x64x64x256 .f32) (B : Fin 4) (h : Fin 6) (R w : Fin 64) (n : Fin 256) :
    scores s t (ix5 B h R w (ctxPos n)) = t (ix5 B h R w n) := by
  unfold scores
  refine (join_at _ _ _ _ _ _ _).trans ?_
  rw [dif_neg (show ¬ (ctxPos n).val < 128 by simp only [ctxPos]; omega)]
  exact congrArg (fun z => t (ix5 B h R w z)) (Fin.ext (by simp only [ctxPos]; omega))

/-- The places of the scores are the window's and the context's. -/
def posEquiv : (Fin 8 × Fin 16) ⊕ Fin 256 ≃ Fin 384 :=
  (Equiv.sumCongr finProdFinEquiv (Equiv.refl _)).trans finSumFinEquiv
theorem posEquiv_inl (x : Fin 8 × Fin 16) : posEquiv (Sum.inl x) = winPos x := Fin.ext (by
  show x.2.val + 16 * x.1.val = x.1.val * 16 + x.2.val; omega)
theorem posEquiv_inr (n : Fin 256) : posEquiv (Sum.inr n) = ctxPos n := Fin.ext (by
  show 8 * 16 + n.val = 128 + n.val; rfl)

theorem sum_pos (f : Fin 384 → EReal) : ∑ x, f x = ∑ x, f (winPos x) + ∑ n, f (ctxPos n) := by
  rw [← posEquiv.sum_comp, Fintype.sum_sum_type]
  simp only [posEquiv_inl, posEquiv_inr]
theorem sup_pos (f : Fin 384 → EReal) : Finset.univ.sup f = max (Finset.univ.sup fun x => f (winPos x)) (Finset.univ.sup fun n => f (ctxPos n)) := by
  refine le_antisymm (Finset.sup_le fun x _ => ?_) (max_le (Finset.sup_le fun x _ => Finset.le_sup (Finset.mem_univ _)) (Finset.sup_le fun x _ => Finset.le_sup (Finset.mem_univ _)))
  obtain ⟨y, rfl⟩ := posEquiv.surjective x
  rcases y with y | y
  · rw [posEquiv_inl]
    exact le_max_of_le_left (Finset.le_sup (f := fun x => f (winPos x)) (Finset.mem_univ y))
  · rw [posEquiv_inr]
    exact le_max_of_le_right (Finset.le_sup (f := fun x => f (ctxPos x)) (Finset.mem_univ y))

/-- A reduction by maximum over the last axis, the initial value minus infinity, is the largest entry. -/
theorem rowTop_at (s : FVec Ideal S4x6x64x64x384 .f32) (c : FVec Ideal S_ .f32) (hc : ∀ i, c i = (⊥ : EReal)) (B : Fin 4) (h : Fin 6) (R w : Fin 64) :
    Host.reduce FloatOps.maximumf s c reducesTo_S4x6x64x64x384_S4x6x64x64_d4 h_S_ (ix4 B h R w) = (Finset.univ.sup fun x : Fin 384 => (s (ix5 B h R w x) : EReal) : EReal) := by
  rw [Host.reduce_eq_fold, hc]
  exact Shape.ReducesTo.fold_fiber_r5_a4 reducesTo_S4x6x64x64x384_S4x6x64x64_d4 (ix4 B h R w) (FloatOps.maximumf (F := Ideal) (φ := .f32)) (⊥ : EReal) s
theorem top_at (s : FVec Ideal S4x6x64x64x384 .f32) (B : Fin 4) (h : Fin 6) (R w : Fin 64) :
    top s (ix4 B h R w) = (Finset.univ.sup fun x : Fin 384 => (s (ix5 B h R w x) : EReal) : EReal) := by
  unfold top
  have e : (constant (F := Ideal) S_ .f32 0xFF800000#32 : FVec Ideal S_ .f32) = fun _ => (⊥ : EReal) := funext fun _ => ofBits_bot_f32
  rw [e, maximumf_apply, rowTop_at s _ (fun _ => rfl)]
  exact bot_sup_eq _
theorem weights_at (s : FVec Ideal S4x6x64x64x384 .f32) (B : Fin 4) (h : Fin 6) (R w : Fin 64) (x : Fin 384) :
    weights s (ix5 B h R w x) = Ideal.exp ((s (ix5 B h R w x) : EReal) - top s (ix4 B h R w)) := by
  pointwise [weights, spread]
theorem total_at (e : FVec Ideal S4x6x64x64x384 .f32) (B : Fin 4) (h : Fin 6) (R w : Fin 64) :
    total e (ix4 B h R w) = (∑ x : Fin 384, (e (ix5 B h R w x) : EReal) : EReal) := by
  pointwise [total]
theorem softmax_at (s : FVec Ideal S4x6x64x64x384 .f32) (B : Fin 4) (h : Fin 6) (R w : Fin 64) (x : Fin 384) :
    softmax s (ix5 B h R w x) = Ideal.div (weights s (ix5 B h R w x) : EReal) (total (weights s) (ix4 B h R w)) := by
  pointwise [softmax, spread]

theorem winPart_at (p : FVec Ideal S4x6x64x64x384 .f32) (B : Fin 4) (h : Fin 6) (R w : Fin 64) (x : Fin 128) :
    extractStridedSlice S4x6x64x64x128 ![0, 0, 0, 0, 0] p slices_S4x6x64x64x384_S4x6x64x64x128_0_0_0_0_0 (ix5 B h R w x) = p (ix5 B h R w (⟨x.val, by omega⟩ : Fin 384)) := by
  pointwise

theorem mixWin_at (p : FVec Ideal S4x6x64x64x384 .f32) (v : FVec Ideal S4x64x64x8x16x6x64 .f32) (B : Fin 4) (R w : Fin 64) (h : Fin 6) (d : Fin 64) :
    mixWin p v (ix5 B R w h d) = (∑ x : Fin 8 × Fin 16, (p (ix5 B h R w (winPos x)) : EReal) * v (ix7 B R w x.1 x.2 h d) : EReal) := by
  unfold mixWin
  refine (mixDot_at _ _ _ _ _ _ _).trans (Finset.sum_congr rfl fun x _ => ?_)
  have h1 := x.1.isLt
  have h2 := x.2.isLt
  rw [unflat_at _ _ _ _ _ _ _ (⟨x.1.val * 16 + x.2.val, by omega⟩ : Fin 128) rfl, winPart_at]
  rfl

theorem winScores_at (X : FVec Ideal S4x4352x1152 .bf16) (T : FVec Ideal S6x15x31 .f32) (B : Fin 4) (h : Fin 6) (R w : Fin 64) (a : Fin 8) (b : Fin 16) :
    winScores X T (ix6 B h R w a b) = (∑ d : Fin 64, (qg X (ix5 B R w h d) : EReal) * window (kg X) (ix7 B R w a b h d)) + bias T (ix5 h R w a b) := by
  have e : (broadcastInDim S4x6x64x64x8x16 ![0, 1, 2, 3, 4, 5] bcast_S1x6x64x64x8x16_S4x6x64x64x8x16_0_1_2_3_4_5
      (broadcastInDim S1x6x64x64x8x16 ![1, 2, 3, 4, 5] bcast_S6x64x64x8x16_S1x6x64x64x8x16_1_2_3_4_5 (bias T))) (ix6 B h R w a b) = bias T (ix5 h R w a b) := by
    pointwise
  unfold winScores
  exact congrArg₂ (fun x y : EReal => x + y) (winDot_at _ _ _ _ _ _ _ _) e

end Cert.ReferenceIdeal.Natten
end
-- ==== Proof.Bias.lean ====
/- The bias the launch finds: the relative-position table selected by row and column offset, minus infinity off the window. -/
module

public import proofs.«01_k».proof.Proof.Tables
public import proofs.«01_k».proof.Proof.Finite
public import Idealize.ShloMosaic.Lib.WordCmp

@[expose] public section

set_option maxRecDepth 16384

noncomputable section

open Idealize.ShloMosaic Idealize.ShloMosaic.TcCoe Idealize.ShloMosaic.Tactic

namespace Cert.Natten

/-- A gather read at an index whose operand coordinates are known. -/
theorem gather_at {α : Type} {s si t : Shape} {w : ℕ} (d : GatherDims s si t) (x : s.Idx → α) (idx : IVec si w) (y : t.Idx) (p : s.Idx)
    (h : ∀ a, d.start y idx a + d.batchCoord y a + d.offCoord y a = (p a).val) : Host.gather d x idx y = x p := by
  unfold Host.gather
  congr 1
  funext a
  exact Fin.ext (h a)

end Cert.Natten

namespace Cert.KernelIdeal.Natten

open Cert.KernelIdeal Cert.KernelIdeal.Gen Cert.Natten

/-- The first window column of each grid column. -/
def colStart : IVec S64 32 :=
  minsi (broadcastInDim S64 ![] bcast_S_S64 (id (constantI S_ 32 48#32)))
    (maxsi (broadcastInDim S64 ![] bcast_S_S64 (id (constantI S_ 32 0#32)))
      (subi (iotaInDim S64 32 0) (broadcastInDim S64 ![] bcast_S_S64 (constantI S_ 32 8#32))))

/-- Which key columns lie in the window of a query column. -/
def colOk : IVec S64x64 1 :=
  andi
    (cmpi .sge (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (broadcastInDim S64x1 ![0] bcast_S64_S64x1_0 colStart)))
    (cmpi .slt (broadcastInDim S64x64 ![0, 1] bcast_S1x64_S64x64_0_1 (broadcastInDim S1x64 ![1] bcast_S64_S1x64_1 (iotaInDim S64 32 0)))
      (broadcastInDim S64x64 ![0, 1] bcast_S64x1_S64x64_0_1
        (addi (broadcastInDim S64x1 ![0] bcast_S64_S64x1_0 colStart) (broadcastInDim S64x1 ![] bcast_S_S64x1 (constantI S_ 32 16#32)))))

/-- The column offset of every query and key column, clipped to the table. -/
def colOff : IVec S64x64 32 :=
  minsi (broadcastInDim S64x64 ![] bcast_S_S64x64 (id (constantI S_ 32 30#32)))
    (maxsi (broadcastInDim S64x64 ![] bcast_S_S64x64 (id (constantI S_ 32 0#32)))
      (addi (subi (broadcastInDim S64x64 ![0, 1] bcast_S1x64_S64x64_0_1 (broadcastInDim S1x64 ![1] bcast_S64_S1x64_1 (iotaInDim S64 32 0)))
          (broadcastInDim S64x64 ![0, 1] bcast_S64x1_S64x64_0_1 (broadcastInDim S64x1 ![0] bcast_S64_S64x1_0 (iotaInDim S64 32 0))))
        (broadcastInDim S64x64 ![] bcast_S_S64x64 (constantI S_ 32 15#32))))

/-- The rows of the table, by variant, query row and key row. -/
def rowIdx : IVec S3x4x1x11x1 32 :=
  let d : IVec S3x4x1x11x1 32 := broadcastInDim S3x4x1x11x1 ![0, 1, 3] bcast_S3x4x11_S3x4x1x11x1_0_1_3 (fun i => lit0 (S3x4x11.rowMajor i))
  select (constantI S3x4x1x11x1 1 0#1) (addi d (broadcastInDim S3x4x1x11x1 ![] bcast_S_S3x4x1x11x1 (constantI S_ 32 15#32))) d

/-- The columns of the table, by query column and key column. -/
def colIdx : IVec S1x1x64x1x64 32 :=
  let d : IVec S1x1x64x1x64 32 := broadcastInDim S1x1x64x1x64 ![2, 4] bcast_S64x64_S1x1x64x1x64_2_4 colOff
  select (cmpi .slt d (broadcastInDim S1x1x64x1x64 ![] bcast_S_S1x1x64x1x64 (constantI S_ 32 0#32)))
    (addi d (broadcastInDim S1x1x64x1x64 ![] bcast_S_S1x1x64x1x64 (constantI S_ 32 31#32))) d

/-- The table indices of every element of the bias. -/
def pairIdx : IVec S3x4x64x11x64x2 32 :=
  concatenate S3x4x64x11x64x2 5
    [⟨S3x4x64x11x64x1, broadcastInDim S3x4x64x11x64x1 ![0, 1, 2, 3, 4] bcast_S3x4x64x11x64_S3x4x64x11x64x1_0_1_2_3_4
        (broadcastInDim S3x4x64x11x64 ![0, 1, 2, 3, 4] bcast_S3x4x1x11x1_S3x4x64x11x64_0_1_2_3_4 rowIdx)⟩,
     ⟨S3x4x64x11x64x1, broadcastInDim S3x4x64x11x64x1 ![0, 1, 2, 3, 4] bcast_S3x4x64x11x64_S3x4x64x11x64x1_0_1_2_3_4
        (broadcastInDim S3x4x64x11x64 ![0, 1, 2, 3, 4] bcast_S1x1x64x1x64_S3x4x64x11x64_0_1_2_3_4 colIdx)⟩]
    concatenates_S3x4x64x11x64x1_S3x4x64x11x64x1_S3x4x64x11x64x2_d5

/-- The window, of rows and of columns. -/
def bothOk : IVec S3x1x4x64x11x64 1 :=
  andi
    (broadcastInDim S3x1x4x64x11x64 ![0, 1, 2, 3, 4, 5] bcast_S3x1x4x1x11x1_S3x1x4x64x11x64_0_1_2_3_4_5
      (broadcastInDim S3x1x4x1x11x1 ![0, 2, 4] bcast_S3x4x11_S3x1x4x1x11x1_0_2_4 (fun i => lit1 (S3x4x11.rowMajor i))))
    (broadcastInDim S3x1x4x64x11x64 ![0, 1, 2, 3, 4, 5] bcast_S1x1x1x64x1x64_S3x1x4x64x11x64_0_1_2_3_4_5
      (broadcastInDim S1x1x1x64x1x64 ![3, 5] bcast_S64x64_S1x1x1x64x1x64_3_5 colOk))

/-- The bias. -/
def biasV (B : FVec Ideal S6x15x31 .f32) : FVec Ideal S3x6x256x704 .f32 :=
  shapeCast S3x6x256x704
    (select (broadcastInDim S3x6x4x64x11x64 ![0, 1, 2, 3, 4, 5] bcast_S3x1x4x64x11x64_S3x6x4x64x11x64_0_1_2_3_4_5 bothOk)
      (transpose S3x6x4x64x11x64 [1, 0, 2, 3, 4, 5]
        (Host.gather gather_S6x15x31_S3x4x64x11x64x2_S6x3x4x64x11x64_0_12_n_n_12_5_611 B pairIdx)
        transposes_S6x3x4x64x11x64_S3x6x4x64x11x64_1_0_2_3_4_5)
      (broadcastInDim S3x6x4x64x11x64 ![] bcast_S_S3x6x4x64x11x64 (id (constant S_ .f32 0xFF800000#32))))
    shapeCasts_S3x6x4x64x11x64_S3x6x256x704

variable (m : (ℓ : Loc nD τ sig) → Buf (Elt Ideal) ℓ)

theorem read_v37 (c : Dev nD) : StableHlo.upto (List.flatten [hostOps0, hostOps0_1, hostOps0_2, hostOps0_3, hostOps0_4, hostOps0_5, hostOps0_6])
      (fun b => m (c, b)) 63 (Proc.tc.devRef main_v37)
    = (broadcastInDim S3x4x64x11x64x1 ![0, 1, 2, 3, 4] bcast_S3x4x64x11x64_S3x4x64x11x64x1_0_1_2_3_4
        (broadcastInDim S3x4x64x11x64 ![0, 1, 2, 3, 4] bcast_S3x4x1x11x1_S3x4x64x11x64_0_1_2_3_4 rowIdx) : IVec S3x4x64x11x64x1 32) := by
  after_reads_simp
  rfl

theorem read_v38 (c : Dev nD) : StableHlo.upto (List.flatten [hostOps0, hostOps0_1, hostOps0_2, hostOps0_3, hostOps0_4, hostOps0_5, hostOps0_6])
      (fun b => m (c, b)) 63 (Proc.tc.devRef main_v38)
    = (broadcastInDim S3x4x64x11x64x1 ![0, 1, 2, 3, 4] bcast_S3x4x64x11x64_S3x4x64x11x64x1_0_1_2_3_4
        (broadcastInDim S3x4x64x11x64 ![0, 1, 2, 3, 4] bcast_S1x1x64x1x64_S3x4x64x11x64_0_1_2_3_4 colIdx) : IVec S3x4x64x11x64x1 32) := by
  after_reads_simp
  simp -implicitDefEqProofs only [StableHlo.TRef.toBuf, StableHlo.TRef.ofBuf, cast_cast, cast_eq]
  rfl

theorem V_bias (c : Dev nD) : V m c main_v48 = biasV (m ((c.tc : Thread nD τ).loc main_arg1)) := by
  unfold_abbrev_sides
  after_reads_simp
  simp -implicitDefEqProofs only [StableHlo.TRef.toBuf, StableHlo.TRef.ofBuf, cast_cast, cast_eq]
  rw [read_v37, read_v38]
  rfl

theorem colStart_at (w : Fin 64) : (colStart (ix1 w)).toNat = min 48 (w.val - 8) := by
  revert w; decide +kernel

theorem colOk_at (w k : Fin 64) : colOk (ix2 w k) = BitVec.ofBool (min 48 (w.val - 8) ≤ k.val && k.val < min 48 (w.val - 8) + 16) := by
  revert w k; decide +kernel

theorem colOff_at (w k : Fin 64) : (colOff (ix2 w k)).toInt.toNat = min 30 (k.val + 15 - w.val) := by
  revert w k; decide +kernel

end Cert.KernelIdeal.Natten
end
-- ==== Proof.BiasAt.lean ====
/- The bias the launch finds, at an index. -/
module

public import proofs.«01_k».proof.Proof.Bias
public import Idealize.ShloMosaic.Lib.ValueIdxRank6

@[expose] public section

set_option maxRecDepth 16384

noncomputable section

open Idealize.ShloMosaic Idealize.ShloMosaic.TcCoe Idealize.ShloMosaic.Tactic

namespace Cert.KernelIdeal.Natten

open Cert.KernelIdeal Cert.KernelIdeal.Gen Cert.Natten

theorem colIdx_nonneg (w k : Fin 64) : IntOp.cmpi .slt (colOff (ix2 w k)) 0#32 = 0#1 := by
  revert w k; decide +kernel

theorem pairIdx_0 (v : Fin 3) (q : Fin 4) (w : Fin 64) (i : Fin 11) (k : Fin 64) :
    pairIdx (ix6 v q w i k (0 : Fin 2)) = lit0 (S3x4x11.rowMajor (ix3 v q i)) := by
  pointwise [pairIdx, rowIdx]

theorem pairIdx_1 (v : Fin 3) (q : Fin 4) (w : Fin 64) (i : Fin 11) (k : Fin 64) :
    pairIdx (ix6 v q w i k (1 : Fin 2)) = colOff (ix2 w k) := by
  pointwise [pairIdx, colIdx]
  rw [colIdx_nonneg]
  rfl

theorem bothOk_at (v : Fin 3) (q : Fin 4) (w : Fin 64) (i : Fin 11) (k : Fin 64) :
    bothOk (ix6 v (0 : Fin 1) q w i k) = IntOp.andi (lit1 (S3x4x11.rowMajor (ix3 v q i))) (colOk (ix2 w k)) := by
  pointwise [bothOk]

theorem pick_at (B : FVec Ideal S6x15x31 .f32) (v : Fin 3) (h : Fin 6) (q : Fin 4) (w : Fin 64) (i : Fin 11) (k : Fin 64)
    (y z : BitVec 32) (hy : lit0 (S3x4x11.rowMajor (ix3 v q i)) = y) (hz : colOff (ix2 w k) = z) :
    Host.gather gather_S6x15x31_S3x4x64x11x64x2_S6x3x4x64x11x64_0_12_n_n_12_5_611 B pairIdx (ix6 h v q w i k)
      = B (ix3 h ⟨min y.toInt.toNat 14, by omega⟩ ⟨min z.toInt.toNat 30, by omega⟩) := by
  refine gather_at _ _ _ _ _ fun a => ?_
  have hb : ∀ a, gather_S6x15x31_S3x4x64x11x64x2_S6x3x4x64x11x64_0_12_n_n_12_5_611.batchCoord (ix6 h v q w i k) a = 0 := fun a =>
    GatherDims.batchCoord_eq_zero _ _ _ (fun h => by simp [gather_S6x15x31_S3x4x64x11x64x2_S6x3x4x64x11x64_0_12_n_n_12_5_611] at h)
  rw [hb]
  match a with
  | ⟨0, _⟩ => exact Nat.zero_add _
  | ⟨1, _⟩ =>
    rw [GatherDims.offCoord_eq_zero _ _ _ (fun h => ((GatherDims.mem_sKept _ _).mp h).1
      (by simp [gather_S6x15x31_S3x4x64x11x64x2_S6x3x4x64x11x64_0_12_n_n_12_5_611]))]
    show min (pairIdx (GatherDims.siIdx gather_S6x15x31_S3x4x64x11x64x2_S6x3x4x64x11x64_0_12_n_n_12_5_611 (ix6 h v q w i k) ⟨0, by decide⟩)).toInt.toNat 14 + 0 + 0 = _
    rw [show GatherDims.siIdx gather_S6x15x31_S3x4x64x11x64x2_S6x3x4x64x11x64_0_12_n_n_12_5_611 (ix6 h v q w i k) ⟨0, by decide⟩
      = ix6 v q w i k (0 : Fin 2) from by
        funext b; refine Fin.ext ?_
        match b with
        | ⟨0, _⟩ => rfl
        | ⟨1, _⟩ => rfl
        | ⟨2, _⟩ => rfl
        | ⟨3, _⟩ => rfl
        | ⟨4, _⟩ => rfl
        | ⟨5, _⟩ => rfl, pairIdx_0, hy]
    rfl
  | ⟨2, _⟩ =>
    rw [GatherDims.offCoord_eq_zero _ _ _ (fun h => ((GatherDims.mem_sKept _ _).mp h).1
      (by simp [gather_S6x15x31_S3x4x64x11x64x2_S6x3x4x64x11x64_0_12_n_n_12_5_611]))]
    show min (pairIdx (GatherDims.siIdx gather_S6x15x31_S3x4x64x11x64x2_S6x3x4x64x11x64_0_12_n_n_12_5_611 (ix6 h v q w i k) ⟨1, by decide⟩)).toInt.toNat 30 + 0 + 0 = _
    rw [show GatherDims.siIdx gather_S6x15x31_S3x4x64x11x64x2_S6x3x4x64x11x64_0_12_n_n_12_5_611 (ix6 h v q w i k) ⟨1, by decide⟩
      = ix6 v q w i k (1 : Fin 2) from by
        funext b; refine Fin.ext ?_
        match b with
        | ⟨0, _⟩ => rfl
        | ⟨1, _⟩ => rfl
        | ⟨2, _⟩ => rfl
        | ⟨3, _⟩ => rfl
        | ⟨4, _⟩ => rfl
        | ⟨5, _⟩ => rfl, pairIdx_1, hz]
    rfl

/-- The bias at variant `v`, head `h`, query row `q`, query column `w`, key row `i`, key column `k`. -/
theorem biasV_at (B : FVec Ideal S6x15x31 .f32) (v : Fin 3) (h : Fin 6) (q : Fin 4) (w : Fin 64) (i : Fin 11) (k : Fin 64)
    (n : Fin 256) (hn : n.val = q.val * 64 + w.val) (x : Fin 704) (hx : x.val = i.val * 64 + k.val)
    (y z : BitVec 32) (hy : lit0 (S3x4x11.rowMajor (ix3 v q i)) = y) (hz : colOff (ix2 w k) = z)
    (a b : BitVec 1) (ha : lit1 (S3x4x11.rowMajor (ix3 v q i)) = a) (hb : colOk (ix2 w k) = b) :
    biasV B (ix4 v h n x) = Scalar.select (IntOp.andi a b)
      (B (ix3 h ⟨min y.toInt.toNat 14, by omega⟩ ⟨min z.toInt.toNat 30, by omega⟩)) (Ideal.ofBits .f32 0xFF800000#32) := by
  unfold biasV
  rw [shapeCast_apply _ _ _ (ix6 v h q w i k) (by
    rw [Shape.rowMajor_val_six, Shape.rowMajor_val_four]
    show ((((v.val * 6 + h.val) * 4 + q.val) * 64 + w.val) * 11 + i.val) * 64 + k.val = ((v.val * 6 + h.val) * 256 + n.val) * 704 + x.val
    omega)]
  refine Eq.trans (b := Scalar.select (bothOk (ix6 v (0 : Fin 1) q w i k))
    (Host.gather gather_S6x15x31_S3x4x64x11x64x2_S6x3x4x64x11x64_0_12_n_n_12_5_611 B pairIdx (ix6 h v q w i k))
    (Ideal.ofBits .f32 0xFF800000#32)) ?_ (by rw [pick_at B v h q w i k y z hy hz, bothOk_at, ha, hb])
  pointwise
  rfl

/-! ## The window -/

/-- The first key row of a row block's span, of a query row's window, and the first key column of a query column's window. -/
def ws (r : ℕ) : ℕ := min (4 * r - 4) 53
def rs (R : ℕ) : ℕ := min (R - 4) 56
def cs (w : ℕ) : ℕ := min (w - 8) 48

theorem rowOk_at : ∀ (r : Fin 16) (q : Fin 4) (i : Fin 11), lit1 (S3x4x11.rowMajor (ix3 (⟨variant r, variant_lt r⟩ : Fin 3) q i))
    = BitVec.ofBool (rs (4 * r.val + q.val) ≤ ws r.val + i.val && ws r.val + i.val < rs (4 * r.val + q.val) + 8) := by
  decide +kernel

theorem rowOff_at : ∀ (r : Fin 16) (q : Fin 4) (i : Fin 11), rs (4 * r.val + q.val) ≤ ws r.val + i.val → ws r.val + i.val < rs (4 * r.val + q.val) + 8 →
    (lit0 (S3x4x11.rowMajor (ix3 (⟨variant r, variant_lt r⟩ : Fin 3) q i))).toInt.toNat = ws r.val + i.val + 7 - (4 * r.val + q.val) := by
  decide +kernel

theorem select_ofBool {α : Type} (p : Bool) (x y : α) : Scalar.select (BitVec.ofBool p) x y = if p then x else y := by
  cases p <;> rfl

theorem andi_bits (p q : Bool) : IntOp.andi (BitVec.ofBool p) (BitVec.ofBool q) = BitVec.ofBool (p && q) := by
  cases p <;> cases q <;> rfl

/-- The bias of a key of the window. -/
theorem bias_win (B : FVec Ideal S6x15x31 .f32) (r : Fin 16) (h : Fin 6) (q : Fin 4) (w : Fin 64) (a : Fin 8) (b : Fin 16)
    (n : Fin 256) (hn : n.val = q.val * 64 + w.val) (x : Fin 704)
    (hx : x.val = (rs (4 * r.val + q.val) + a.val - ws r.val) * 64 + (cs w.val + b.val))
    (y : Fin 15) (hy : y.val = rs (4 * r.val + q.val) + a.val + 7 - (4 * r.val + q.val))
    (z : Fin 31) (hz : z.val = cs w.val + b.val + 15 - w.val) :
    biasV B (ix4 (⟨variant r, variant_lt r⟩ : Fin 3) h n x) = B (ix3 h y z) := by
  have hr := r.isLt; have hq := q.isLt; have hw := w.isLt; have ha := a.isLt; have hb := b.isLt
  have e1 : ws r.val = min (4 * r.val - 4) 53 := rfl
  have e2 : rs (4 * r.val + q.val) = min (4 * r.val + q.val - 4) 56 := rfl
  have e3 : cs w.val = min (w.val - 8) 48 := rfl
  have hi : rs (4 * r.val + q.val) + a.val - ws r.val < 11 := by omega
  have hk : cs w.val + b.val < 64 := by omega
  have d1 : rs (4 * r.val + q.val) ≤ ws r.val + (rs (4 * r.val + q.val) + a.val - ws r.val) := by omega
  have d2 : ws r.val + (rs (4 * r.val + q.val) + a.val - ws r.val) < rs (4 * r.val + q.val) + 8 := by omega
  rw [biasV_at B _ h q w ⟨_, hi⟩ ⟨_, hk⟩ n hn x hx _ _ rfl rfl _ _ (rowOk_at r q ⟨_, hi⟩) (colOk_at w ⟨_, hk⟩), andi_bits, select_ofBool]
  rw [if_pos (by simp only [Bool.and_eq_true, decide_eq_true_eq]; omega)]
  refine congrArg B (congrArg₂ (ix3 h) (Fin.ext ?_) (Fin.ext ?_))
  · show min _ 14 = _
    rw [rowOff_at r q ⟨_, hi⟩ d1 d2, hy]
    show min (ws r.val + (rs (4 * r.val + q.val) + a.val - ws r.val) + 7 - (4 * r.val + q.val)) 14 = _
    omega
  · show min _ 30 = _
    rw [colOff_at w ⟨_, hk⟩, hz]
    show min (min 30 (cs w.val + b.val + 15 - w.val)) 30 = _
    omega

/-- The bias of a key off the window. -/
theorem bias_off (B : FVec Ideal S6x15x31 .f32) (r : Fin 16) (h : Fin 6) (q : Fin 4) (w : Fin 64)
    (n : Fin 256) (hn : n.val = q.val * 64 + w.val) (x : Fin 704)
    (hx : ∀ (a : Fin 8) (b : Fin 16), (rs (4 * r.val + q.val) + a.val - ws r.val) * 64 + (cs w.val + b.val) ≠ x.val) :
    biasV B (ix4 (⟨variant r, variant_lt r⟩ : Fin 3) h n x) = (⊥ : EReal) := by
  have hr := r.isLt; have hq := q.isLt; have hw := w.isLt; have hx' := x.isLt
  have e1 : ws r.val = min (4 * r.val - 4) 53 := rfl
  have e2 : rs (4 * r.val + q.val) = min (4 * r.val + q.val - 4) 56 := rfl
  have e3 : cs w.val = min (w.val - 8) 48 := rfl
  have hi : x.val / 64 < 11 := by omega
  have hk : x.val % 64 < 64 := by omega
  rw [biasV_at B _ h q w ⟨_, hi⟩ ⟨_, hk⟩ n hn x (by show x.val = x.val / 64 * 64 + x.val % 64; omega) _ _ rfl rfl _ _
    (rowOk_at r q ⟨_, hi⟩) (colOk_at w ⟨_, hk⟩), andi_bits, select_ofBool]
  rw [if_neg, ofBits_bot_f32]
  simp only [Bool.and_eq_true, decide_eq_true_eq]
  rintro ⟨⟨h1, h2⟩, h3, h4⟩
  refine hx ⟨ws r.val + x.val / 64 - rs (4 * r.val + q.val), by omega⟩ ⟨x.val % 64 - cs w.val, by omega⟩ ?_
  show (rs (4 * r.val + q.val) + (ws r.val + x.val / 64 - rs (4 * r.val + q.val)) - ws r.val) * 64 + (cs w.val + (x.val % 64 - cs w.val)) = x.val
  omega

end Cert.KernelIdeal.Natten
end
-- ==== Proof.RefAt.lean ====
/- The reference's stages at an index: the tables, the selections and the projections. -/
module

public import proofs.«01_k».proof.Proof.Ref
public import proofs.«01_k».proof.Proof.BiasAt
public import Idealize.ShloMosaic.Lib.Pipeline.Value

@[expose] public section

set_option maxRecDepth 16384

noncomputable section

namespace Cert.ReferenceIdeal.Natten

open Idealize.ShloMosaic Idealize.ShloMosaic.TcCoe Idealize.ShloMosaic.Tactic
open Cert.ReferenceIdeal Cert.ReferenceIdeal.Gen Cert.Natten
open Cert.KernelIdeal.Natten (rs cs)

theorem row_word : ∀ (R : Fin 64) (a : Fin 8), (rowWrap 64#32 rowTab (ix4 R (0 : Fin 1) a (0 : Fin 1))).toInt.toNat = rs R.val + a.val := by
  decide +kernel
theorem col_word : ∀ (w : Fin 64) (b : Fin 16), (colWrap 64#32 colTab (ix4 (0 : Fin 1) w (0 : Fin 1) b)).toInt.toNat = cs w.val + b.val := by
  decide +kernel
theorem rowRel_word : ∀ (R : Fin 64) (a : Fin 8), (rowWrap 15#32 rowRel (ix4 R (0 : Fin 1) a (0 : Fin 1))).toInt.toNat = rs R.val + a.val + 7 - R.val := by
  decide +kernel
theorem colRel_word : ∀ (w : Fin 64) (b : Fin 16), (colWrap 31#32 colRel (ix4 (0 : Fin 1) w (0 : Fin 1) b)).toInt.toNat = cs w.val + b.val + 15 - w.val := by
  decide +kernel

theorem pairTab_0 (x : IVec S64x1x8x1 32) (y : IVec S1x64x1x16 32) (R w : Fin 64) (a : Fin 8) (b : Fin 16) :
    pairTab x y (ix5 R w a b (0 : Fin 2)) = x (ix4 R (0 : Fin 1) a (0 : Fin 1)) := by
  pointwise [pairTab]
theorem pairTab_1 (x : IVec S64x1x8x1 32) (y : IVec S1x64x1x16 32) (R w : Fin 64) (a : Fin 8) (b : Fin 16) :
    pairTab x y (ix5 R w a b (1 : Fin 2)) = y (ix4 (0 : Fin 1) w (0 : Fin 1) b) := by
  pointwise [pairTab]

theorem row_lt (R : Fin 64) (a : Fin 8) : rs R.val + a.val < 64 := by unfold rs; omega
theorem col_lt (w : Fin 64) (b : Fin 16) : cs w.val + b.val < 64 := by unfold cs; omega
theorem rowRel_lt (R : Fin 64) (a : Fin 8) : rs R.val + a.val + 7 - R.val < 15 := by unfold rs; omega
theorem colRel_lt (w : Fin 64) (b : Fin 16) : cs w.val + b.val + 15 - w.val < 31 := by unfold cs; omega

theorem window_at (K : FVec Ideal S4x64x64x6x64 .f32) (B : Fin 4) (R w : Fin 64) (a : Fin 8) (b : Fin 16) (h : Fin 6) (d : Fin 64) :
    window K (ix7 B R w a b h d) = K (ix5 B (⟨rs R.val + a.val, row_lt R a⟩ : Fin 64) (⟨cs w.val + b.val, col_lt w b⟩ : Fin 64) h d) := by
  refine gather_at _ _ _ _ _ fun e => ?_
  have hb : ∀ e, gather_S4x64x64x6x64_S64x64x8x16x2_S4x64x64x8x16x6x64_056_12_n_n_12_4_411664.batchCoord (ix7 B R w a b h d) e = 0 := fun e =>
    GatherDims.batchCoord_eq_zero _ _ _ (fun h => by simp [gather_S4x64x64x6x64_S64x64x8x16x2_S4x64x64x8x16x6x64_056_12_n_n_12_4_411664] at h)
  rw [hb]
  match e with
  | ⟨0, _⟩ => exact Nat.zero_add _
  | ⟨1, _⟩ =>
    rw [GatherDims.offCoord_eq_zero _ _ _ (fun h => ((GatherDims.mem_sKept _ _).mp h).1
      (by simp [gather_S4x64x64x6x64_S64x64x8x16x2_S4x64x64x8x16x6x64_056_12_n_n_12_4_411664]))]
    show min (pairTab (rowWrap 64#32 rowTab) (colWrap 64#32 colTab) (GatherDims.siIdx gather_S4x64x64x6x64_S64x64x8x16x2_S4x64x64x8x16x6x64_056_12_n_n_12_4_411664 (ix7 B R w a b h d) ⟨0, by decide⟩)).toInt.toNat 63 + 0 + 0 = _
    rw [show GatherDims.siIdx gather_S4x64x64x6x64_S64x64x8x16x2_S4x64x64x8x16x6x64_056_12_n_n_12_4_411664 (ix7 B R w a b h d) ⟨0, by decide⟩
      = ix5 R w a b (0 : Fin 2) from by
        funext e; refine Fin.ext ?_
        match e with
        | ⟨0, _⟩ => rfl
        | ⟨1, _⟩ => rfl
        | ⟨2, _⟩ => rfl
        | ⟨3, _⟩ => rfl
        | ⟨4, _⟩ => rfl, pairTab_0, row_word]
    have := row_lt R a
    show min (rs R.val + a.val) 63 + 0 + 0 = rs R.val + a.val
    omega
  | ⟨2, _⟩ =>
    rw [GatherDims.offCoord_eq_zero _ _ _ (fun h => ((GatherDims.mem_sKept _ _).mp h).1
      (by simp [gather_S4x64x64x6x64_S64x64x8x16x2_S4x64x64x8x16x6x64_056_12_n_n_12_4_411664]))]
    show min (pairTab (rowWrap 64#32 rowTab) (colWrap 64#32 colTab) (GatherDims.siIdx gather_S4x64x64x6x64_S64x64x8x16x2_S4x64x64x8x16x6x64_056_12_n_n_12_4_411664 (ix7 B R w a b h d) ⟨1, by decide⟩)).toInt.toNat 63 + 0 + 0 = _
    rw [show GatherDims.siIdx gather_S4x64x64x6x64_S64x64x8x16x2_S4x64x64x8x16x6x64_056_12_n_n_12_4_411664 (ix7 B R w a b h d) ⟨1, by decide⟩
      = ix5 R w a b (1 : Fin 2) from by
        funext e; refine Fin.ext ?_
        match e with
        | ⟨0, _⟩ => rfl
        | ⟨1, _⟩ => rfl
        | ⟨2, _⟩ => rfl
        | ⟨3, _⟩ => rfl
        | ⟨4, _⟩ => rfl, pairTab_1, col_word]
    have := col_lt w b
    show min (cs w.val + b.val) 63 + 0 + 0 = cs w.val + b.val
    omega
  | ⟨3, _⟩ => exact Nat.zero_add _
  | ⟨4, _⟩ => exact Nat.zero_add _

theorem bias_at (T : FVec Ideal S6x15x31 .f32) (h : Fin 6) (R w : Fin 64) (a : Fin 8) (b : Fin 16) :
    bias T (ix5 h R w a b) = T (ix3 h (⟨rs R.val + a.val + 7 - R.val, rowRel_lt R a⟩ : Fin 15) (⟨cs w.val + b.val + 15 - w.val, colRel_lt w b⟩ : Fin 31)) := by
  refine gather_at _ _ _ _ _ fun e => ?_
  have hb : ∀ e, gather_S6x15x31_S64x64x8x16x2_S6x64x64x8x16_0_12_n_n_12_4_611.batchCoord (ix5 h R w a b) e = 0 := fun e =>
    GatherDims.batchCoord_eq_zero _ _ _ (fun h => by simp [gather_S6x15x31_S64x64x8x16x2_S6x64x64x8x16_0_12_n_n_12_4_611] at h)
  rw [hb]
  match e with
  | ⟨0, _⟩ => exact Nat.zero_add _
  | ⟨1, _⟩ =>
    rw [GatherDims.offCoord_eq_zero _ _ _ (fun h => ((GatherDims.mem_sKept _ _).mp h).1
      (by simp [gather_S6x15x31_S64x64x8x16x2_S6x64x64x8x16_0_12_n_n_12_4_611]))]
    show min (pairTab (rowWrap 15#32 rowRel) (colWrap 31#32 colRel) (GatherDims.siIdx gather_S6x15x31_S64x64x8x16x2_S6x64x64x8x16_0_12_n_n_12_4_611 (ix5 h R w a b) ⟨0, by decide⟩)).toInt.toNat 14 + 0 + 0 = _
    rw [show GatherDims.siIdx gather_S6x15x31_S64x64x8x16x2_S6x64x64x8x16_0_12_n_n_12_4_611 (ix5 h R w a b) ⟨0, by decide⟩
      = ix5 R w a b (0 : Fin 2) from by
        funext e; refine Fin.ext ?_
        match e with
        | ⟨0, _⟩ => rfl
        | ⟨1, _⟩ => rfl
        | ⟨2, _⟩ => rfl
        | ⟨3, _⟩ => rfl
        | ⟨4, _⟩ => rfl, pairTab_0, rowRel_word]
    have := rowRel_lt R a
    show min (rs R.val + a.val + 7 - R.val) 14 + 0 + 0 = rs R.val + a.val + 7 - R.val
    omega
  | ⟨2, _⟩ =>
    rw [GatherDims.offCoord_eq_zero _ _ _ (fun h => ((GatherDims.mem_sKept _ _).mp h).1
      (by simp [gather_S6x15x31_S64x64x8x16x2_S6x64x64x8x16_0_12_n_n_12_4_611]))]
    show min (pairTab (rowWrap 15#32 rowRel) (colWrap 31#32 colRel) (GatherDims.siIdx gather_S6x15x31_S64x64x8x16x2_S6x64x64x8x16_0_12_n_n_12_4_611 (ix5 h R w a b) ⟨1, by decide⟩)).toInt.toNat 30 + 0 + 0 = _
    rw [show GatherDims.siIdx gather_S6x15x31_S64x64x8x16x2_S6x64x64x8x16_0_12_n_n_12_4_611 (ix5 h R w a b) ⟨1, by decide⟩
      = ix5 R w a b (1 : Fin 2) from by
        funext e; refine Fin.ext ?_
        match e with
        | ⟨0, _⟩ => rfl
        | ⟨1, _⟩ => rfl
        | ⟨2, _⟩ => rfl
        | ⟨3, _⟩ => rfl
        | ⟨4, _⟩ => rfl, pairTab_1, colRel_word]
    have := colRel_lt w b
    show min (cs w.val + b.val + 15 - w.val) 30 + 0 + 0 = cs w.val + b.val + 15 - w.val
    omega

end Cert.ReferenceIdeal.Natten
end
-- ==== Proof.RefProj.lean ====
/- The reference's stages at an index: the projections, the softmax and the products. -/
module

public import proofs.«01_k».proof.Proof.Ref
public import Idealize.ShloMosaic.Lib.Pipeline.Value
public import Idealize.ShloMosaic.Lib.ValueIdxRank6

@[expose] public section

set_option maxRecDepth 16384

noncomputable section

namespace Cert.ReferenceIdeal.Natten

open Idealize.ShloMosaic Idealize.ShloMosaic.TcCoe Idealize.ShloMosaic.Tactic
open Cert.ReferenceIdeal Cert.ReferenceIdeal.Gen Cert.Natten

/-- The token at a place of the grid. -/
def token (R w : Fin 64) : Fin 4096 := ⟨R.val * 64 + w.val, by omega⟩
/-- Column `d` of head `h`. -/
def lane64 (h : Fin 6) (d : Fin 64) : Fin 384 := ⟨h.val * 64 + d.val, by omega⟩

theorem grid_at (x : FVec Ideal S4x4096x6x64 .f32) (B : Fin 4) (R w : Fin 64) (h : Fin 6) (d : Fin 64) :
    shapeCast S4x64x64x6x64 x shapeCasts_S4x4096x6x64_S4x64x64x6x64 (ix5 B R w h d) = x (ix4 B (token R w) h d) := by
  refine shapeCast_apply x _ _ _ ?_
  rw [Shape.rowMajor_val_five, Shape.rowMajor_val_four]
  show ((((B.val * 4096 + (R.val * 64 + w.val)) * 6 + h.val) * 64 + d.val) : ℕ) = ((((B.val * 64 + R.val) * 64 + w.val) * 6 + h.val) * 64 + d.val)
  omega
theorem heads_at (x : FVec Ideal S4x4096x384 .f32) (B : Fin 4) (t : Fin 4096) (h : Fin 6) (d : Fin 64) :
    shapeCast S4x4096x6x64 x shapeCasts_S4x4096x384_S4x4096x6x64 (ix4 B t h d) = x (ix3 B t (lane64 h d)) := by
  refine shapeCast_apply x _ _ _ ?_
  rw [Shape.rowMajor_val_four, Shape.rowMajor_val_three]
  show ((B.val * 4096 + t.val) * 384 + (h.val * 64 + d.val) : ℕ) = (((B.val * 4096 + t.val) * 6 + h.val) * 64 + d.val)
  omega
theorem heads_ctx_at (x : FVec Ideal S4x256x384 .f32) (B : Fin 4) (t : Fin 256) (h : Fin 6) (d : Fin 64) :
    shapeCast S4x256x6x64 x shapeCasts_S4x256x384_S4x256x6x64 (ix4 B t h d) = x (ix3 B t (lane64 h d)) := by
  refine shapeCast_apply x _ _ _ ?_
  rw [Shape.rowMajor_val_four, Shape.rowMajor_val_three]
  show ((B.val * 256 + t.val) * 384 + (h.val * 64 + d.val) : ℕ) = (((B.val * 256 + t.val) * 6 + h.val) * 64 + d.val)
  omega

theorem q_slice (X : FVec Ideal S4x4352x1152 .bf16) (B : Fin 4) (t : Fin 4096) (x : Fin 384) :
    (extractStridedSlice S4x4096x384 ![0, 0, 0] (latent X) slices_S4x4096x1152_S4x4096x384_0_0_0) (ix3 B t x)
      = X (ix3 B (⟨256 + t.val, by omega⟩ : Fin 4352) (⟨x.val, by omega⟩ : Fin 1152)) := by
  pointwise [latent]
theorem k_slice (X : FVec Ideal S4x4352x1152 .bf16) (B : Fin 4) (t : Fin 4096) (x : Fin 384) :
    (extractStridedSlice S4x4096x384 ![0, 0, 384] (latent X) slices_S4x4096x1152_S4x4096x384_0_0_384) (ix3 B t x)
      = X (ix3 B (⟨256 + t.val, by omega⟩ : Fin 4352) (⟨384 + x.val, by omega⟩ : Fin 1152)) := by
  pointwise [latent]
theorem v_slice (X : FVec Ideal S4x4352x1152 .bf16) (B : Fin 4) (t : Fin 4096) (x : Fin 384) :
    (extractStridedSlice S4x4096x384 ![0, 0, 768] (latent X) slices_S4x4096x1152_S4x4096x384_0_0_768) (ix3 B t x)
      = X (ix3 B (⟨256 + t.val, by omega⟩ : Fin 4352) (⟨768 + x.val, by omega⟩ : Fin 1152)) := by
  pointwise [latent]
theorem kc_slice (X : FVec Ideal S4x4352x1152 .bf16) (B : Fin 4) (t : Fin 256) (x : Fin 384) :
    (extractStridedSlice S4x256x384 ![0, 0, 384] (context X) slices_S4x256x1152_S4x256x384_0_0_384) (ix3 B t x)
      = X (ix3 B (⟨t.val, by omega⟩ : Fin 4352) (⟨384 + x.val, by omega⟩ : Fin 1152)) := by
  pointwise [context]
theorem vc_slice (X : FVec Ideal S4x4352x1152 .bf16) (B : Fin 4) (t : Fin 256) (x : Fin 384) :
    (extractStridedSlice S4x256x384 ![0, 0, 768] (context X) slices_S4x256x1152_S4x256x384_0_0_768) (ix3 B t x)
      = X (ix3 B (⟨t.val, by omega⟩ : Fin 4352) (⟨768 + x.val, by omega⟩ : Fin 1152)) := by
  pointwise [context]

theorem scale_at (x : FVec Ideal S4x4096x6x64 .f32) (B : Fin 4) (t : Fin 4096) (h : Fin 6) (d : Fin 64) :
    (mulf x (broadcastInDim S4x4096x6x64 ![] bcast_S_S4x4096x6x64 (constant S_ .f32 0x3E000000#32))) (ix4 B t h d)
      = (x (ix4 B t h d) : EReal) * (((1 : ℝ) / 8 : ℝ) : EReal) := by
  pointwise
  rw [ofBits_eighth_f32]

theorem qg_at (X : FVec Ideal S4x4352x1152 .bf16) (B : Fin 4) (R w : Fin 64) (h : Fin 6) (d : Fin 64) :
    qg X (ix5 B R w h d) = (X (ix3 B (⟨256 + (R.val * 64 + w.val), by omega⟩ : Fin 4352) (⟨h.val * 64 + d.val, by omega⟩ : Fin 1152)) : EReal) * (((1 : ℝ) / 8 : ℝ) : EReal) := by
  unfold qg
  refine (grid_at _ _ _ _ _ _).trans ((scale_at _ _ _ _ _).trans ?_)
  rw [heads_at, q_slice]
  rfl
theorem kg_at (X : FVec Ideal S4x4352x1152 .bf16) (B : Fin 4) (R w : Fin 64) (h : Fin 6) (d : Fin 64) :
    kg X (ix5 B R w h d) = X (ix3 B (⟨256 + (R.val * 64 + w.val), by omega⟩ : Fin 4352) (⟨384 + (h.val * 64 + d.val), by omega⟩ : Fin 1152)) := by
  unfold kg
  exact (grid_at _ _ _ _ _ _).trans ((heads_at _ _ _ _ _).trans (k_slice _ _ _ _))
theorem vg_at (X : FVec Ideal S4x4352x1152 .bf16) (B : Fin 4) (R w : Fin 64) (h : Fin 6) (d : Fin 64) :
    vg X (ix5 B R w h d) = X (ix3 B (⟨256 + (R.val * 64 + w.val), by omega⟩ : Fin 4352) (⟨768 + (h.val * 64 + d.val), by omega⟩ : Fin 1152)) := by
  unfold vg
  exact (grid_at _ _ _ _ _ _).trans ((heads_at _ _ _ _ _).trans (v_slice _ _ _ _))
theorem kc_at (X : FVec Ideal S4x4352x1152 .bf16) (B : Fin 4) (n : Fin 256) (h : Fin 6) (d : Fin 64) :
    kc X (ix4 B n h d) = X (ix3 B (⟨n.val, by omega⟩ : Fin 4352) (⟨384 + (h.val * 64 + d.val), by omega⟩ : Fin 1152)) := by
  unfold kc
  exact (heads_ctx_at _ _ _ _ _).trans (kc_slice _ _ _ _)
theorem vc_at (X : FVec Ideal S4x4352x1152 .bf16) (B : Fin 4) (n : Fin 256) (h : Fin 6) (d : Fin 64) :
    vc X (ix4 B n h d) = X (ix3 B (⟨n.val, by omega⟩ : Fin 4352) (⟨768 + (h.val * 64 + d.val), by omega⟩ : Fin 1152)) := by
  unfold vc
  exact (heads_ctx_at _ _ _ _ _).trans (vc_slice _ _ _ _)

end Cert.ReferenceIdeal.Natten
end
-- ==== Proof.RefOut.lean ====
/- The reference's result at an index. -/
module

public import proofs.«01_k».proof.Proof.RefDot
public import proofs.«01_k».proof.Proof.RefAt
public import proofs.«01_k».proof.Proof.RefProj
public import Idealize.ShloMosaic.Lib.Pipeline.Value
public import Idealize.ShloMosaic.Lib.ValueIdxRank6

@[expose] public section

set_option maxRecDepth 16384

noncomputable section

namespace Cert.ReferenceIdeal.Natten

open Idealize.ShloMosaic Idealize.ShloMosaic.TcCoe Idealize.ShloMosaic.Tactic
open Cert.ReferenceIdeal Cert.ReferenceIdeal.Gen Cert.Natten

theorem merge_at (x : FVec Ideal S4x64x64x6x64 .f32) (B : Fin 4) (R w : Fin 64) (h : Fin 6) (d : Fin 64)
    (t : Fin 4096) (c : Fin 384) (ht : t.val = R.val * 64 + w.val) (hc : c.val = h.val * 64 + d.val) :
    shapeCast S4x4096x384 x shapeCasts_S4x64x64x6x64_S4x4096x384 (ix3 B t c) = x (ix5 B R w h d) := by
  refine shapeCast_apply x _ _ _ ?_
  rw [Shape.rowMajor_val_five, Shape.rowMajor_val_three]
  show ((((B.val * 64 + R.val) * 64 + w.val) * 6 + h.val) * 64 + d.val : ℕ) = (B.val * 4096 + t.val) * 384 + c.val
  omega

theorem sum_out_at (x y : FVec Ideal S4x64x64x6x64 .f32) (B : Fin 4) (R w : Fin 64) (h : Fin 6) (d : Fin 64)
    (t : Fin 4096) (c : Fin 384) (ht : t.val = R.val * 64 + w.val) (hc : c.val = h.val * 64 + d.val) :
    truncf .bf16 (shapeCast S4x4096x384 (addf x y) shapeCasts_S4x64x64x6x64_S4x4096x384) bitsLt_bf16_f32 (ix3 B t c)
      = (x (ix5 B R w h d) : EReal) + y (ix5 B R w h d) := by
  refine (truncf_apply _ _ _ _).trans ?_
  rw [Ideal.truncf_def, merge_at _ B R w h d t c ht hc]
  rfl

/-- One query's attention as the reference computes it, from its scores. -/
def two (t : Fin 8 × Fin 16 → EReal) (c : Fin 256 → EReal) (v : Fin 8 × Fin 16 → EReal) (vc : Fin 256 → EReal) : EReal :=
  ∑ x, Ideal.div (Ideal.exp (t x - max (Finset.univ.sup t) (Finset.univ.sup c)))
      (∑ x, Ideal.exp (t x - max (Finset.univ.sup t) (Finset.univ.sup c)) + ∑ x, Ideal.exp (c x - max (Finset.univ.sup t) (Finset.univ.sup c))) * v x
    + ∑ x, Ideal.div (Ideal.exp (c x - max (Finset.univ.sup t) (Finset.univ.sup c)))
      (∑ x, Ideal.exp (t x - max (Finset.univ.sup t) (Finset.univ.sup c)) + ∑ x, Ideal.exp (c x - max (Finset.univ.sup t) (Finset.univ.sup c))) * vc x

theorem attend_at (s : FVec Ideal S4x6x64x64x8x16 .f32) (u : FVec Ideal S4x6x64x64x256 .f32) (v : FVec Ideal S4x64x64x8x16x6x64 .f32)
    (vc : FVec Ideal S4x256x6x64 .f32) (B : Fin 4) (R w : Fin 64) (h : Fin 6) (d : Fin 64) :
    (mixWin (softmax (scores s u)) v (ix5 B R w h d) : EReal) + mixCtx (softmax (scores s u)) vc (ix5 B R w h d)
      = two (fun x => s (ix6 B h R w x.1 x.2)) (fun n => u (ix5 B h R w n)) (fun x => v (ix7 B R w x.1 x.2 h d)) (fun n => vc (ix4 B n h d)) := by
  have hm : (top (scores s u) (ix4 B h R w) : EReal)
      = max (Finset.univ.sup fun x : Fin 8 × Fin 16 => (s (ix6 B h R w x.1 x.2) : EReal)) (Finset.univ.sup fun n : Fin 256 => (u (ix5 B h R w n) : EReal)) := by
    rw [top_at]
    refine (sup_pos _).trans ?_
    simp only [scores_win, scores_ctx]
  have ht : (total (weights (scores s u)) (ix4 B h R w) : EReal)
      = ∑ x : Fin 8 × Fin 16, Ideal.exp ((s (ix6 B h R w x.1 x.2) : EReal) - top (scores s u) (ix4 B h R w))
        + ∑ n : Fin 256, Ideal.exp ((u (ix5 B h R w n) : EReal) - top (scores s u) (ix4 B h R w)) := by
    rw [total_at]
    refine (sum_pos _).trans ?_
    simp only [weights_at, scores_win, scores_ctx]
  have hc : ∀ n : Fin 256, (⟨128 + n.val, by omega⟩ : Fin 384) = ctxPos n := fun _ => rfl
  unfold two
  rw [mixWin_at, mixCtx_at]
  simp only [hc, softmax_at, ht, weights_at, scores_win, scores_ctx, hm]

/-- The reference's result, as one query's attention. -/
theorem result_at (X : FVec Ideal S4x4352x1152 .bf16) (T : FVec Ideal S6x15x31 .f32) (B : Fin 4) (R w : Fin 64) (h : Fin 6) (d : Fin 64)
    (t : Fin 4096) (c : Fin 384) (ht : t.val = R.val * 64 + w.val) (hc : c.val = h.val * 64 + d.val) :
    result X T (ix3 B t c)
      = two (fun x => winScores X T (ix6 B h R w x.1 x.2)) (fun n => ctxScores X (ix5 B h R w n))
          (fun x => window (vg X) (ix7 B R w x.1 x.2 h d)) (fun n => vc X (ix4 B n h d)) := by
  unfold result
  exact (sum_out_at _ _ B R w h d t c ht hc).trans (attend_at _ _ _ _ B R w h d)

end Cert.ReferenceIdeal.Natten
end
-- ==== Proof.Body.lean ====
/- The body of one grid point: one attention of two heads packed in 128 lanes, at an index. -/
module

public import proofs.«01_k».proof.Proof.Gen.KernelIdeal.Frame
public import proofs.«01_k».proof.Proof.Finite
public import proofs.«01_k».proof.Proof.Math

@[expose] public section

set_option maxRecDepth 16384

noncomputable section

open Idealize.ShloMosaic Idealize.ShloMosaic.TcCoe Idealize.ShloMosaic.Tactic

namespace Cert.KernelIdeal.Natten

open Cert.KernelIdeal Cert.KernelIdeal.Gen Cert.Natten

theorem select_bit {α : Type} (p : Prop) [Decidable p] (x y : α) : Scalar.select (BitVec.ofBool (decide p)) x y = if p then x else y := by
  by_cases h : p <;> simp [h, Scalar.select]

/-- The lane of every element. -/
def lane : IVec S256x128 32 := iota .tc S256x128 32 [1] iota_S256x128_d1_w32
/-- The lanes of the first head of a pair, and of the second. -/
def laneLo : IVec S256x128 1 := andi (cmpi .sge lane (broadcast S256x128 0#32)) (cmpi .slt lane (broadcast S256x128 64#32))
def laneHi : IVec S256x128 1 := andi (cmpi .sge lane (broadcast S256x128 64#32)) (cmpi .slt lane (broadcast S256x128 128#32))

/-- The queries of the two heads one above the other, each with the other head's lanes zeroed. -/
def queries (q : FVec Ideal S256x128 .bf16) : FVec Ideal S512x128 .bf16 :=
  concatenate S512x128 0 [⟨S256x128, select laneLo q (broadcast S256x128 (Scalar.ofBits .bf16 0x0000#16))⟩,
    ⟨S256x128, select laneHi q (broadcast S256x128 (Scalar.ofBits .bf16 0x0000#16))⟩] concatenates_S256x128_S256x128_S512x128_d0

/-- The scores of the window's span before the bias. -/
def rawScores (qs : FVec Ideal S512x128 .bf16) (kw : FVec Ideal S704x128 .bf16) : FVec Ideal S512x704 .f32 :=
  matmul dot_S512x128_S704x128_S512x704_1_1_0_0_n_n none qs kw (constant S512x704 .f32 0x00000000#32)

/-- The scores of the window's span. -/
def winScores (raw : FVec Ideal S512x704 .f32) (b0 b1 : FVec Ideal S256x704 .f32) : FVec Ideal S512x704 .f32 :=
  concatenate S512x704 0
    [⟨S256x704, addf (extractStridedSlice S256x704 ![0, 0] raw slices_S512x704_o0_0_S256x704) b0⟩,
     ⟨S256x704, addf (extractStridedSlice S256x704 ![256, 0] raw slices_S512x704_o256_0_S256x704) b1⟩]
    concatenates_S256x704_S256x704_S512x704_d0

/-- The scores of the context. -/
def ctxScores (qs : FVec Ideal S512x128 .bf16) (kc : FVec Ideal S256x128 .bf16) : FVec Ideal S512x256 .f32 :=
  matmul dot_S512x128_S256x128_S512x256_1_1_0_0_n_n none qs kc (constant S512x256 .f32 0x00000000#32)

/-- The largest score of every row. -/
def rowMax (s : FVec Ideal S512x704 .f32) (sc : FVec Ideal S512x256 .f32) : FVec Ideal S512x1 .f32 :=
  maximumf (shapeCast S512x1 (multiReduction .maximumf [1] S512 s 0xFF800000#32 reduces_S512x704_S512 (.inl rfl) rfl) shapeCasts_S512_S512x1)
    (shapeCast S512x1 (multiReduction .maximumf [1] S512 sc 0xFF800000#32 reduces_S512x256_S512 (.inl rfl) rfl) shapeCasts_S512_S512x1)

/-- The weights before they are divided. -/
def winExp (s : FVec Ideal S512x704 .f32) (mx : FVec Ideal S512x1 .f32) : FVec Ideal S512x704 .f32 :=
  exp (subf s (broadcastTo S512x704 mx broadcasts_S512x1_S512x704))
def ctxExp (sc : FVec Ideal S512x256 .f32) (mx : FVec Ideal S512x1 .f32) : FVec Ideal S512x256 .f32 :=
  exp (subf sc (broadcastTo S512x256 mx broadcasts_S512x1_S512x256))

/-- The weighted sums divided. -/
def mixed (p : FVec Ideal S512x704 .f32) (pc : FVec Ideal S512x256 .f32) (vw : FVec Ideal S704x128 .bf16) (vc : FVec Ideal S256x128 .bf16) :
    FVec Ideal S512x128 .f32 :=
  divf
    (addf (matmul dot_S512x704_S704x128_S512x128_1_0_0_1_n_n none (truncf .bf16 p bitsLt_bf16_f32) vw (constant S512x128 .f32 0x00000000#32))
      (matmul dot_S512x256_S256x128_S512x128_1_0_0_1_n_n none (truncf .bf16 pc bitsLt_bf16_f32) vc (constant S512x128 .f32 0x00000000#32)))
    (broadcastTo S512x128
      (addf (shapeCast S512x1 (multiReduction .add [1] S512 p 0x00000000#32 reduces_S512x704_S512 (.inl rfl) rfl) shapeCasts_S512_S512x1)
        (shapeCast S512x1 (multiReduction .add [1] S512 pc 0x00000000#32 reduces_S512x256_S512 (.inl rfl) rfl) shapeCasts_S512_S512x1))
      broadcasts_S512x1_S512x128)

/-- The two heads' rows side by side again. -/
def merged (o : FVec Ideal S512x128 .f32) : FVec Ideal S256x128 .bf16 :=
  truncf .bf16 (select laneLo (extractStridedSlice S256x128 ![0, 0] o slices_S512x128_o0_0_S256x128)
    (extractStridedSlice S256x128 ![256, 0] o slices_S512x128_o256_0_S256x128)) bitsLt_bf16_f32

/-- The attention of one pair of heads. -/
def attend (q : FVec Ideal S256x128 .bf16) (kw vw : FVec Ideal S704x128 .bf16) (kc vc : FVec Ideal S256x128 .bf16)
    (b0 b1 : FVec Ideal S256x704 .f32) : FVec Ideal S256x128 .bf16 :=
  let s := winScores (rawScores (queries q) kw) b0 b1
  let sc := ctxScores (queries q) kc
  let mx := rowMax s sc
  merged (mixed (winExp s mx) (ctxExp sc mx) vw vc)

/-! ## The payloads -/

theorem pay10_eq (q : FVec Ideal S256x128 .bf16) (kw vw : FVec Ideal S704x128 .bf16) (kc vc : FVec Ideal S256x128 .bf16)
    (b0 b1 : FVec Ideal S256x704 .f32) : k0_pay10 lane q kw vw kc vc b0 b1 k0_pay9 64#32 = attend q kw vw kc vc b0 b1 := rfl

theorem pay21_eq (q : FVec Ideal S256x128 .bf16) (kw vw : FVec Ideal S704x128 .bf16) (kc vc : FVec Ideal S256x128 .bf16)
    (b0 b1 : FVec Ideal S256x704 .f32) : k0_pay21 q kw vw kc vc b0 b1 (k0_pay19 lane) (k0_pay20 lane)
      = shapeCast S1x256x128 (attend q kw vw kc vc b0 b1) shapeCasts_S256x128_S1x256x128 := rfl

theorem pay1_eq (q : Vec Ideal S1x256x128 .bf16) (kw : Vec Ideal S1x704x128 .bf16) (vw : FVec Ideal S704x128 .bf16) (kc vc : FVec Ideal S256x128 .bf16)
    (b0 b1 : FVec Ideal S256x704 .f32) : k0_pay1 vw kc vc b0 b1 (k0_pay27 lane) (k0_pay28 lane q) (k0_pay29 lane q kw) (k0_pay30 lane q kw)
      = shapeCast S1x256x128 (attend (k0_pay2 q) (k0_pay3 kw) vw kc vc b0 b1) shapeCasts_S256x128_S1x256x128 := rfl

/-! ## At an index -/

theorem laneLo_at (n : Fin 256) (x : Fin 128) : laneLo (ix2 n x) = BitVec.ofBool (x.val < 64) := by
  have : laneLo (ix2 n x) = laneLo (ix2 (0 : Fin 256) x) := by pointwise [laneLo, lane]
  rw [this]
  clear this
  revert x
  decide +kernel
theorem laneHi_at (n : Fin 256) (x : Fin 128) : laneHi (ix2 n x) = BitVec.ofBool (64 ≤ x.val) := by
  have : laneHi (ix2 n x) = laneHi (ix2 (0 : Fin 256) x) := by pointwise [laneHi, lane]
  rw [this]
  clear this
  revert x
  decide +kernel

/-- The column of lane `d` of a pair's head `hh`. -/
def at64 (hh : Fin 2) (d : Fin 64) : Fin 128 := ⟨hh.val * 64 + d.val, by omega⟩
/-- The row of head `hh`'s query `n`. -/
def row512 (hh : Fin 2) (n : Fin 256) : Fin 512 := ⟨256 * hh.val + n.val, by omega⟩

theorem queries_at (q : FVec Ideal S256x128 .bf16) (hh : Fin 2) (n : Fin 256) (x : Fin 128) :
    queries q (ix2 (row512 hh n) x) = if hh.val * 64 ≤ x.val ∧ x.val < hh.val * 64 + 64 then (q (ix2 n x) : EReal) else 0 := by
  have hx := x.isLt
  have hn := n.isLt
  pointwise [queries]
  match hh with
  | 0 =>
    have h : (row512 0 n).val < 256 := by show 256 * 0 + n.val < 256; omega
    rw [dif_pos h, laneLo_at, select_bit]
    have e : (⟨(row512 0 n).val, h⟩ : Fin 256) = n := Fin.ext (by show 256 * 0 + n.val = n.val; omega)
    rw [e]
    exact if_congr (by simp) rfl rfl
  | 1 =>
    have h : ¬ (row512 1 n).val < 256 := by show ¬ 256 * 1 + n.val < 256; omega
    rw [dif_neg h, laneHi_at, select_bit]
    have e : (⟨(row512 1 n).val - 256, by show 256 * 1 + n.val - 256 < 256; omega⟩ : Fin 256) = n :=
      Fin.ext (by show 256 * 1 + n.val - 256 = n.val; omega)
    rw [e]
    exact if_congr (by simp) rfl rfl

/-- A product over 128 lanes with a head's queries is one over the head's 64. -/
theorem lanes_sum (q : FVec Ideal S256x128 .bf16) (hh : Fin 2) (n : Fin 256) (f : Fin 128 → EReal) :
    ∑ x : Fin 128, (queries q (ix2 (row512 hh n) x) : EReal) * f x = ∑ d : Fin 64, (q (ix2 n (at64 hh d)) : EReal) * f (at64 hh d) := by
  rw [sum_masked (at64 hh) (fun a b h => Fin.ext (by have := congrArg Fin.val h; simp only [at64] at this; omega))]
  · refine Finset.sum_congr rfl fun d _ => ?_
    rw [queries_at, if_pos ⟨by simp only [at64]; omega, by simp only [at64]; omega⟩]
  · intro x hx
    rw [queries_at, if_neg, zero_mul]
    rintro ⟨h1, h2⟩
    exact hx ⟨x.val - hh.val * 64, by omega⟩ (Fin.ext (by simp only [at64]; omega))

theorem rawScores_at (qs : FVec Ideal S512x128 .bf16) (kw : FVec Ideal S704x128 .bf16) (n : Fin 512) (k : Fin 704) :
    rawScores qs kw (ix2 n k) = ∑ x : Fin 128, qs (ix2 n x) * kw (ix2 k x) := by
  pointwise [rawScores]

theorem winScores_at (s : FVec Ideal S512x704 .f32) (b : Fin 2 → FVec Ideal S256x704 .f32) (hh : Fin 2) (n : Fin 256) (k : Fin 704) :
    winScores s (b 0) (b 1) (ix2 (row512 hh n) k) = (s (ix2 (row512 hh n) k) : EReal) + b hh (ix2 n k) := by
  have hn := n.isLt
  pointwise [winScores]
  match hh with
  | 0 =>
    have h : (row512 0 n).val < 256 := by show 256 * 0 + n.val < 256; omega
    rw [dif_pos h]
    have e : (⟨(row512 0 n).val, h⟩ : Fin 256) = n := Fin.ext (by show 256 * 0 + n.val = n.val; omega)
    rw [e]
  | 1 =>
    have h : ¬ (row512 1 n).val < 256 := by show ¬ 256 * 1 + n.val < 256; omega
    rw [dif_neg h]
    have e : (⟨(row512 1 n).val - 256, by show 256 * 1 + n.val - 256 < 256; omega⟩ : Fin 256) = n :=
      Fin.ext (by show 256 * 1 + n.val - 256 = n.val; omega)
    have e' : (⟨256 + ((row512 1 n).val - 256), by show 256 + (256 * 1 + n.val - 256) < 512; omega⟩ : Fin 512) = row512 1 n :=
      Fin.ext (by show 256 + (256 * 1 + n.val - 256) = 256 * 1 + n.val; omega)
    exact congrArg₂ (fun x y : EReal => x + y) (congrArg (fun z => s (ix2 z k)) e') (congrArg (fun z => b 1 (ix2 z k)) e)

theorem ctxScores_at (qs : FVec Ideal S512x128 .bf16) (kc : FVec Ideal S256x128 .bf16) (n : Fin 512) (k : Fin 256) :
    ctxScores qs kc (ix2 n k) = ∑ x : Fin 128, qs (ix2 n x) * kc (ix2 k x) := by
  pointwise [ctxScores]

theorem rowMax_at (s : FVec Ideal S512x704 .f32) (sc : FVec Ideal S512x256 .f32) (n : Fin 512) :
    rowMax s sc (ix2 n (0 : Fin 1)) = max (Finset.univ.sup fun k : Fin 704 => (s (ix2 n k) : EReal)) (Finset.univ.sup fun k : Fin 256 => (sc (ix2 n k) : EReal)) := by
  pointwise [rowMax]
  rw [ofBits_bot_f32]
  rfl

theorem winExp_at (s : FVec Ideal S512x704 .f32) (mx : FVec Ideal S512x1 .f32) (n : Fin 512) (k : Fin 704) :
    winExp s mx (ix2 n k) = Ideal.exp ((s (ix2 n k) : EReal) - mx (ix2 n (0 : Fin 1))) := by
  pointwise [winExp]
theorem ctxExp_at (s : FVec Ideal S512x256 .f32) (mx : FVec Ideal S512x1 .f32) (n : Fin 512) (k : Fin 256) :
    ctxExp s mx (ix2 n k) = Ideal.exp ((s (ix2 n k) : EReal) - mx (ix2 n (0 : Fin 1))) := by
  pointwise [ctxExp]

theorem mixed_at (p : FVec Ideal S512x704 .f32) (pc : FVec Ideal S512x256 .f32) (vw : FVec Ideal S704x128 .bf16) (vc : FVec Ideal S256x128 .bf16)
    (n : Fin 512) (x : Fin 128) :
    mixed p pc vw vc (ix2 n x) = Ideal.div (∑ k : Fin 704, (p (ix2 n k) : EReal) * vw (ix2 k x) + ∑ k : Fin 256, (pc (ix2 n k) : EReal) * vc (ix2 k x))
      (∑ k : Fin 704, (p (ix2 n k) : EReal) + ∑ k : Fin 256, (pc (ix2 n k) : EReal)) := by
  pointwise [mixed]

theorem merged_at (o : FVec Ideal S512x128 .f32) (hh : Fin 2) (n : Fin 256) (d : Fin 64) :
    merged o (ix2 n (at64 hh d)) = o (ix2 (row512 hh n) (at64 hh d)) := by
  pointwise [merged]
  rw [laneLo_at, select_bit]
  match hh with
  | 0 =>
    rw [if_pos (by show 0 * 64 + d.val < 64; omega)]
    exact congrArg (fun z => o (ix2 z (at64 0 d))) (Fin.ext (by show n.val = 256 * 0 + n.val; omega))
  | 1 =>
    rw [if_neg (by show ¬ 1 * 64 + d.val < 64; omega)]
    exact congrArg (fun z => o (ix2 z (at64 1 d))) (Fin.ext (by show 256 + n.val = 256 * 1 + n.val; omega))

/-- One query's attention over the span and the context, from its scores. -/
def one (s : Fin 704 → EReal) (c : Fin 256 → EReal) (v : Fin 704 → EReal) (vc : Fin 256 → EReal) : EReal :=
  Ideal.div
    (∑ k, Ideal.exp (s k - max (Finset.univ.sup s) (Finset.univ.sup c)) * v k
      + ∑ k, Ideal.exp (c k - max (Finset.univ.sup s) (Finset.univ.sup c)) * vc k)
    (∑ k, Ideal.exp (s k - max (Finset.univ.sup s) (Finset.univ.sup c)) + ∑ k, Ideal.exp (c k - max (Finset.univ.sup s) (Finset.univ.sup c)))

theorem attend_at (q : FVec Ideal S256x128 .bf16) (kw vw : FVec Ideal S704x128 .bf16) (kc vc : FVec Ideal S256x128 .bf16)
    (b : Fin 2 → FVec Ideal S256x704 .f32) (hh : Fin 2) (n : Fin 256) (d : Fin 64) :
    attend q kw vw kc vc (b 0) (b 1) (ix2 n (at64 hh d))
      = one (fun k => (∑ d : Fin 64, (q (ix2 n (at64 hh d)) : EReal) * kw (ix2 k (at64 hh d))) + b hh (ix2 n k))
          (fun k => ∑ d : Fin 64, (q (ix2 n (at64 hh d)) : EReal) * kc (ix2 k (at64 hh d)))
          (fun k => vw (ix2 k (at64 hh d))) (fun k => vc (ix2 k (at64 hh d))) := by
  unfold attend
  rw [merged_at, mixed_at]
  simp only [winExp_at, ctxExp_at, rowMax_at, winScores_at, rawScores_at, ctxScores_at, lanes_sum]
  rfl

end Cert.KernelIdeal.Natten
end
-- ==== Proof.Block.lean ====
module

public import proofs.«01_k».proof.Proof.Body
public import proofs.«01_k».proof.Proof.BiasAt
public import Idealize.ShloMosaic.Lib.Pipeline.ValueKit
public import Idealize.ShloMosaic.Lib.Pipeline.Covers

@[expose] public section

set_option maxRecDepth 16384

noncomputable section

namespace Cert.KernelIdeal.Natten

open Idealize.ShloMosaic Idealize.ShloMosaic.TcCoe Idealize.ShloMosaic.Tactic
open Cert.KernelIdeal Cert.KernelIdeal.Gen Cert.Natten

/-- Row `k` of the span of window rows a block of four query rows reads. -/
def spanRow (r : ℕ) (k : Fin 704) : Fin 4352 := ⟨256 + ws r * 64 + k.val, by have := k.isLt; unfold ws; omega⟩
/-- Row `k` of the context. -/
def ctxRow (k : Fin 256) : Fin 4352 := ⟨k.val, by omega⟩
/-- Lane `d` of head `h`. -/
def lane64 (h : Fin 6) (d : Fin 64) : Fin 384 := ⟨h.val * 64 + d.val, by omega⟩

/-- What one grid point leaves of head `h` of its query `n`, from its blocks. -/
def blockVal (r : ℕ) (x0 : FVec Ideal S1x256x384 .bf16) (x1 x2 : FVec Ideal S1x4352x384 .bf16) (x3 : FVec Ideal S1x6x256x704 .f32)
    (n : Fin 256) (h : Fin 6) (d : Fin 64) : EReal :=
  one (fun k => (∑ d : Fin 64, ((x0 (ix3 (0 : Fin 1) n (lane64 h d)) : EReal) * (((1 : ℝ) / 8 : ℝ) : EReal))
        * x1 (ix3 (0 : Fin 1) (spanRow r k) (lane64 h d))) + x3 (ix4 (0 : Fin 1) h n k))
    (fun k => ∑ d : Fin 64, ((x0 (ix3 (0 : Fin 1) n (lane64 h d)) : EReal) * (((1 : ℝ) / 8 : ℝ) : EReal))
        * x1 (ix3 (0 : Fin 1) (ctxRow k) (lane64 h d)))
    (fun k => x2 (ix3 (0 : Fin 1) (spanRow r k) (lane64 h d))) (fun k => x2 (ix3 (0 : Fin 1) (ctxRow k) (lane64 h d)))

theorem pair_at (r : ℕ) (x0 : FVec Ideal S1x256x384 .bf16) (x1 x2 : FVec Ideal S1x4352x384 .bf16) (x3 : FVec Ideal S1x6x256x704 .f32)
    (hp : Fin 3) (q : FVec Ideal S256x128 .bf16) (kw vw : FVec Ideal S704x128 .bf16) (kc vc : FVec Ideal S256x128 .bf16)
    (b0 b1 : FVec Ideal S256x704 .f32)
    (hq : ∀ n (x : Fin 128), q (ix2 n x) = (x0 (ix3 (0 : Fin 1) n ⟨hp.val * 128 + x.val, by omega⟩) : EReal) * (((1 : ℝ) / 8 : ℝ) : EReal))
    (hkw : ∀ k (x : Fin 128), kw (ix2 k x) = x1 (ix3 (0 : Fin 1) (spanRow r k) ⟨hp.val * 128 + x.val, by omega⟩))
    (hvw : ∀ k (x : Fin 128), vw (ix2 k x) = x2 (ix3 (0 : Fin 1) (spanRow r k) ⟨hp.val * 128 + x.val, by omega⟩))
    (hkc : ∀ k (x : Fin 128), kc (ix2 k x) = x1 (ix3 (0 : Fin 1) (ctxRow k) ⟨hp.val * 128 + x.val, by omega⟩))
    (hvc : ∀ k (x : Fin 128), vc (ix2 k x) = x2 (ix3 (0 : Fin 1) (ctxRow k) ⟨hp.val * 128 + x.val, by omega⟩))
    (hb0 : ∀ n k, b0 (ix2 n k) = x3 (ix4 (0 : Fin 1) (⟨2 * hp.val, by omega⟩ : Fin 6) n k))
    (hb1 : ∀ n k, b1 (ix2 n k) = x3 (ix4 (0 : Fin 1) (⟨2 * hp.val + 1, by omega⟩ : Fin 6) n k))
    (n : Fin 256) (x : Fin 128) (h : Fin 6) (d : Fin 64) (hx : hp.val * 128 + x.val = h.val * 64 + d.val) :
    attend q kw vw kc vc b0 b1 (ix2 n x) = blockVal r x0 x1 x2 x3 n h d := by
  obtain ⟨hh, hhh⟩ : ∃ hh : Fin 2, h.val = 2 * hp.val + hh.val := ⟨⟨h.val - 2 * hp.val, by omega⟩, by show h.val = 2 * hp.val + (h.val - 2 * hp.val); omega⟩
  have ex : x = at64 hh d := Fin.ext (by simp only [at64]; omega)
  subst ex
  have el : ∀ d' : Fin 64, (⟨hp.val * 128 + (at64 hh d').val, by have := (at64 hh d').isLt; omega⟩ : Fin 384) = lane64 h d' := fun d' => Fin.ext (by simp only [at64, lane64]; omega)
  have hb : ∀ n k, (![b0, b1] : Fin 2 → FVec Ideal S256x704 .f32) hh (ix2 n k) = x3 (ix4 (0 : Fin 1) h n k) := by
    intro n k
    match hh, hhh with
    | 0, e => rw [show h = ⟨2 * hp.val, by omega⟩ from Fin.ext e]; exact hb0 n k
    | 1, e => rw [show h = ⟨2 * hp.val + 1, by omega⟩ from Fin.ext e]; exact hb1 n k
  refine (attend_at q kw vw kc vc ![b0, b1] hh n d).trans ?_
  simp only [hb, hq, hkw, hvw, hkc, hvc, el]
  rfl

theorem ld3 {A B C D : ℕ} (X : FVec Ideal ⟨3, ![1, A, B]⟩ .bf16) (b o : ℕ) (h) (n : Fin C) (x : Fin D) (n' : Fin A) (x' : Fin B) (hn : n'.val = b + n.val) (hx : x'.val = o + x.val) :
    View.ld (Val := Elt Ideal) (e' := .bf16) X (Rect.unit ![0, b, o] ![1, C, D] h) (ix3 (0 : Fin 1) n x) = X (ix3 (0 : Fin 1) n' x') := by
  refine View.ld_unit_apply_of _ _ _ _ _ _ fun a => ?_
  match a with
  | 0 => rfl
  | 1 => exact hn
  | 2 => exact hx

theorem ld4 (X : FVec Ideal S1x6x256x704 .f32) (b : ℕ) (h) (n : Fin 256) (k : Fin 704) (b' : Fin 6) (hb : b'.val = b) :
    View.ld (Val := Elt Ideal) (e' := .f32) X (Rect.unit ![0, b, 0, 0] ![1, 1, 256, 704] h) (ix4 (0 : Fin 1) (0 : Fin 1) n k) = X (ix4 (0 : Fin 1) b' n k) := by
  refine View.ld_unit_apply_of _ _ _ _ _ _ fun a => ?_
  match a with
  | 0 => rfl
  | 1 => exact hb
  | 2 => exact (Nat.zero_add _).symm
  | 3 => exact (Nat.zero_add _).symm

theorem cast256 (v : FVec Ideal S1x256x128 .bf16) (n : Fin 256) (x : Fin 128) : shapeCast S256x128 v shapeCasts_S1x256x128_S256x128 (ix2 n x) = v (ix3 (0 : Fin 1) n x) := by pointwise
theorem cast704 (v : FVec Ideal S1x704x128 .bf16) (n : Fin 704) (x : Fin 128) : shapeCast S704x128 v shapeCasts_S1x704x128_S704x128 (ix2 n x) = v (ix3 (0 : Fin 1) n x) := by pointwise
theorem castB (v : FVec Ideal S1x1x256x704 .f32) (n : Fin 256) (x : Fin 704) : shapeCast S256x704 v shapeCasts_S1x1x256x704_S256x704 (ix2 n x) = v (ix4 (0 : Fin 1) (0 : Fin 1) n x) := by pointwise
theorem castO (v : FVec Ideal S256x128 .bf16) (n : Fin 256) (x : Fin 128) : shapeCast S1x256x128 v shapeCasts_S256x128_S1x256x128 (ix3 (0 : Fin 1) n x) = v (ix2 n x) := by pointwise
theorem scaled_at (v : FVec Ideal S1x256x128 .bf16) (n : Fin 256) (x : Fin 128) : k0_pay2 v (ix2 n x) = (v (ix3 (0 : Fin 1) n x) : EReal) * (((1 : ℝ) / 8 : ℝ) : EReal) := by
  pointwise [k0_pay2]
  rw [ofBits_eighth_bf16]

theorem word_base : ∀ r : Fin 16, (Scalar.addi 256#32 (Scalar.muli (Scalar.minsi 53#32 (Scalar.maxsi 0#32 (Scalar.subi (Scalar.muli (BitVec.ofNat 32 r.val) 4#32) 4#32))) 64#32)).toNat = 256 + ws r.val * 64 := by
  decide +kernel

theorem off2_eq (i : grid0.Coords) : k0_off2 i = ![0, 256 + ws (i 1).val * 64, 0] := by
  show (![0, _, 0] : Fin 3 → ℕ) = _
  rw [← word_base (i 1)]; rfl
theorem off3_eq (i : grid0.Coords) : k0_off3 i = ![0, 256 + ws (i 1).val * 64, 128] := by
  show (![0, _, 128] : Fin 3 → ℕ) = _
  rw [← word_base (i 1)]; rfl
theorem off4_eq (i : grid0.Coords) : k0_off4 i = ![0, 256 + ws (i 1).val * 64, 256] := by
  show (![0, _, 256] : Fin 3 → ℕ) = _
  rw [← word_base (i 1)]; rfl

theorem ldK {D : ℕ} (X : FVec Ideal S1x4352x384 .bf16) (r o : ℕ) (off : Fin 3 → ℕ) (ho : off = ![0, 256 + ws r * 64, o]) (h) (k : Fin 704) (x : Fin D)
    (x' : Fin 384) (hx : x'.val = o + x.val) :
    View.ld (Val := Elt Ideal) (e' := .bf16) X (Rect.unit off ![1, 704, D] h) (ix3 (0 : Fin 1) k x) = X (ix3 (0 : Fin 1) (spanRow r k) x') := by
  subst ho
  exact ld3 X _ _ h k x _ _ rfl hx

set_option maxHeartbeats 4000000 in
theorem out_at (c : Dev nD) (i : grid0.Coords) (a3 h3 a4 h4 a5 h5 a6 h6 a7 h7) (x0 : FVec Ideal S1x256x384 .bf16) (x1 x2 : FVec Ideal S1x4352x384 .bf16)
    (x3 : FVec Ideal S1x6x256x704 .f32) (xt) (n : Fin 256) (h : Fin 6) (d : Fin 64) :
    out0_A_4 (F := Ideal) c i a3 h3 a4 h4 a5 h5 a6 h6 a7 h7 x0 x1 x2 x3 xt (ix3 (0 : Fin 1) n (lane64 h d)) = blockVal (i 1).val x0 x1 x2 x3 n h d := by
  obtain ⟨y, hy⟩ : ∃ y : S1x256x384.Idx, y = ix3 (0 : Fin 1) n (lane64 h d) := ⟨_, rfl⟩
  have y1 : (y 1 : ℕ) = n.val := by rw [hy]; rfl
  have y2 : (y 2 : ℕ) = h.val * 64 + d.val := by rw [hy]; rfl
  rw [← hy]
  clear hy
  frame_out
  canon_tiles x g
  · have en : n = x 1 := Fin.ext (by show n.val = (x 1 : ℕ); omega)
    have ex : x = ix3 (0 : Fin 1) (x 1) (x 2) := by
      funext a
      match a with
      | 0 => exact Fin.ext (by show (x 0 : ℕ) = 0; omega)
      | 1 => rfl
      | 2 => rfl
    rw [ex]
    refine (castO _ _ _).trans ((pair_at (i 1).val x0 x1 x2 x3 2 _ _ _ _ _ _ _
      (fun n x => (scaled_at _ _ _).trans (congrArg (fun z : EReal => z * _) (ld3 x0 _ _ _ n x _ _ (Nat.zero_add _).symm rfl)))
      (fun k x => (cast704 _ _ _).trans (ldK x1 _ _ _ (off4_eq i) _ k x _ rfl))
      (fun k x => (cast704 _ _ _).trans (ldK x2 _ _ _ (off4_eq i) _ k x _ rfl))
      (fun k x => (cast256 _ _ _).trans (ld3 x1 _ _ _ k x _ _ (Nat.zero_add _).symm rfl))
      (fun k x => (cast256 _ _ _).trans (ld3 x2 _ _ _ k x _ _ (Nat.zero_add _).symm rfl))
      (fun n k => (castB _ _ _).trans (ld4 x3 _ _ n k _ rfl))
      (fun n k => (castB _ _ _).trans (ld4 x3 _ _ n k _ rfl))
      (x 1) (x 2) h d (by show 2 * 128 + (x 2 : ℕ) = _; omega)).trans (by rw [en]))
  · have en : n = x 1 := Fin.ext (by show n.val = (x 1 : ℕ); omega)
    have ex : x = ix3 (0 : Fin 1) (x 1) (x 2) := by
      funext a
      match a with
      | 0 => exact Fin.ext (by show (x 0 : ℕ) = 0; omega)
      | 1 => rfl
      | 2 => rfl
    rw [ex]
    refine (castO _ _ _).trans ((pair_at (i 1).val x0 x1 x2 x3 1 _ _ _ _ _ _ _
      (fun n x => (scaled_at _ _ _).trans (congrArg (fun z : EReal => z * _) (ld3 x0 _ _ _ n x _ _ (Nat.zero_add _).symm rfl)))
      (fun k x => (cast704 _ _ _).trans (ldK x1 _ _ _ (off3_eq i) _ k x _ rfl))
      (fun k x => (cast704 _ _ _).trans (ldK x2 _ _ _ (off3_eq i) _ k x _ rfl))
      (fun k x => (cast256 _ _ _).trans (ld3 x1 _ _ _ k x _ _ (Nat.zero_add _).symm rfl))
      (fun k x => (cast256 _ _ _).trans (ld3 x2 _ _ _ k x _ _ (Nat.zero_add _).symm rfl))
      (fun n k => (castB _ _ _).trans (ld4 x3 _ _ n k _ rfl))
      (fun n k => (castB _ _ _).trans (ld4 x3 _ _ n k _ rfl))
      (x 1) (x 2) h d (by show 1 * 128 + (x 2 : ℕ) = _; omega)).trans (by rw [en]))
  · have en : n = x 1 := Fin.ext (by show n.val = (x 1 : ℕ); omega)
    have ex : x = ix3 (0 : Fin 1) (x 1) (x 2) := by
      funext a
      match a with
      | 0 => exact Fin.ext (by show (x 0 : ℕ) = 0; omega)
      | 1 => rfl
      | 2 => rfl
    rw [ex]
    refine (castO _ _ _).trans ((pair_at (i 1).val x0 x1 x2 x3 0 _ _ _ _ _ _ _
      (fun n x => (scaled_at _ _ _).trans (congrArg (fun z : EReal => z * _) (ld3 x0 _ _ _ n x _ _ (Nat.zero_add _).symm rfl)))
      (fun k x => (cast704 _ _ _).trans (ldK x1 _ _ _ (off2_eq i) _ k x _ rfl))
      (fun k x => (cast704 _ _ _).trans (ldK x2 _ _ _ (off2_eq i) _ k x _ rfl))
      (fun k x => (cast256 _ _ _).trans (ld3 x1 _ _ _ k x _ _ (Nat.zero_add _).symm rfl))
      (fun k x => (cast256 _ _ _).trans (ld3 x2 _ _ _ k x _ _ (Nat.zero_add _).symm rfl))
      (fun n k => (castB _ _ _).trans (ld4 x3 _ _ n k _ rfl))
      (fun n k => (castB _ _ _).trans (ld4 x3 _ _ n k _ rfl))
      (x 1) (x 2) h d (by show 0 * 128 + (x 2 : ℕ) = _; omega)).trans (by rw [en]))

end Cert.KernelIdeal.Natten
end
-- ==== Proof.Array.lean ====
/- The launch's result array, at an index. -/
module

public import proofs.«01_k».proof.Proof.Block
public import proofs.«01_k».proof.Proof.Tables

@[expose] public section

set_option maxRecDepth 16384

noncomputable section

namespace Cert.KernelIdeal.Natten

open Idealize.ShloMosaic Idealize.ShloMosaic.TcCoe Idealize.ShloMosaic.Tactic
open Cert.KernelIdeal Cert.KernelIdeal.Gen Cert.Natten

/-- Column `c` of the projections' part `p` (queries, keys, values). -/
def part (p : Fin 3) (c : Fin 384) : Fin 1152 := ⟨p.val * 384 + c.val, by omega⟩
/-- The row of query `n` of the block of query rows `r`. -/
def queryRow (r : Fin 16) (n : Fin 256) : Fin 4352 := ⟨256 + r.val * 256 + n.val, by omega⟩

/-- The attention of the query row `n` of block `r`, head `h`, as the launch computes it. -/
def kout (X : FVec Ideal S4x4352x1152 .bf16) (Z : FVec Ideal S3x6x256x704 .f32) (b : Fin 4) (r : Fin 16) (n : Fin 256) (h : Fin 6) (d : Fin 64) : EReal :=
  one (fun k => (∑ d : Fin 64, ((X (ix3 b (queryRow r n) (part 0 (lane64 h d))) : EReal) * (((1 : ℝ) / 8 : ℝ) : EReal))
        * X (ix3 b (spanRow r.val k) (part 1 (lane64 h d)))) + Z (ix4 (⟨variant r, variant_lt r⟩ : Fin 3) h n k))
    (fun k => ∑ d : Fin 64, ((X (ix3 b (queryRow r n) (part 0 (lane64 h d))) : EReal) * (((1 : ℝ) / 8 : ℝ) : EReal))
        * X (ix3 b (ctxRow k) (part 1 (lane64 h d))))
    (fun k => X (ix3 b (spanRow r.val k) (part 2 (lane64 h d)))) (fun k => X (ix3 b (ctxRow k) (part 2 (lane64 h d))))

variable (m : (ℓ : Loc nD τ sig) → Buf (Elt Ideal) ℓ)

theorem coord0_at : ∀ a : Fin 4, (BitVec.ofNat 32 a.val).toNat = a.val := by decide +kernel
theorem coord1_at : ∀ a : Fin 16, (BitVec.ofNat 32 a.val).toNat = a.val := by decide +kernel
theorem coord1_succ : ∀ a : Fin 16, (Scalar.addi 1#32 (BitVec.ofNat 32 a.val)).toNat = 1 + a.val := by decide +kernel
theorem map0_at (i : grid0.Coords) : cc0_transform_0 i = ![(i 0).val, 1 + (i 1).val, 0] :=
  congrArg₂ (fun x y : ℕ => ![x, y, 0]) (coord0_at (i 0)) (coord1_succ (i 1))
theorem map1_at (i : grid0.Coords) : cc0_transform_1 i = ![(i 0).val, 0, 1] :=
  congrArg (fun x : ℕ => ![x, 0, 1]) (coord0_at (i 0))
theorem map2_at (i : grid0.Coords) : cc0_transform_2 i = ![(i 0).val, 0, 2] :=
  congrArg (fun x : ℕ => ![x, 0, 2]) (coord0_at (i 0))
theorem map4_at (i : grid0.Coords) : cc0_transform_4 i = ![(i 0).val, (i 1).val, 0] :=
  congrArg₂ (fun x y : ℕ => ![x, y, 0]) (coord0_at (i 0)) (coord1_at (i 1))

theorem q_blk (hO : Ok m) (c : Dev nD) (t : Fin (cfgM m hO).N) (n : Fin 256) (x : Fin 384) :
    iblk m hO c 0 t (ix3 (0 : Fin 1) n x) = m ((c.tc : Thread nD τ).loc main_arg0) (ix3 (grid0.coords t 0) (queryRow (grid0.coords t 1) n) (part 0 x)) := by
  show V m c main_arg0 ((((cfgM m hO).win 0).blk t).view.emb (ix3 (0 : Fin 1) n x)) = _
  rw [V_main_arg0]
  refine congrArg _ (funext fun a => Fin.ext ?_)
  refine (Pipeline.Window.rect_emb_val ((cfgM m hO).win 0) t (ix3 (0 : Fin 1) n x) a).trans ?_
  show cc0_transform_0 (grid0.coords t) a * _ + _ = _
  rw [map0_at]
  match a with
  | ⟨0, _⟩ => show (grid0.coords t 0).val * 1 + 0 = (grid0.coords t 0).val; omega
  | ⟨1, _⟩ => show (1 + (grid0.coords t 1).val) * 256 + n.val = 256 + (grid0.coords t 1).val * 256 + n.val; omega
  | ⟨2, _⟩ => show 0 * 384 + x.val = 0 * 384 + x.val; rfl

theorem k_blk (hO : Ok m) (c : Dev nD) (t : Fin (cfgM m hO).N) (n : Fin 4352) (x : Fin 384) :
    iblk m hO c 1 t (ix3 (0 : Fin 1) n x) = m ((c.tc : Thread nD τ).loc main_arg0) (ix3 (grid0.coords t 0) n (part 1 x)) := by
  show V m c main_arg0 ((((cfgM m hO).win 1).blk t).view.emb (ix3 (0 : Fin 1) n x)) = _
  rw [V_main_arg0]
  refine congrArg _ (funext fun a => Fin.ext ?_)
  refine (Pipeline.Window.rect_emb_val ((cfgM m hO).win 1) t (ix3 (0 : Fin 1) n x) a).trans ?_
  show cc0_transform_1 (grid0.coords t) a * _ + _ = _
  rw [map1_at]
  match a with
  | ⟨0, _⟩ => show (grid0.coords t 0).val * 1 + 0 = (grid0.coords t 0).val; omega
  | ⟨1, _⟩ => show 0 * 4352 + n.val = n.val; omega
  | ⟨2, _⟩ => show 1 * 384 + x.val = 1 * 384 + x.val; rfl

theorem v_blk (hO : Ok m) (c : Dev nD) (t : Fin (cfgM m hO).N) (n : Fin 4352) (x : Fin 384) :
    iblk m hO c 2 t (ix3 (0 : Fin 1) n x) = m ((c.tc : Thread nD τ).loc main_arg0) (ix3 (grid0.coords t 0) n (part 2 x)) := by
  show V m c main_arg0 ((((cfgM m hO).win 2).blk t).view.emb (ix3 (0 : Fin 1) n x)) = _
  rw [V_main_arg0]
  refine congrArg _ (funext fun a => Fin.ext ?_)
  refine (Pipeline.Window.rect_emb_val ((cfgM m hO).win 2) t (ix3 (0 : Fin 1) n x) a).trans ?_
  show cc0_transform_2 (grid0.coords t) a * _ + _ = _
  rw [map2_at]
  match a with
  | ⟨0, _⟩ => show (grid0.coords t 0).val * 1 + 0 = (grid0.coords t 0).val; omega
  | ⟨1, _⟩ => show 0 * 4352 + n.val = n.val; omega
  | ⟨2, _⟩ => show 2 * 384 + x.val = 2 * 384 + x.val; rfl

theorem b_blk (hO : Ok m) (c : Dev nD) (t : Fin (cfgM m hO).N) (h : Fin 6) (n : Fin 256) (x : Fin 704) :
    iblk m hO c 3 t (ix4 (0 : Fin 1) h n x) = V m c main_v48 (ix4 (⟨variant (grid0.coords t 1), variant_lt _⟩ : Fin 3) h n x) := by
  show V m c main_v48 ((((cfgM m hO).win 3).blk t).view.emb (ix4 (0 : Fin 1) h n x)) = _
  refine congrArg _ (funext fun a => Fin.ext ?_)
  refine (Pipeline.Window.rect_emb_val ((cfgM m hO).win 3) t (ix4 (0 : Fin 1) h n x) a).trans ?_
  show cc0_transform_3 k0_off1_inb numel1_S1 (tbl m) (grid0.coords t) a * _ + _ = _
  rw [idx3 (tbl m) (tbl_eq m)]
  match a with
  | ⟨0, _⟩ => show variant (grid0.coords t 1) * 1 + 0 = variant (grid0.coords t 1); omega
  | ⟨1, _⟩ => show 0 * 6 + h.val = h.val; omega
  | ⟨2, _⟩ => show 0 * 256 + n.val = n.val; omega
  | ⟨3, _⟩ => show 0 * 704 + x.val = x.val; omega

/-- The result array of the launch. -/
def G (c : Dev nD) : FVec Ideal S4x4096x384 .bf16 := fun i =>
  kout (m ((c.tc : Thread nD τ).loc main_arg0)) (biasV (m ((c.tc : Thread nD τ).loc main_arg1))) (i 0)
    ⟨(i 1).val / 256, by have : (i 1).val < 4096 := (i 1).isLt; omega⟩ ⟨(i 1).val % 256, by omega⟩
    ⟨(i 2).val / 64, by have : (i 2).val < 384 := (i 2).isLt; omega⟩ ⟨(i 2).val % 64, by omega⟩

end Cert.KernelIdeal.Natten
end
-- ==== Proof.Array2.lean ====
module

public import proofs.«01_k».proof.Proof.Array

@[expose] public section

set_option maxRecDepth 16384

noncomputable section

namespace Cert.KernelIdeal.Natten

open Idealize.ShloMosaic Idealize.ShloMosaic.TcCoe Idealize.ShloMosaic.Tactic
open Cert.KernelIdeal Cert.KernelIdeal.Gen Cert.Natten

variable (m : (ℓ : Loc nD τ sig) → Buf (Elt Ideal) ℓ)

theorem blockVal_eq (r : Fin 16) (x0 : FVec Ideal S1x256x384 .bf16) (x1 x2 : FVec Ideal S1x4352x384 .bf16) (x3 : FVec Ideal S1x6x256x704 .f32)
    (X : FVec Ideal S4x4352x1152 .bf16) (Z : FVec Ideal S3x6x256x704 .f32) (b : Fin 4)
    (hq : ∀ n x, x0 (ix3 (0 : Fin 1) n x) = X (ix3 b (queryRow r n) (part 0 x)))
    (hk : ∀ n x, x1 (ix3 (0 : Fin 1) n x) = X (ix3 b n (part 1 x)))
    (hv : ∀ n x, x2 (ix3 (0 : Fin 1) n x) = X (ix3 b n (part 2 x)))
    (hb : ∀ h n x, x3 (ix4 (0 : Fin 1) h n x) = Z (ix4 (⟨variant r, variant_lt r⟩ : Fin 3) h n x))
    (n : Fin 256) (h : Fin 6) (d : Fin 64) : blockVal r.val x0 x1 x2 x3 n h d = kout X Z b r n h d := by
  unfold blockVal kout
  simp only [hq, hk, hv, hb]

theorem outsAt_at (hO : Ok m) (c : Dev nD) (t : Fin (cfgM m hO).N) (n : Fin 256) (h : Fin 6) (d : Fin 64) :
    outsAt0 m hO c t (ix3 (0 : Fin 1) n (lane64 h d))
      = kout (m ((c.tc : Thread nD τ).loc main_arg0)) (biasV (m ((c.tc : Thread nD τ).loc main_arg1))) (grid0.coords t 0) (grid0.coords t 1) n h d := by
  unfold outsAt0
  exact (out_at c _ _ _ _ _ _ _ _ _ _ _ (iblk m hO c 0 t) (iblk m hO c 1 t) (iblk m hO c 2 t) (iblk m hO c 3 t) _ n h d).trans
    (blockVal_eq _ _ _ _ _ _ _ _ (q_blk m hO c t) (k_blk m hO c t) (v_blk m hO c t)
      (fun h n x => (b_blk m hO c t h n x).trans (congrFun (V_bias m c) _)) n h d)

theorem G_of (c : Dev nD) (i : S4x4096x384.Idx) (b : Fin 4) (r : Fin 16) (n : Fin 256) (h : Fin 6) (d : Fin 64)
    (h0 : (i 0).val = b.val) (h1 : (i 1).val = r.val * 256 + n.val) (h2 : (i 2).val = h.val * 64 + d.val) :
    G m c i = kout (m ((c.tc : Thread nD τ).loc main_arg0)) (biasV (m ((c.tc : Thread nD τ).loc main_arg1))) b r n h d := by
  have e0 : i 0 = b := Fin.ext h0
  unfold G
  congr 1
  · exact Fin.ext (by show (i 1).val / 256 = r.val; omega)
  · exact Fin.ext (by show (i 1).val % 256 = n.val; omega)
  · exact Fin.ext (by show (i 2).val / 64 = h.val; omega)
  · exact Fin.ext (by show (i 2).val % 64 = d.val; omega)

theorem covers4 (hO : Ok m) : ((cfgM m hO).win 4).Covers := by
  refine ((cfgM m hO).win 4).covers_of_indexMap_surj rfl (fun a => (by decide : ∀ a : Fin 3, 0 < S1x256x384.size a) a) fun β => ?_
  have n0 : ((cfgM m hO).win 4).nblk ⟨0, (by decide : 0 < 3)⟩ = 4 :=
    (by decide : (S4x4096x384.size 0 + S1x256x384.size 0 - 1) / S1x256x384.size 0 = 4)
  have n1 : ((cfgM m hO).win 4).nblk ⟨1, (by decide : 1 < 3)⟩ = 16 :=
    (by decide : (S4x4096x384.size 1 + S1x256x384.size 1 - 1) / S1x256x384.size 1 = 16)
  have n2 : ((cfgM m hO).win 4).nblk ⟨2, (by decide : 2 < 3)⟩ = 1 :=
    (by decide : (S4x4096x384.size 2 + S1x256x384.size 2 - 1) / S1x256x384.size 2 = 1)
  have h0 := Nat.lt_of_lt_of_eq (β ⟨0, (by decide : 0 < 3)⟩).isLt n0
  have h1 := Nat.lt_of_lt_of_eq (β ⟨1, (by decide : 1 < 3)⟩).isLt n1
  have h2 := Nat.lt_of_lt_of_eq (β ⟨2, (by decide : 2 < 3)⟩).isLt n2
  obtain ⟨i, i0, i1⟩ : ∃ i : grid0.Coords, (i 0).val = (β ⟨0, (by decide : 0 < 3)⟩).val ∧ (i 1).val = (β ⟨1, (by decide : 1 < 3)⟩).val :=
    ⟨fun a => match a with | ⟨0, _⟩ => ⟨_, h0⟩ | ⟨1, _⟩ => ⟨_, h1⟩, rfl, rfl⟩
  refine ⟨i, fun a => ?_⟩
  have e : ((cfgM m hO).win 4).indexMap i a = (![(i 0).val, (i 1).val, 0] : Fin 3 → ℕ) a := congrFun (map4_at i) a
  rw [e]
  match a with
  | ⟨0, _⟩ => exact i0
  | ⟨1, _⟩ => exact i1
  | ⟨2, _⟩ => exact (Nat.lt_one_iff.mp h2).symm

theorem arr_eq (hO : Ok m) (c : Dev nD) : (dats m hO 0 c).arrAt 4 (cfgM m hO).N = G m c := by
  refine (dats m hO 0 c).arrAt_eq_of_covers 4 _ (covers4 m hO) fun t hf y => ?_
  obtain ⟨z, hz⟩ : ∃ z : S1x256x384.Idx, z = ((cfgM m hO).win 4).xinj ((cfgM m hO).grid.coords t) y := ⟨_, rfl⟩
  have z0 : (z 0).val < 1 := (z 0).isLt
  have z1 : (z 1).val < 256 := (z 1).isLt
  have z2 : (z 2).val < 384 := (z 2).isLt
  have e : z = ix3 (0 : Fin 1) (⟨(z 1).val, z1⟩ : Fin 256) (lane64 ⟨(z 2).val / 64, by omega⟩ ⟨(z 2).val % 64, by omega⟩) := by
    funext a
    match a with
    | ⟨0, _⟩ => exact Fin.ext (Nat.lt_one_iff.mp z0)
    | ⟨1, _⟩ => rfl
    | ⟨2, _⟩ => exact Fin.ext (by show (z 2).val = (z 2).val / 64 * 64 + (z 2).val % 64; omega)
  have he : ∀ a : Fin 3, (((((cfgM m hO).win 4).blk t).view.emb y a : ℕ)) = cc0_transform_4 (grid0.coords t) a * S1x256x384.size a + (z a).val := by
    intro a
    rw [hz]
    exact Pipeline.Window.rect_emb_val ((cfgM m hO).win 4) t y a
  rw [map4_at] at he
  have hl : (dats m hO 0 c).after 4 t (((cfgM m hO).win 4).xinj ((cfgM m hO).grid.coords t) y) = outsAt0 m hO c t z := by rw [after0_4, hz]
  refine (show _ = outsAt0 m hO c t z from hl).trans ?_
  rw [e, outsAt_at]
  refine (G_of m c _ _ _ _ _ _ ((he 0).trans ?_) ((he 1).trans ?_) ((he 2).trans ?_)).symm
  · show (grid0.coords t 0).val * 1 + (z 0).val = (grid0.coords t 0).val; omega
  · rfl
  · show 0 * 384 + (z 2).val = (z 2).val / 64 * 64 + (z 2).val % 64; omega

end Cert.KernelIdeal.Natten
end
-- ==== Proof.Value.lean ====
/- The launch's attention is the reference's, on real inputs. -/
module

public import proofs.«01_k».proof.Proof.RefOut
public import proofs.«01_k».proof.Proof.Array2
public import proofs.«01_k».proof.Proof.BiasAt
public import proofs.«01_k».proof.Proof.Math

@[expose] public section

set_option maxRecDepth 16384

noncomputable section

namespace Cert.Natten

open Idealize.ShloMosaic Idealize.ShloMosaic.TcCoe Idealize.ShloMosaic.Tactic
open Cert.KernelIdeal
open Cert.KernelIdeal.Natten (one kout rs cs ws biasV bias_win bias_off queryRow spanRow ctxRow part lane64 variant variant_lt)
open Cert.ReferenceIdeal.Natten (two winScores ctxScores window vg vc kg qg kc)

/-- The two forms of one query's attention, the masked keys being those outside `e`. -/
theorem one_two (e : Fin 8 × Fin 16 → Fin 704) (he : Function.Injective e) (s : Fin 704 → EReal) (t : Fin 8 × Fin 16 → ℝ)
    (hs : ∀ w, s (e w) = t w) (hb : ∀ k, (∀ w, e w ≠ k) → s k = ⊥) (c : Fin 256 → ℝ) (v : Fin 704 → ℝ) (vc : Fin 256 → ℝ) :
    one s (fun x => (c x : EReal)) (fun k => (v k : EReal)) (fun x => (vc x : EReal))
      = two (fun w => (t w : EReal)) (fun x => (c x : EReal)) (fun w => (v (e w) : EReal)) (fun x => (vc x : EReal)) := by
  unfold one two
  exact attend_eq e he s t hs hb c v vc _ rfl _ rfl _ rfl

theorem span_lt (r : Fin 16) (q : Fin 4) (w : Fin 64) (x : Fin 8 × Fin 16) :
    (rs (4 * r.val + q.val) + x.1.val - ws r.val) * 64 + (cs w.val + x.2.val) < 704 := by
  have := x.1.isLt; have := x.2.isLt
  unfold rs ws cs
  omega

/-- The place, in the span of rows the launch reads, of a key of the query's window. -/
def place (r : Fin 16) (q : Fin 4) (w : Fin 64) (x : Fin 8 × Fin 16) : Fin 704 :=
  ⟨(rs (4 * r.val + q.val) + x.1.val - ws r.val) * 64 + (cs w.val + x.2.val), span_lt r q w x⟩

theorem place_inj (r : Fin 16) (q : Fin 4) (w : Fin 64) : Function.Injective (place r q w) := by
  intro x y hxy
  have h := congrArg Fin.val hxy
  simp only [place] at h
  have := x.1.isLt; have := x.2.isLt; have := y.1.isLt; have := y.2.isLt
  unfold rs ws cs at h
  exact Prod.ext (Fin.ext (by omega)) (Fin.ext (by omega))

variable (X : FVec Ideal S4x4352x1152 .bf16) (T : FVec Ideal S6x15x31 .f32)

theorem coe_dot (f g : Fin 64 → ℝ) :
    (∑ d, ((f d : EReal) * (((1 : ℝ) / 8 : ℝ) : EReal)) * (g d : EReal)) = ((∑ d, f d * (1 / 8) * g d : ℝ) : EReal) := by
  rw [coe_sum]
  exact Finset.sum_congr rfl fun d _ => by rw [EReal.coe_mul, EReal.coe_mul]

theorem kout_eq (x : S4x4352x1152.Idx → ℝ) (hX : ∀ j, X j = (x j : EReal)) (y : S6x15x31.Idx → ℝ) (hT : ∀ j, T j = (y j : EReal))
    (b : Fin 4) (r : Fin 16) (q : Fin 4) (w : Fin 64) (n : Fin 256) (hn : n.val = q.val * 64 + w.val) (R : Fin 64) (hR : R.val = 4 * r.val + q.val)
    (h : Fin 6) (d : Fin 64) :
    kout X (biasV T) b r n h d
      = two (fun z => winScores X T (ix6 b h R w z.1 z.2)) (fun n => ctxScores X (ix5 b h R w n))
          (fun z => window (vg X) (ix7 b R w z.1 z.2 h d)) (fun n => vc X (ix4 b n h d)) := by
  have hrow : (⟨256 + (R.val * 64 + w.val), by omega⟩ : Fin 4352) = queryRow r n := Fin.ext (by simp only [queryRow]; omega)
  have hpart : ∀ (d : Fin 64), (⟨h.val * 64 + d.val, by omega⟩ : Fin 1152) = part 0 (lane64 h d) := fun d =>
    Fin.ext (by show h.val * 64 + d.val = 0 * 384 + (h.val * 64 + d.val); omega)
  have hspan : ∀ z : Fin 8 × Fin 16,
      (⟨256 + ((rs R.val + z.1.val) * 64 + (cs w.val + z.2.val)), by have := z.1.isLt; have := z.2.isLt; unfold rs cs; omega⟩ : Fin 4352)
        = spanRow r.val (place r q w z) := fun z => Fin.ext (by
    have := z.1.isLt; have := z.2.isLt
    show 256 + ((rs R.val + z.1.val) * 64 + (cs w.val + z.2.val)) = 256 + ws r.val * 64 + ((rs (4 * r.val + q.val) + z.1.val - ws r.val) * 64 + (cs w.val + z.2.val))
    rw [hR]; unfold rs ws cs; omega)
  have hs : ∀ z, winScores X T (ix6 b h R w z.1 z.2)
      = ((∑ d' : Fin 64, x (ix3 b (queryRow r n) (part 0 (lane64 h d'))) * (1 / 8) * x (ix3 b (spanRow r.val (place r q w z)) (part 1 (lane64 h d')))
          + y (ix3 h (⟨rs R.val + z.1.val + 7 - R.val, Cert.ReferenceIdeal.Natten.rowRel_lt R z.1⟩ : Fin 15)
              (⟨cs w.val + z.2.val + 15 - w.val, Cert.ReferenceIdeal.Natten.colRel_lt w z.2⟩ : Fin 31)) : ℝ) : EReal) := fun z => by
    rw [Cert.ReferenceIdeal.Natten.winScores_at, Cert.ReferenceIdeal.Natten.bias_at, hT, EReal.coe_add, ← coe_dot]
    refine congrArg (· + _) (Finset.sum_congr rfl fun d' _ => ?_)
    rw [Cert.ReferenceIdeal.Natten.qg_at, Cert.ReferenceIdeal.Natten.window_at, Cert.ReferenceIdeal.Natten.kg_at, hX, hX, hrow, hpart, hspan]
    rfl
  have hc : ∀ n', ctxScores X (ix5 b h R w n')
      = ((∑ d' : Fin 64, x (ix3 b (queryRow r n) (part 0 (lane64 h d'))) * (1 / 8) * x (ix3 b (ctxRow n') (part 1 (lane64 h d'))) : ℝ) : EReal) := fun n' => by
    unfold ctxScores
    rw [Cert.ReferenceIdeal.Natten.ctxDot_at, ← coe_dot]
    refine Finset.sum_congr rfl fun d' _ => ?_
    rw [Cert.ReferenceIdeal.Natten.qg_at, Cert.ReferenceIdeal.Natten.kc_at, hX, hX, hrow, hpart]
    rfl
  have hv : ∀ z : Fin 8 × Fin 16, window (vg X) (ix7 b R w z.1 z.2 h d) = (x (ix3 b (spanRow r.val (place r q w z)) (part 2 (lane64 h d))) : EReal) := fun z => by
    rw [Cert.ReferenceIdeal.Natten.window_at, Cert.ReferenceIdeal.Natten.vg_at, hX, hspan]
    rfl
  have hvc : ∀ n', vc X (ix4 b n' h d) = (x (ix3 b (ctxRow n') (part 2 (lane64 h d))) : EReal) := fun n' => by
    rw [Cert.ReferenceIdeal.Natten.vc_at, hX]
    rfl
  simp only [hs, hc, hv, hvc]
  rw [← one_two (place r q w) (place_inj r q w)
    (fun k => (∑ d' : Fin 64, ((x (ix3 b (queryRow r n) (part 0 (lane64 h d'))) : EReal) * (((1 : ℝ) / 8 : ℝ) : EReal))
        * x (ix3 b (spanRow r.val k) (part 1 (lane64 h d')))) + biasV T (ix4 (⟨variant r, variant_lt r⟩ : Fin 3) h n k))
    _ (fun z => ?_) (fun k hk => ?_) _ (fun k => x (ix3 b (spanRow r.val k) (part 2 (lane64 h d)))) _]
  · unfold kout
    simp only [hX, coe_dot]
  · rw [EReal.coe_add, coe_dot, ← hT]
    refine congrArg (_ + ·) (bias_win T r h q w z.1 z.2 n hn (place r q w z) rfl _ ?_ _ rfl)
    show rs R.val + z.1.val + 7 - R.val = _
    rw [hR]
  · show _ + biasV T _ = ⊥
    rw [bias_off T r h q w n hn k fun a b e => hk (a, b) (Fin.ext e), EReal.add_bot]

/-- The launch's result array is the reference's result. -/
theorem value_eq (hX : ∀ j, ∃ v : ℝ, X j = (v : EReal)) (hT : ∀ j, ∃ v : ℝ, T j = (v : EReal)) (m : (ℓ : Loc nD τ sig) → Buf (Elt Ideal) ℓ) (c : Dev nD)
    (h0 : m ((c.tc : Thread nD τ).loc main_arg0) = X) (h1 : m ((c.tc : Thread nD τ).loc main_arg1) = T) :
    Cert.KernelIdeal.Natten.G m c = Cert.ReferenceIdeal.Natten.result X T := by
  choose x hx using hX
  choose y hy using hT
  funext i
  have b0 : (i 0).val < 4 := (i 0).isLt
  have b1 : (i 1).val < 4096 := (i 1).isLt
  have b2 : (i 2).val < 384 := (i 2).isLt
  have ei : i = ix3 (⟨(i 0).val, b0⟩ : Fin 4) (⟨(i 1).val, b1⟩ : Fin 4096) (⟨(i 2).val, b2⟩ : Fin 384) := by
    funext a
    match a with
    | ⟨0, _⟩ => rfl
    | ⟨1, _⟩ => rfl
    | ⟨2, _⟩ => rfl
  rw [Cert.KernelIdeal.Natten.G_of m c i ⟨(i 0).val, b0⟩ ⟨(i 1).val / 256, by omega⟩ ⟨(i 1).val % 256, by omega⟩ ⟨(i 2).val / 64, by omega⟩ ⟨(i 2).val % 64, by omega⟩
    rfl (by show (i 1).val = (i 1).val / 256 * 256 + (i 1).val % 256; omega) (by show (i 2).val = (i 2).val / 64 * 64 + (i 2).val % 64; omega), h0, h1,
    kout_eq X T x hx y hy _ _ ⟨(i 1).val % 256 / 64, by omega⟩ ⟨(i 1).val % 64, by omega⟩ _ (by show (i 1).val % 256 = (i 1).val % 256 / 64 * 64 + (i 1).val % 64; omega)
      ⟨(i 1).val / 64, by omega⟩ (by show (i 1).val / 64 = 4 * ((i 1).val / 256) + (i 1).val % 256 / 64; omega)]
  refine (Cert.ReferenceIdeal.Natten.result_at X T _ _ _ _ _ ⟨(i 1).val, b1⟩ ⟨(i 2).val, b2⟩ ?_ ?_).symm.trans (congrArg _ ei.symm)
  · show (i 1).val = (i 1).val / 64 * 64 + (i 1).val % 64; omega
  · show (i 2).val = (i 2).val / 64 * 64 + (i 2).val % 64; omega

end Cert.Natten
end
-- ==== Proof.Gates.lean ====
/- The gates' projection: the launch's result array, at an index, is the reference's product read at the gates' columns. -/
module

public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.Covers
public import Idealize.ShloMosaic.Lib.IdealHost

@[expose] public section

set_option maxRecDepth 16384

noncomputable section

namespace Cert.Kernel2Ideal.Gates

open Idealize.ShloMosaic Idealize.ShloMosaic.TcCoe Idealize.ShloMosaic.Tactic
open Cert.Kernel2Ideal Cert.Kernel2Ideal.Gen

/-- Column `k` of the gates, among the projection's columns. -/
def gateCol (k : Fin 4096) : Fin 7040 := ⟨2944 + k.val, by omega⟩

/-- One entry of the projection, the gates' column `k` of token `n`. -/
def gate (U : FVec Ideal S17408x1024 .bf16) (W : FVec Ideal S1024x7040 .f32) (n : Fin 17408) (k : Fin 4096) : EReal :=
  ∑ d : Fin 1024, (U (ix2 n d) : EReal) * W (ix2 d (gateCol k))

theorem pay_at (x y : FVec Ideal S1024x1024 .bf16) (n k : Fin 1024) :
    k0_pay1 (F := Ideal) x y (ix2 n k) = ∑ d : Fin 1024, (x (ix2 n d) : EReal) * y (ix2 d k) := by
  pointwise [k0_pay1]

variable (m : (ℓ : Loc nD τ sig) → Buf (Elt Ideal) ℓ)

theorem V_weights (c : Dev nD) : V m c main_v1 = extractStridedSlice S1024x4096 ![0, 2944]
    (truncf (F := Ideal) .bf16 (m ((c.tc : Thread nD τ).loc main_arg1)) bitsLt_bf16_f32) slices_S1024x7040_S1024x4096_0_2944 := by
  unfold_abbrev_sides
  after_results

theorem weights_at (c : Dev nD) (d : Fin 1024) (k : Fin 4096) :
    V m c main_v1 (ix2 d k) = m ((c.tc : Thread nD τ).loc main_arg1) (ix2 d (gateCol k)) := by
  rw [V_weights]
  pointwise []
  rfl

theorem coord0_at : ∀ a : Fin 17, (BitVec.ofNat 32 a.val).toNat = a.val := by decide +kernel
theorem coord1_at : ∀ a : Fin 4, (BitVec.ofNat 32 a.val).toNat = a.val := by decide +kernel
theorem map0_at (i : grid0.Coords) : cc0_transform_0 i = ![(i 0).val, 0] :=
  congrArg (fun x : ℕ => ![x, 0]) (coord0_at (i 0))
theorem map1_at (i : grid0.Coords) : cc0_transform_1 i = ![0, (i 1).val] :=
  congrArg (fun x : ℕ => ![0, x]) (coord1_at (i 1))
theorem map2_at (i : grid0.Coords) : cc0_transform_2 i = ![(i 0).val, (i 1).val] :=
  congrArg₂ (fun x y : ℕ => ![x, y]) (coord0_at (i 0)) (coord1_at (i 1))

/-- Row `n` of block `r` of the tokens, and column `k` of block `s` of the gates. -/
def row (r : Fin 17) (n : Fin 1024) : Fin 17408 := ⟨r.val * 1024 + n.val, by omega⟩
def col (s : Fin 4) (k : Fin 1024) : Fin 4096 := ⟨s.val * 1024 + k.val, by omega⟩

theorem tokens_blk (c : Dev nD) (t : Fin cfg0.N) (n d : Fin 1024) :
    iblk m c 0 t (ix2 n d) = m ((c.tc : Thread nD τ).loc main_arg0) (ix2 (row (grid0.coords t 0) n) d) := by
  show V m c main_arg0 (((cfg0.win 0).blk t).view.emb (ix2 n d)) = _
  rw [V_main_arg0]
  refine congrArg _ (funext fun a => Fin.ext ?_)
  refine (Pipeline.Window.rect_emb_val (cfg0.win 0) t (ix2 n d) a).trans ?_
  show cc0_transform_0 (grid0.coords t) a * _ + _ = _
  rw [map0_at]
  match a with
  | ⟨0, _⟩ => rfl
  | ⟨1, _⟩ => show 0 * 1024 + d.val = d.val; omega

theorem weights_blk (c : Dev nD) (t : Fin cfg0.N) (d k : Fin 1024) :
    iblk m c 1 t (ix2 d k) = m ((c.tc : Thread nD τ).loc main_arg1) (ix2 d (gateCol (col (grid0.coords t 1) k))) := by
  refine Eq.trans ?_ (weights_at m c d (col (grid0.coords t 1) k))
  show V m c main_v1 (((cfg0.win 1).blk t).view.emb (ix2 d k)) = _
  refine congrArg _ (funext fun a => Fin.ext ?_)
  refine (Pipeline.Window.rect_emb_val (cfg0.win 1) t (ix2 d k) a).trans ?_
  show cc0_transform_1 (grid0.coords t) a * _ + _ = _
  rw [map1_at]
  match a with
  | ⟨0, _⟩ => show 0 * 1024 + d.val = d.val; omega
  | ⟨1, _⟩ => rfl

theorem out_at (x y : FVec Ideal S1024x1024 .bf16) (n k : Fin 1024) :
    out0_2 (F := Ideal) x y (ix2 n k) = ∑ d : Fin 1024, (x (ix2 n d) : EReal) * y (ix2 d k) := by
  unfold out0_2
  rw [View.canon_unit_zero (by decide)]
  refine (pay_at _ _ n k).trans ?_
  rw [View.ld_unit_zero (by decide), View.ld_unit_zero (by decide)]

theorem after_at (c : Dev nD) (t : Fin cfg0.N) (n k : Fin 1024) :
    out0_2 (iblk m c 0 t) (iblk m c 1 t) (ix2 n k)
      = gate (m ((c.tc : Thread nD τ).loc main_arg0)) (m ((c.tc : Thread nD τ).loc main_arg1)) (row (grid0.coords t 0) n) (col (grid0.coords t 1) k) := by
  refine (out_at _ _ n k).trans (Finset.sum_congr rfl fun d _ => ?_)
  exact congrArg₂ (fun a b : EReal => a * b) (tokens_blk m c t n d) (weights_blk m c t d k)

/-- The launch's result array. -/
def G (c : Dev nD) : FVec Ideal S17408x4096 .bf16 := fun i =>
  gate (m ((c.tc : Thread nD τ).loc main_arg0)) (m ((c.tc : Thread nD τ).loc main_arg1)) (i 0) (i 1)

theorem covers2 : (cfg0.win 2).Covers := by
  refine (cfg0.win 2).covers_of_indexMap_surj rfl (fun a => (by decide : ∀ a : Fin 2, 0 < S1024x1024.size a) a) fun β => ?_
  have n0 : (cfg0.win 2).nblk ⟨0, (by decide : 0 < 2)⟩ = 17 :=
    (by decide : (S17408x4096.size 0 + S1024x1024.size 0 - 1) / S1024x1024.size 0 = 17)
  have n1 : (cfg0.win 2).nblk ⟨1, (by decide : 1 < 2)⟩ = 4 :=
    (by decide : (S17408x4096.size 1 + S1024x1024.size 1 - 1) / S1024x1024.size 1 = 4)
  have h0 := Nat.lt_of_lt_of_eq (β ⟨0, (by decide : 0 < 2)⟩).isLt n0
  have h1 := Nat.lt_of_lt_of_eq (β ⟨1, (by decide : 1 < 2)⟩).isLt n1
  obtain ⟨i, i0, i1⟩ : ∃ i : grid0.Coords, (i 0).val = (β ⟨0, (by decide : 0 < 2)⟩).val ∧ (i 1).val = (β ⟨1, (by decide : 1 < 2)⟩).val :=
    ⟨fun a => match a with | ⟨0, _⟩ => ⟨_, h0⟩ | ⟨1, _⟩ => ⟨_, h1⟩, rfl, rfl⟩
  refine ⟨i, fun a => ?_⟩
  have e : (cfg0.win 2).indexMap i a = (![(i 0).val, (i 1).val] : Fin 2 → ℕ) a := congrFun (map2_at i) a
  rw [e]
  match a with
  | ⟨0, _⟩ => exact i0
  | ⟨1, _⟩ => exact i1

theorem arr_eq (c : Dev nD) : (dats m 0 c).arrAt 2 cfg0.N = G m c := by
  refine (dats m 0 c).arrAt_eq_of_covers 2 _ covers2 fun t hf y => ?_
  obtain ⟨z, hz⟩ : ∃ z : S1024x1024.Idx, z = (cfg0.win 2).xinj (cfg0.grid.coords t) y := ⟨_, rfl⟩
  have e : z = ix2 (z 0) (z 1) := by
    funext a
    match a with
    | ⟨0, _⟩ => rfl
    | ⟨1, _⟩ => rfl
  have he : ∀ a : Fin 2, ((((cfg0.win 2).blk t).view.emb y a : ℕ)) = cc0_transform_2 (grid0.coords t) a * S1024x1024.size a + (z a).val := by
    intro a
    rw [hz]
    exact Pipeline.Window.rect_emb_val (cfg0.win 2) t y a
  rw [map2_at] at he
  have hl : (dats m 0 c).after 2 t ((cfg0.win 2).xinj (cfg0.grid.coords t) y) = out0_2 (iblk m c 0 t) (iblk m c 1 t) z := by rw [after0_2, hz]
  refine (show _ = out0_2 (iblk m c 0 t) (iblk m c 1 t) z from hl).trans ?_
  rw [e]
  refine (after_at m c t (z 0) (z 1)).trans ?_
  exact congrArg₂ (gate _ _) (Fin.ext (he 0).symm) (Fin.ext (he 1).symm)

/-- The reference's product, at the gates' columns. -/
theorem ref_at (U : FVec Ideal Reference2Ideal.S17408x1024 .bf16) (W : FVec Ideal Reference2Ideal.S1024x7040 .f32) (n : Fin 17408) (k : Fin 4096) :
    truncf (F := Ideal) .bf16 (extractStridedSlice Reference2Ideal.S17408x4096 ![0, 2944]
      (Host.dotGeneral Reference2Ideal.dot_S17408x1024_S1024x7040_S17408x7040_1_0_0_1_n_n none (extf .f32 U Reference2Ideal.Facts₀.bitsLt_bf16_f32) W)
      Reference2Ideal.Facts₀.slices_S17408x7040_S17408x4096_0_2944) Reference2Ideal.Facts₀.bitsLt_bf16_f32 (ix2 n k) = gate U W n k := by
  pointwise []
  rfl

end Cert.Kernel2Ideal.Gates
end
-- ==== Proof.FfnMath.lean ====
/- The dense channel mixing of one token, in the operations of the ideal values. -/
module

public import Idealize.ShloMosaic.Lib.Pipeline.ValueKit
public import Idealize.ShloMosaic.Lib.IdealHost

@[expose] public section

noncomputable section

namespace Cert.Ffn

open Idealize.ShloMosaic

/-- The gate's activation times the value, with the logistic function as the kernel writes it. -/
def act (g v : EReal) : EReal :=
  g * (Ideal.ofBits .f32 1056964608#32 + Ideal.ofBits .f32 1056964608#32 * Ideal.tanh (Ideal.ofBits .f32 1056964608#32 * g)) * v

theorem half_eq : Ideal.ofBits .f32 1056964608#32 = ((1 / 2 : ℝ) : EReal) := by
  simp [Ideal.ofBits, Ideal.ieee, -EReal.coe_mul]; norm_num

/-- The kernel's form of the logistic function is the logistic function. -/
theorem logistic_eq (g : EReal) : Ideal.ofBits .f32 1056964608#32 + Ideal.ofBits .f32 1056964608#32 * Ideal.tanh (Ideal.ofBits .f32 1056964608#32 * g)
    = Ideal.logistic g := by
  rw [half_eq]
  induction g with
  | bot =>
    rw [EReal.coe_mul_bot_of_pos (by norm_num), Ideal.tanh_bot, Ideal.logistic_bot, show (-1 : EReal) = ((-1 : ℝ) : EReal) from rfl, ← EReal.coe_mul, ← EReal.coe_add]
    norm_num
  | top =>
    rw [EReal.coe_mul_top_of_pos (by norm_num), Ideal.tanh_top, Ideal.logistic_top]
    norm_cast
    norm_num
  | coe r =>
    rw [← EReal.coe_mul, Ideal.tanh_coe, Ideal.logistic_coe, ← EReal.coe_mul, ← EReal.coe_add]
    congr 1
    have e : Real.exp (-r) = Real.exp (-(1 / 2 * r)) * Real.exp (-(1 / 2 * r)) := by rw [← Real.exp_add]; congr 1; ring
    have p := Real.exp_pos (1 / 2 * r)
    have q : Real.exp (-(1 / 2 * r)) * Real.exp (1 / 2 * r) = 1 := by rw [← Real.exp_add]; simp
    have q' : Real.exp (-(1 / 2 * r)) = (Real.exp (1 / 2 * r))⁻¹ := Real.exp_neg _
    rw [Real.tanh_eq_sinh_div_cosh, Real.sinh_eq, Real.cosh_eq, e, q']
    field_simp
    ring

/-- The hidden product of a token, `u` its row. -/
def hid (u : Fin 1024 → EReal) (wg wu : Fin 1024 → Fin 2816 → EReal) (j : Fin 2816) : EReal :=
  act (∑ d, u d * wg d j) (∑ d, u d * wu d j)

/-- The channel mixing of a token. -/
def mixing (u : Fin 1024 → EReal) (wg wu : Fin 1024 → Fin 2816 → EReal) (wd : Fin 2816 → Fin 1024 → EReal) (k : Fin 1024) : EReal :=
  ∑ j, hid u wg wu j * wd j k

/-- The mean of a row, and the row normalised by its mean and variance. -/
def rowMean (v : Fin 1024 → EReal) : EReal := Ideal.div (∑ x, v x) (Ideal.ofBits .f32 1149239296#32)
def rowNorm (v : Fin 1024 → EReal) (k : Fin 1024) : EReal :=
  (v k - rowMean v) * Ideal.rsqrt (Ideal.div (∑ x, (v x - rowMean v) * (v x - rowMean v)) (Ideal.ofBits .f32 1149239296#32) + Ideal.ofBits .f32 925353388#32)

/-- A context token's modulation or a latent token's. -/
def pick (s : Fin 4352) (p q : EReal) : EReal := if s.val < 256 then p else q

/-- A token after its layer norm, and its modulated norm. -/
def stream (x p f g b : Fin 1024 → EReal) (k : Fin 1024) : EReal :=
  rowNorm (fun j => Ideal.ofBits .f32 1068827891#32 * x j + p j * f j) k * g k + b k
def next (y p q : Fin 1024 → EReal) (k : Fin 1024) : EReal := rowNorm y k * (1 + p k) + q k

/-- The same of token `s` of batch `B`, from the call's arguments. -/
def mixTok (U : FVec Ideal ⟨3, ![4, 4352, 1024]⟩ .bf16) (Wg Wu : FVec Ideal ⟨2, ![1024, 2816]⟩ .f32) (Wd : FVec Ideal ⟨2, ![2816, 1024]⟩ .f32)
    (B : Fin 4) (s : Fin 4352) (k : Fin 1024) : EReal :=
  mixing (fun d => U (ix3 B s d)) (fun d j => Wg (ix2 d j)) (fun d j => Wu (ix2 d j)) (fun j k => Wd (ix2 j k)) k
/-- The modulation of kind `e` that token `s` of batch `B` takes. -/
def modTok (M : FVec Ideal ⟨4, ![4, 2, 6, 1024]⟩ .f32) (e : Fin 6) (B : Fin 4) (s : Fin 4352) (k : Fin 1024) : EReal :=
  pick s (M (ix4 B 0 e k)) (M (ix4 B 1 e k))
def streamTok (U : FVec Ideal ⟨3, ![4, 4352, 1024]⟩ .bf16) (X : FVec Ideal ⟨3, ![4, 4352, 1024]⟩ .f32) (M : FVec Ideal ⟨4, ![4, 2, 6, 1024]⟩ .f32)
    (Wg Wu : FVec Ideal ⟨2, ![1024, 2816]⟩ .f32) (Wd : FVec Ideal ⟨2, ![2816, 1024]⟩ .f32) (g b : FVec Ideal ⟨1, ![1024]⟩ .f32)
    (B : Fin 4) (s : Fin 4352) : Fin 1024 → EReal :=
  stream (fun j => X (ix3 B s j)) (modTok M 5 B s) (mixTok U Wg Wu Wd B s) (fun j => g (ix1 j)) (fun j => b (ix1 j))
def nextTok (N : FVec Ideal ⟨4, ![4, 2, 6, 1024]⟩ .f32) (B : Fin 4) (s : Fin 4352) (y : Fin 1024 → EReal) : Fin 1024 → EReal :=
  next y (modTok N 1 B s) (modTok N 0 B s)

/-- Column `j` of half `h` of the hidden columns, and the channel mixing as the halves' sum. -/
def hcol (h : Fin 2) (j : Fin 1408) : Fin 2816 := ⟨h.val * 1408 + j.val, by omega⟩
theorem sum_halves (f : Fin 2816 → EReal) : (∑ j, f (hcol 0 j)) + ∑ j, f (hcol 1 j) = ∑ j, f j := by
  refine Eq.trans ?_ (Fin.sum_univ_add (a := 1408) (b := 1408) f).symm
  refine congrArg₂ (fun a b : EReal => a + b) (Finset.sum_congr rfl fun j _ => congrArg f (Fin.ext ?_)) (Finset.sum_congr rfl fun j _ => congrArg f (Fin.ext ?_))
  · show 0 * 1408 + j.val = j.val
    omega
  · show 1 * 1408 + j.val = 1408 + j.val
    omega

end Cert.Ffn
end
-- ==== Proof.FfnBody.lean ====
/- The dense channel mixing: what one step of the launch leaves, at an index of its blocks. -/
module

public import proofs.«01_k».proof.Proof.Gen.Kernel3Ideal.Value
public import proofs.«01_k».proof.Proof.FfnMath
public import Idealize.ShloMosaic.Lib.Pipeline.ValueKit
public import Idealize.ShloMosaic.Lib.Pipeline.Covers
public import Idealize.ShloMosaic.Lib.IdealHost

@[expose] public section

set_option maxRecDepth 16384

noncomputable section

namespace Cert.Kernel3Ideal.Ffn

open Idealize.ShloMosaic Idealize.ShloMosaic.TcCoe Idealize.ShloMosaic.Tactic
open Cert.Kernel3Ideal Cert.Kernel3Ideal.Gen Cert.Ffn

/-- Row `n` of block `r` of the tokens, counted within its batch. -/
def tok (r : Fin 32) (n : Fin 544) : Fin 4352 := ⟨r.val % 8 * 544 + n.val, by omega⟩

theorem pay2_at (x : FVec Ideal S544x1024 .bf16) (wg wu : FVec Ideal S1024x1408 .bf16) (acc : FVec Ideal S544x1024 .f32)
    (wd : FVec Ideal S1408x1024 .bf16) (n : Fin 544) (k : Fin 1024) :
    k0_pay2 (F := Ideal) x wg wu acc wd (ix2 n k) = (acc (ix2 n k) : EReal)
      + ∑ j : Fin 1408, act (∑ d : Fin 1024, (x (ix2 n d) : EReal) * wg (ix2 d j)) (∑ d : Fin 1024, (x (ix2 n d) : EReal) * wu (ix2 d j)) * wd (ix2 j k) := by
  pointwise [k0_pay2]
  rfl

theorem first_at : ∀ n : Fin 544, IntOp.cmpi CmpIPredicate.slt (BitVec.ofNat 32 n.val) 256#32 = if n.val < 256 then 1#1 else 0#1 := by decide +kernel

theorem mask_at (r : Fin 32) (n : Fin 544) (p q : EReal) :
    Scalar.select (k0_pay4 (BitVec.ofNat 32 r.val) (ix2 n 0)) p q = pick (tok r n) p q := by
  have h : k0_pay4 (BitVec.ofNat 32 r.val) (ix2 n 0) = IntOp.andi (if n.val < 256 then 1#1 else 0#1) (if r.val % 8 = 0 then 1#1 else 0#1) := by
    pointwise [k0_pay4]
    refine congrArg₂ IntOp.andi (first_at n) ?_
    revert r
    decide +kernel
  rw [h]
  unfold pick tok
  by_cases hn : n.val < 256
  · by_cases hr : r.val % 8 = 0
    · rw [if_pos hn, if_pos hr, if_pos (show r.val % 8 * 544 + n.val < 256 by omega)]
      rfl
    · rw [if_pos hn, if_neg hr, if_neg (show ¬r.val % 8 * 544 + n.val < 256 by omega)]
      rfl
  · rw [if_neg hn, if_neg (show ¬r.val % 8 * 544 + n.val < 256 by omega)]
    split <;> rfl

theorem pay5_at (r : Fin 32) (x acc : FVec Ideal S544x1024 .f32) (p q : FVec Ideal S1x1x1x1024 .f32) (n : Fin 544) (k : Fin 1024) :
    k0_pay5 (F := Ideal) (BitVec.ofNat 32 r.val) x p q acc (ix2 n k)
      = Ideal.ofBits .f32 1068827891#32 * (x (ix2 n k) : EReal) + pick (tok r n) (p (ix4 0 0 0 k)) (q (ix4 0 0 0 k)) * acc (ix2 n k) := by
  rw [← mask_at]
  pointwise [k0_pay5]

theorem pay6_at (a : BitVec 32) (x acc : FVec Ideal S544x1024 .f32) (p q : FVec Ideal S1x1x1x1024 .f32) (n : Fin 544) :
    k0_pay6 (F := Ideal) a x p q acc (ix2 n 0) = ∑ j : Fin 1024, (k0_pay5 (F := Ideal) a x p q acc (ix2 n j) : EReal) := by
  pointwise [k0_pay6]

theorem pay8_at (z : FVec Ideal S544x1024 .f32) (s : FVec Ideal S544x1 .f32) (g b : FVec Ideal S1x1024 .f32) (n : Fin 544) (k : Fin 1024)
    (hs : s (ix2 n 0) = ∑ j : Fin 1024, (z (ix2 n j) : EReal)) :
    k0_pay8 (F := Ideal) z s k0_pay7 g b (ix2 n k) = rowNorm (fun j => (z (ix2 n j) : EReal)) k * g (ix2 0 k) + b (ix2 0 k) := by
  unfold rowNorm rowMean
  pointwise [k0_pay8, hs, k0_pay7]

/-- The stream of a token, from a step's blocks. -/
theorem stream_at (r : Fin 32) (x acc : FVec Ideal S544x1024 .f32) (p q : FVec Ideal S1x1x1x1024 .f32) (g b : FVec Ideal S1x1024 .f32)
    (n : Fin 544) (k : Fin 1024) :
    k0_pay8 (F := Ideal) (k0_pay5 (BitVec.ofNat 32 r.val) x p q acc) (k0_pay6 (BitVec.ofNat 32 r.val) x p q acc) k0_pay7 g b (ix2 n k)
      = stream (fun j => x (ix2 n j)) (fun j => pick (tok r n) (p (ix4 0 0 0 j)) (q (ix4 0 0 0 j))) (fun j => acc (ix2 n j))
          (fun j => g (ix2 0 j)) (fun j => b (ix2 0 j)) k := by
  rw [pay8_at _ _ g b n k (pay6_at _ x acc p q n)]
  unfold stream
  simp only [pay5_at]

theorem pay9_at (z : FVec Ideal S544x1024 .f32) (s1 s2 : FVec Ideal S544x1 .f32) (g b : FVec Ideal S1x1024 .f32) (n : Fin 544) (k : Fin 1024) :
    k0_pay9 (F := Ideal) z s1 s2 g b (ix2 n k) = rowNorm (fun j => (k0_pay8 (F := Ideal) z s1 s2 g b (ix2 n j) : EReal)) k := by
  unfold rowNorm rowMean
  pointwise [k0_pay9]

theorem pay3_at (r : Fin 32) (z : FVec Ideal S544x1024 .f32) (w p q s : FVec Ideal S1x1x1x1024 .f32) (n : Fin 544) (k : Fin 1024) :
    k0_pay3 (F := Ideal) (k0_pay4 (BitVec.ofNat 32 r.val)) z (k0_pay10 w) p q s (ix2 n k)
      = (z (ix2 n k) : EReal) * (1 + pick (tok r n) (w (ix4 0 0 0 k)) (p (ix4 0 0 0 k))) + pick (tok r n) (q (ix4 0 0 0 k)) (s (ix4 0 0 0 k)) := by
  rw [← mask_at, ← mask_at]
  pointwise [k0_pay3, k0_pay10]

/-- Row `e` of kind `w` of a block of modulations. -/
theorem mod_at (x : FVec Ideal S1x2x6x1024 .f32) (w : Fin 2) (e : Fin 6) (o : ℕ) (ho : o = e.val) (v : ℕ) (hv : v = w.val) (h) (k : Fin 1024) :
    View.ld (Val := Elt Ideal) (e' := .f32) x (Rect.unit ![0, v, o, 0] ![1, 1, 1, 1024] h) (ix4 (0 : Fin 1) (0 : Fin 1) (0 : Fin 1) k) = x (ix4 (0 : Fin 1) w e k) := by
  subst ho hv
  refine View.ld_unit_apply_of _ _ _ _ _ _ fun a => ?_
  match a with
  | ⟨0, _⟩ => rfl
  | ⟨1, _⟩ => rfl
  | ⟨2, _⟩ => rfl
  | ⟨3, _⟩ => exact (Nat.zero_add _).symm

section
variable (c : Dev nD) (i : grid0.Coords) (a2 h2 a3 h3 a4 h4 a5 h5 a6 h6 a7 h7 a8 h8 a9 h9 a10 h10 a11 h11 a12 h12 a13 h13)
  (x0 : Vec Ideal S544x1024 .bf16) (x1 : Vec Ideal S544x1024 .f32) (x2 x3 : Vec Ideal S1x2x6x1024 .f32) (x4 x5 : Vec Ideal S1024x1408 .bf16)
  (x6 : Vec Ideal S1408x1024 .bf16) (x7 x8 : Vec Ideal S1x1024 .f32) (xs : Vec Ideal S544x1024 .f32)

theorem scratch_A (hc0 hc1) :
    sout0_A_0 (F := Ideal) c i a2 h2 a3 h3 a4 h4 a5 h5 a6 h6 a7 h7 a8 h8 a9 h9 a10 h10 a11 h11 a12 h12 a13 h13 hc0 hc1 x0 x1 x2 x3 x4 x5 x6 x7 x8
      = k0_pay2 (F := Ideal) x0 x4 x5 (k0_pay1 (F := Ideal)) x6 := by
  frame_out

/-- The modulated product that the last step of a block leaves. -/
theorem out_B (hc0 hc1) (r : Fin 32) (hr : (i 0).val = r.val) (n : Fin 544) (k : Fin 1024) :
    out0_B_9 (F := Ideal) c i a2 h2 a3 h3 a4 h4 a5 h5 a6 h6 a7 h7 a8 h8 a9 h9 a10 h10 a11 h11 a12 h12 a13 h13 hc0 hc1 x0 x1 x2 x3 x4 x5 x6 x7 x8 xs (ix2 n k)
      = stream (fun j => x1 (ix2 n j)) (fun j => pick (tok r n) (x2 (ix4 0 0 5 j)) (x2 (ix4 0 1 5 j)))
          (fun j => k0_pay2 (F := Ideal) x0 x4 x5 xs x6 (ix2 n j)) (fun j => x7 (ix2 0 j)) (fun j => x8 (ix2 0 j)) k := by
  frame_out
  rw [hr]
  refine (stream_at r _ _ _ _ _ _ n k).trans ?_
  exact congrArg (fun p => stream (fun j => x1 (ix2 n j)) p (fun j => k0_pay2 (F := Ideal) x0 x4 x5 xs x6 (ix2 n j)) (fun j => x7 (ix2 0 j)) (fun j => x8 (ix2 0 j)) k)
    (funext fun j => congrArg₂ (pick (tok r n)) (mod_at x2 0 5 5 rfl 0 rfl _ j) (mod_at x2 1 5 5 rfl 1 rfl _ j))

theorem next_B (hc0 hc1) (r : Fin 32) (hr : (i 0).val = r.val) (n : Fin 544) (k : Fin 1024) :
    out0_B_10 (F := Ideal) c i a2 h2 a3 h3 a4 h4 a5 h5 a6 h6 a7 h7 a8 h8 a9 h9 a10 h10 a11 h11 a12 h12 a13 h13 hc0 hc1 x0 x1 x2 x3 x4 x5 x6 x7 x8 xs (ix2 n k)
      = next (stream (fun j => x1 (ix2 n j)) (fun j => pick (tok r n) (x2 (ix4 0 0 5 j)) (x2 (ix4 0 1 5 j)))
          (fun j => k0_pay2 (F := Ideal) x0 x4 x5 xs x6 (ix2 n j)) (fun j => x7 (ix2 0 j)) (fun j => x8 (ix2 0 j)))
          (fun j => pick (tok r n) (x3 (ix4 0 0 1 j)) (x3 (ix4 0 1 1 j))) (fun j => pick (tok r n) (x3 (ix4 0 0 0 j)) (x3 (ix4 0 1 0 j))) k := by
  frame_out
  rw [hr]
  refine (pay3_at r _ _ _ _ _ n k).trans ?_
  rw [pay9_at]
  unfold next
  refine congrArg₂ (fun a b : EReal => a + b) (congrArg₂ (fun a b : EReal => a * b) (congrArg (fun y => rowNorm y k) (funext fun j => ?_)) ?_) ?_
  · refine (stream_at r _ _ _ _ _ _ n j).trans ?_
    exact congrArg (fun p => stream (fun j => x1 (ix2 n j)) p (fun j => k0_pay2 (F := Ideal) x0 x4 x5 xs x6 (ix2 n j)) (fun j => x7 (ix2 0 j)) (fun j => x8 (ix2 0 j)) j)
      (funext fun j => congrArg₂ (pick (tok r n)) (mod_at x2 0 5 5 rfl 0 rfl _ j) (mod_at x2 1 5 5 rfl 1 rfl _ j))
  · exact congrArg (fun y : EReal => 1 + y) (congrArg₂ (pick (tok r n)) (mod_at x3 0 1 1 rfl 0 rfl _ k) (mod_at x3 1 1 1 rfl 1 rfl _ k))
  · exact congrArg₂ (pick (tok r n)) (mod_at x3 0 0 0 rfl 0 rfl _ k) (mod_at x3 1 0 0 rfl 1 rfl _ k)
end
end Cert.Kernel3Ideal.Ffn
end
-- ==== Proof.FfnBlock.lean ====
/- The dense channel mixing: the launch's blocks as entries of the arguments, and what a block's last step leaves. -/
module

public import proofs.«01_k».proof.Proof.FfnBody

@[expose] public section

set_option maxRecDepth 16384

noncomputable section

namespace Cert.Kernel3Ideal.Ffn

open Idealize.ShloMosaic Idealize.ShloMosaic.TcCoe Idealize.ShloMosaic.Tactic
open Cert.Kernel3Ideal Cert.Kernel3Ideal.Gen Cert.Ffn

variable (m : (ℓ : Loc nD τ sig) → Buf (Elt Ideal) ℓ)

/-- Row `n` of block `r`, among all the tokens, and its batch. -/
def row (r : Fin 32) (n : Fin 544) : Fin 17408 := ⟨r.val * 544 + n.val, by omega⟩
def bat (r : Fin 32) : Fin 4 := ⟨r.val / 8, by omega⟩

/-- The block of tokens and the half of the hidden columns of a step. -/
def tile (t : Fin cfg0.N) : Fin 32 := ⟨t.val / 2, by have := lt_of_lt_of_eq t.isLt (show cfg0.N = 64 from N_0); omega⟩
def half (t : Fin cfg0.N) : Fin 2 := ⟨t.val % 2, by omega⟩

theorem coord0_at (t : Fin cfg0.N) : (grid0.coords t 0).val = (tile t).val :=
  (by decide +kernel : ∀ t : Fin grid0.N, (grid0.coords t 0).val = t.val / 2) t
theorem map0_at : ∀ t : Fin grid0.N, cc0_transform_0 (grid0.coords t) = ![t.val / 2, 0] := by decide +kernel
theorem map1_at : ∀ t : Fin grid0.N, cc0_transform_1 (grid0.coords t) = ![t.val / 2, 0] := by decide +kernel
theorem map2_at : ∀ t : Fin grid0.N, cc0_transform_2 (grid0.coords t) = ![t.val / 2 / 8, 0, 0, 0] := by decide +kernel
theorem map3_at : ∀ t : Fin grid0.N, cc0_transform_3 (grid0.coords t) = ![t.val / 2 / 8, 0, 0, 0] := by decide +kernel
theorem map4_at : ∀ t : Fin grid0.N, cc0_transform_4 (grid0.coords t) = ![0, t.val % 2] := by decide +kernel
theorem map5_at : ∀ t : Fin grid0.N, cc0_transform_5 (grid0.coords t) = ![0, t.val % 2] := by decide +kernel
theorem map6_at : ∀ t : Fin grid0.N, cc0_transform_6 (grid0.coords t) = ![t.val % 2, 0] := by decide +kernel
theorem map7_at : ∀ t : Fin grid0.N, cc0_transform_7 (grid0.coords t) = ![0, 0] := by decide +kernel
theorem map8_at : ∀ t : Fin grid0.N, cc0_transform_8 (grid0.coords t) = ![0, 0] := by decide +kernel
theorem map9_at : ∀ t : Fin grid0.N, cc0_transform_9 (grid0.coords t) = ![t.val / 2, 0] := by decide +kernel
theorem map10_at : ∀ t : Fin grid0.N, cc0_transform_10 (grid0.coords t) = ![t.val / 2, 0] := by decide +kernel

/-- The tokens' rows, batch by batch, in one array. -/
theorem cast_at {e : EltTy} (x : Vec Ideal S4x4352x1024 e) (r : Fin 32) (n : Fin 544) (d : Fin 1024) :
    shapeCast S17408x1024 x shapeCasts_S4x4352x1024_S17408x1024 (ix2 (row r n) d) = x (ix3 (bat r) (tok r n) d) := by
  refine shapeCast_apply x _ _ _ ?_
  rw [Shape.rowMajor_val_three, Shape.rowMajor_val_two]
  show ((r.val / 8 * 4352 + (r.val % 8 * 544 + n.val)) * 1024 + d.val : ℕ) = (r.val * 544 + n.val) * 1024 + d.val
  omega

theorem V_gate (c : Dev nD) : V m c main_v0 = truncf (F := Ideal) .bf16 (m ((c.tc : Thread nD τ).loc main_arg4)) bitsLt_bf16_f32 := by
  unfold_abbrev_sides
  after_results
theorem V_up (c : Dev nD) : V m c main_v1 = truncf (F := Ideal) .bf16 (m ((c.tc : Thread nD τ).loc main_arg5)) bitsLt_bf16_f32 := by
  unfold_abbrev_sides
  after_results
theorem V_down (c : Dev nD) : V m c main_v2 = truncf (F := Ideal) .bf16 (m ((c.tc : Thread nD τ).loc main_arg6)) bitsLt_bf16_f32 := by
  unfold_abbrev_sides
  after_results
theorem V_tokens (c : Dev nD) : V m c main_v3 = shapeCast S17408x1024 (m ((c.tc : Thread nD τ).loc main_arg0)) shapeCasts_S4x4352x1024_S17408x1024 := by
  unfold_abbrev_sides
  after_results
  rfl
theorem V_stream (c : Dev nD) : V m c main_v4 = shapeCast S17408x1024 (m ((c.tc : Thread nD τ).loc main_arg1)) shapeCasts_S4x4352x1024_S17408x1024 := by
  unfold_abbrev_sides
  after_results
  rfl
theorem V_gain (c : Dev nD) : V m c main_v5 = shapeCast S1x1024 (m ((c.tc : Thread nD τ).loc main_arg7)) shapeCasts_S1024_S1x1024 := by
  unfold_abbrev_sides
  after_results
  rfl
theorem V_bias (c : Dev nD) : V m c main_v6 = shapeCast S1x1024 (m ((c.tc : Thread nD τ).loc main_arg8)) shapeCasts_S1024_S1x1024 := by
  unfold_abbrev_sides
  after_results
  rfl

theorem line_at (x : FVec Ideal S1024 .f32) (k : Fin 1024) : shapeCast S1x1024 x shapeCasts_S1024_S1x1024 (ix2 (0 : Fin 1) k) = x (ix1 k) := by pointwise

theorem u_blk (c : Dev nD) (t : Fin cfg0.N) (a : Fin 544) (d : Fin 1024) :
    iblk m c 0 t (ix2 a d) = m ((c.tc : Thread nD τ).loc main_arg0) (ix3 (bat (tile t)) (tok (tile t) a) d) := by
  refine Eq.trans ?_ ((congrFun (V_tokens m c) _).trans (cast_at _ (tile t) a d))
  show V m c main_v3 (((cfg0.win 0).blk t).view.emb (ix2 a d)) = _
  refine congrArg _ (funext fun x => Fin.ext ?_)
  refine (Pipeline.Window.rect_emb_val (cfg0.win 0) t (ix2 a d) x).trans ?_
  show cc0_transform_0 (grid0.coords t) x * _ + _ = _
  rw [map0_at t]
  match x with
  | ⟨0, _⟩ => rfl
  | ⟨1, _⟩ => show 0 * 1024 + d.val = d.val; omega

theorem x_blk (c : Dev nD) (t : Fin cfg0.N) (a : Fin 544) (d : Fin 1024) :
    iblk m c 1 t (ix2 a d) = m ((c.tc : Thread nD τ).loc main_arg1) (ix3 (bat (tile t)) (tok (tile t) a) d) := by
  refine Eq.trans ?_ ((congrFun (V_stream m c) _).trans (cast_at _ (tile t) a d))
  show V m c main_v4 (((cfg0.win 1).blk t).view.emb (ix2 a d)) = _
  refine congrArg _ (funext fun x => Fin.ext ?_)
  refine (Pipeline.Window.rect_emb_val (cfg0.win 1) t (ix2 a d) x).trans ?_
  show cc0_transform_1 (grid0.coords t) x * _ + _ = _
  rw [map1_at t]
  match x with
  | ⟨0, _⟩ => rfl
  | ⟨1, _⟩ => show 0 * 1024 + d.val = d.val; omega

theorem gate_blk (c : Dev nD) (t : Fin cfg0.N) (a : Fin 1024) (d : Fin 1408) :
    iblk m c 4 t (ix2 a d) = m ((c.tc : Thread nD τ).loc main_arg4) (ix2 a (hcol (half t) d)) := by
  refine Eq.trans ?_ (congrFun (V_gate m c) (ix2 a (hcol (half t) d)))
  show V m c main_v0 (((cfg0.win 4).blk t).view.emb (ix2 a d)) = _
  refine congrArg _ (funext fun x => Fin.ext ?_)
  refine (Pipeline.Window.rect_emb_val (cfg0.win 4) t (ix2 a d) x).trans ?_
  show cc0_transform_4 (grid0.coords t) x * _ + _ = _
  rw [map4_at t]
  match x with
  | ⟨0, _⟩ => show 0 * 1024 + a.val = a.val; omega
  | ⟨1, _⟩ => rfl

theorem up_blk (c : Dev nD) (t : Fin cfg0.N) (a : Fin 1024) (d : Fin 1408) :
    iblk m c 5 t (ix2 a d) = m ((c.tc : Thread nD τ).loc main_arg5) (ix2 a (hcol (half t) d)) := by
  refine Eq.trans ?_ (congrFun (V_up m c) (ix2 a (hcol (half t) d)))
  show V m c main_v1 (((cfg0.win 5).blk t).view.emb (ix2 a d)) = _
  refine congrArg _ (funext fun x => Fin.ext ?_)
  refine (Pipeline.Window.rect_emb_val (cfg0.win 5) t (ix2 a d) x).trans ?_
  show cc0_transform_5 (grid0.coords t) x * _ + _ = _
  rw [map5_at t]
  match x with
  | ⟨0, _⟩ => show 0 * 1024 + a.val = a.val; omega
  | ⟨1, _⟩ => rfl

theorem down_blk (c : Dev nD) (t : Fin cfg0.N) (a : Fin 1408) (d : Fin 1024) :
    iblk m c 6 t (ix2 a d) = m ((c.tc : Thread nD τ).loc main_arg6) (ix2 (hcol (half t) a) d) := by
  refine Eq.trans ?_ (congrFun (V_down m c) (ix2 (hcol (half t) a) d))
  show V m c main_v2 (((cfg0.win 6).blk t).view.emb (ix2 a d)) = _
  refine congrArg _ (funext fun x => Fin.ext ?_)
  refine (Pipeline.Window.rect_emb_val (cfg0.win 6) t (ix2 a d) x).trans ?_
  show cc0_transform_6 (grid0.coords t) x * _ + _ = _
  rw [map6_at t]
  match x with
  | ⟨0, _⟩ => rfl
  | ⟨1, _⟩ => show 0 * 1024 + d.val = d.val; omega

theorem gain_blk (c : Dev nD) (t : Fin cfg0.N) (a : Fin 1) (d : Fin 1024) :
    iblk m c 7 t (ix2 a d) = m ((c.tc : Thread nD τ).loc main_arg7) (ix1 d) := by
  refine Eq.trans ?_ ((congrFun (V_gain m c) (ix2 (0 : Fin 1) d)).trans (line_at _ d))
  show V m c main_v5 (((cfg0.win 7).blk t).view.emb (ix2 a d)) = _
  refine congrArg _ (funext fun x => Fin.ext ?_)
  refine (Pipeline.Window.rect_emb_val (cfg0.win 7) t (ix2 a d) x).trans ?_
  show cc0_transform_7 (grid0.coords t) x * _ + _ = _
  rw [map7_at t]
  match x with
  | ⟨0, _⟩ => show 0 * 1 + a.val = 0; omega
  | ⟨1, _⟩ => show 0 * 1024 + d.val = d.val; omega

theorem bias_blk (c : Dev nD) (t : Fin cfg0.N) (a : Fin 1) (d : Fin 1024) :
    iblk m c 8 t (ix2 a d) = m ((c.tc : Thread nD τ).loc main_arg8) (ix1 d) := by
  refine Eq.trans ?_ ((congrFun (V_bias m c) (ix2 (0 : Fin 1) d)).trans (line_at _ d))
  show V m c main_v6 (((cfg0.win 8).blk t).view.emb (ix2 a d)) = _
  refine congrArg _ (funext fun x => Fin.ext ?_)
  refine (Pipeline.Window.rect_emb_val (cfg0.win 8) t (ix2 a d) x).trans ?_
  show cc0_transform_8 (grid0.coords t) x * _ + _ = _
  rw [map8_at t]
  match x with
  | ⟨0, _⟩ => show 0 * 1 + a.val = 0; omega
  | ⟨1, _⟩ => show 0 * 1024 + d.val = d.val; omega

theorem sel_blk (c : Dev nD) (t : Fin cfg0.N) (w : Fin 2) (e : Fin 6) (k : Fin 1024) :
    iblk m c 2 t (ix4 (0 : Fin 1) w e k) = m ((c.tc : Thread nD τ).loc main_arg2) (ix4 (bat (tile t)) w e k) := by
  show V m c main_arg2 (((cfg0.win 2).blk t).view.emb (ix4 (0 : Fin 1) w e k)) = _
  rw [V_main_arg2]
  refine congrArg _ (funext fun x => Fin.ext ?_)
  refine (Pipeline.Window.rect_emb_val (cfg0.win 2) t (ix4 (0 : Fin 1) w e k) x).trans ?_
  show cc0_transform_2 (grid0.coords t) x * _ + _ = _
  rw [map2_at t]
  match x with
  | ⟨0, _⟩ => show t.val / 2 / 8 * 1 + 0 = t.val / 2 / 8; omega
  | ⟨1, _⟩ => show 0 * 2 + w.val = w.val; omega
  | ⟨2, _⟩ => show 0 * 6 + e.val = e.val; omega
  | ⟨3, _⟩ => show 0 * 1024 + k.val = k.val; omega

theorem next_blk (c : Dev nD) (t : Fin cfg0.N) (w : Fin 2) (e : Fin 6) (k : Fin 1024) :
    iblk m c 3 t (ix4 (0 : Fin 1) w e k) = m ((c.tc : Thread nD τ).loc main_arg3) (ix4 (bat (tile t)) w e k) := by
  show V m c main_arg3 (((cfg0.win 3).blk t).view.emb (ix4 (0 : Fin 1) w e k)) = _
  rw [V_main_arg3]
  refine congrArg _ (funext fun x => Fin.ext ?_)
  refine (Pipeline.Window.rect_emb_val (cfg0.win 3) t (ix4 (0 : Fin 1) w e k) x).trans ?_
  show cc0_transform_3 (grid0.coords t) x * _ + _ = _
  rw [map3_at t]
  match x with
  | ⟨0, _⟩ => show t.val / 2 / 8 * 1 + 0 = t.val / 2 / 8; omega
  | ⟨1, _⟩ => show 0 * 2 + w.val = w.val; omega
  | ⟨2, _⟩ => show 0 * 6 + e.val = e.val; omega
  | ⟨3, _⟩ => show 0 * 1024 + k.val = k.val; omega

/-- A step adds its half of the hidden columns. -/
theorem step_at (c : Dev nD) (t : Fin cfg0.N) (acc : FVec Ideal S544x1024 .f32) (n : Fin 544) (k : Fin 1024) :
    k0_pay2 (F := Ideal) (iblk m c 0 t) (iblk m c 4 t) (iblk m c 5 t) acc (iblk m c 6 t) (ix2 n k)
      = (acc (ix2 n k) : EReal) + ∑ j : Fin 1408, hid (fun d => m ((c.tc : Thread nD τ).loc main_arg0) (ix3 (bat (tile t)) (tok (tile t) n) d))
          (fun d j => m ((c.tc : Thread nD τ).loc main_arg4) (ix2 d j)) (fun d j => m ((c.tc : Thread nD τ).loc main_arg5) (ix2 d j)) (hcol (half t) j)
          * m ((c.tc : Thread nD τ).loc main_arg6) (ix2 (hcol (half t) j) k) := by
  refine (pay2_at _ _ _ _ _ n k).trans ?_
  refine congrArg (fun y : EReal => acc (ix2 n k) + y) (Finset.sum_congr rfl fun j _ => ?_)
  refine congrArg₂ (fun a b : EReal => a * b) (congrArg₂ act (Finset.sum_congr rfl fun d _ => ?_) (Finset.sum_congr rfl fun d _ => ?_)) (down_blk m c t j k)
  · exact congrArg₂ (fun a b : EReal => a * b) (u_blk m c t n d) (gate_blk m c t d j)
  · exact congrArg₂ (fun a b : EReal => a * b) (u_blk m c t n d) (up_blk m c t d j)

theorem zero_at (n : Fin 544) (k : Fin 1024) : (k0_pay1 (F := Ideal) (ix2 n k) : EReal) = 0 := by
  pointwise [k0_pay1]

theorem scratch_at (c : Dev nD) (t : Fin cfg0.N) (h0 : t.val % 2 = 0) :
    (outsAt0 m c t.val t.isLt).2.2 = k0_pay2 (F := Ideal) (iblk m c 0 t) (iblk m c 4 t) (iblk m c 5 t) (k0_pay1 (F := Ideal)) (iblk m c 6 t) := by
  rw [outsAt0_A m c t h0 (by omega)]
  dsimp only
  exact scratch_A _ _ _ _ _ _ _ _ _ _ _ _ _ _ _ _ _ _ _ _ _ _ _ _ _ _ _ _ _ _ _ _ _ _ _ _ _

/-- After a block's last step, the accumulator holds the channel mixing. -/
theorem acc_at (c : Dev nD) (t : Fin cfg0.N) (h1 : t.val % 2 = 1) (n : Fin 544) (k : Fin 1024) :
    k0_pay2 (F := Ideal) (iblk m c 0 t) (iblk m c 4 t) (iblk m c 5 t)
        (outsAt0 m c (t.val - 1) (Nat.lt_of_le_of_lt (Nat.sub_le _ _) t.isLt)).2.2 (iblk m c 6 t) (ix2 n k)
      = mixTok (m ((c.tc : Thread nD τ).loc main_arg0)) (m ((c.tc : Thread nD τ).loc main_arg4)) (m ((c.tc : Thread nD τ).loc main_arg5)) (m ((c.tc : Thread nD τ).loc main_arg6)) (bat (tile t)) (tok (tile t) n) k := by
  obtain ⟨s, hs⟩ : ∃ s : Fin cfg0.N, s = ⟨t.val - 1, Nat.lt_of_le_of_lt (Nat.sub_le _ _) t.isLt⟩ := ⟨_, rfl⟩
  have e : (outsAt0 m c (t.val - 1) (Nat.lt_of_le_of_lt (Nat.sub_le _ _) t.isLt)).2.2 = (outsAt0 m c s.val s.isLt).2.2 := by rw [hs]
  have sv : s.val = t.val - 1 := by rw [hs]
  have st : tile s = tile t := Fin.ext (show s.val / 2 = t.val / 2 by omega)
  have s0 : half s = 0 := Fin.ext (show s.val % 2 = 0 by omega)
  have s1 : half t = 1 := Fin.ext h1
  rw [step_at, e, scratch_at m c s (by omega), step_at, zero_at, zero_add, st, s0, s1]
  exact sum_halves fun j => hid (fun d => m ((c.tc : Thread nD τ).loc main_arg0) (ix3 (bat (tile t)) (tok (tile t) n) d)) (fun d j => m ((c.tc : Thread nD τ).loc main_arg4) (ix2 d j)) (fun d j => m ((c.tc : Thread nD τ).loc main_arg5) (ix2 d j)) j
    * m ((c.tc : Thread nD τ).loc main_arg6) (ix2 j k)

/-- The stream that a last step computes from its blocks. -/
theorem stream_blk (c : Dev nD) (t : Fin cfg0.N) (h1 : t.val % 2 = 1) (n : Fin 544) (k : Fin 1024) :
    stream (fun j => iblk m c 1 t (ix2 n j)) (fun j => pick (tok (tile t) n) (iblk m c 2 t (ix4 0 0 5 j)) (iblk m c 2 t (ix4 0 1 5 j)))
        (fun j => k0_pay2 (F := Ideal) (iblk m c 0 t) (iblk m c 4 t) (iblk m c 5 t)
          (outsAt0 m c (t.val - 1) (Nat.lt_of_le_of_lt (Nat.sub_le _ _) t.isLt)).2.2 (iblk m c 6 t) (ix2 n j))
        (fun j => iblk m c 7 t (ix2 0 j)) (fun j => iblk m c 8 t (ix2 0 j)) k
      = streamTok (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (bat (tile t)) (tok (tile t) n) k := by
  unfold streamTok modTok
  congr 1
  · exact funext fun j => x_blk m c t n j
  · exact funext fun j => congrArg₂ (pick _) (sel_blk m c t 0 5 j) (sel_blk m c t 1 5 j)
  · exact funext fun j => acc_at m c t h1 n j
  · exact funext fun j => gain_blk m c t 0 j
  · exact funext fun j => bias_blk m c t 0 j

/-- The blocks that a last step leaves: the stream, and its modulated norm. -/
theorem stream_B (c : Dev nD) (t : Fin cfg0.N) (h1 : t.val % 2 = 1) (n : Fin 544) (k : Fin 1024) :
    (outsAt0 m c t.val t.isLt).1 (ix2 n k)
      = streamTok (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (bat (tile t)) (tok (tile t) n) k := by
  rw [outsAt0_B m c t (by omega) h1]
  dsimp only
  exact (out_B _ _ _ _ _ _ _ _ _ _ _ _ _ _ _ _ _ _ _ _ _ _ _ _ _ _ _ _ _ _ _ _ _ _ _ _ _ _ (tile t) (coord0_at t) n k).trans (stream_blk m c t h1 n k)

theorem next_congr {y y' p p' q q' : Fin 1024 → EReal} (k : Fin 1024) (hy : ∀ j, y j = y' j) (hp : ∀ j, p j = p' j) (hq : ∀ j, q j = q' j) :
    next y p q k = next y' p' q' k := by
  rw [funext hy, funext hp, funext hq]

theorem next_at (c : Dev nD) (t : Fin cfg0.N) (h1 : t.val % 2 = 1) (n : Fin 544) (k : Fin 1024) :
    (outsAt0 m c t.val t.isLt).2.1 (ix2 n k)
      = nextTok (m ((c.tc : Thread nD τ).loc main_arg3)) (bat (tile t)) (tok (tile t) n)
          (streamTok (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (bat (tile t)) (tok (tile t) n)) k := by
  rw [outsAt0_B m c t (by omega) h1]
  dsimp only
  refine (next_B _ _ _ _ _ _ _ _ _ _ _ _ _ _ _ _ _ _ _ _ _ _ _ _ _ _ _ _ _ _ _ _ _ _ _ _ _ _ (tile t) (coord0_at t) n k).trans ?_
  exact next_congr k (fun j => stream_blk m c t h1 n j)
    (fun j => (congrArg₂ (pick (tok (tile t) n)) (next_blk m c t 0 1 j) (next_blk m c t 1 1 j) : _ = modTok (m ((c.tc : Thread nD τ).loc main_arg3)) 1 (bat (tile t)) (tok (tile t) n) j))
    (fun j => (congrArg₂ (pick (tok (tile t) n)) (next_blk m c t 0 0 j) (next_blk m c t 1 0 j) : _ = modTok (m ((c.tc : Thread nD τ).loc main_arg3)) 0 (bat (tile t)) (tok (tile t) n) j))

end Cert.Kernel3Ideal.Ffn
end
-- ==== Proof.FfnRef.lean ====
/- The dense channel mixing's reference: its results as a chain of stages, and each at an index. -/
module

public import proofs.«01_k».proof.Proof.Gen.Reference3Ideal.Run
public import proofs.«01_k».proof.Proof.FfnMath
public import Idealize.ShloMosaic.Lib.Pipeline.Value

@[expose] public section

set_option maxRecDepth 16384

noncomputable section

namespace Cert.Reference3Ideal.Ffn

open Idealize.ShloMosaic Idealize.ShloMosaic.TcCoe Idealize.ShloMosaic.Tactic
open Cert.Reference3Ideal Cert.Reference3Ideal.Gen Cert.Ffn

/-- The hidden columns' products, and the channel mixing. -/
def inner (U : FVec Ideal S4x4352x1024 .bf16) (W : FVec Ideal S1024x2816 .f32) : FVec Ideal S4x4352x2816 .f32 :=
  Host.dotGeneral dot_S4x4352x1024_S1024x2816_S4x4352x2816_2_0_01_1_n_n none (extf .f32 U bitsLt_bf16_f32) W
def gated (g v : FVec Ideal S4x4352x2816 .f32) : FVec Ideal S4x4352x2816 .f32 :=
  mulf (mulf g (Host.divf (broadcastInDim S4x4352x2816 ![] bcast_S_S4x4352x2816 (constant S_ .f32 0x3F800000#32))
    (addf (broadcastInDim S4x4352x2816 ![] bcast_S_S4x4352x2816 (constant S_ .f32 0x3F800000#32)) (Host.exp (Host.negf g))))) v
def outer (h : FVec Ideal S4x4352x2816 .f32) (W : FVec Ideal S2816x1024 .f32) : FVec Ideal S4x4352x1024 .f32 :=
  Host.dotGeneral dot_S4x4352x2816_S2816x1024_S4x4352x1024_2_0_01_1_n_n none h W
/-- A modulation of every token. -/
def spread (x : FVec Ideal S4x1x1x1024 .f32) : FVec Ideal S4x4352x1024 .f32 :=
  broadcastInDim S4x4352x1024 ![0, 1, 2] bcast_S4x1x1024_S4x4352x1024_0_1_2 (broadcastInDim S4x1x1024 ![0, 2] bcast_S4x1024_S4x1x1024_0_2
    (shapeCast S4x1024 x shapeCasts_S4x1x1x1024_S4x1024))
def choose (x y : FVec Ideal S4x1x1x1024 .f32) : FVec Ideal S4x4352x1024 .f32 :=
  select (broadcastInDim S4x4352x1024 ![0, 1, 2] bcast_S1x4352x1_S4x4352x1024_0_1_2 (broadcastInDim S1x4352x1 ![1] bcast_S4352_S1x4352x1_1
    (cmpi .slt (iotaInDim S4352 32 0) (broadcastInDim S4352 ![] bcast_S_S4352 (constantI S_ 32 256#32))))) (spread x) (spread y)
/-- The residual before its layer norm. -/
def residual (X f p : FVec Ideal S4x4352x1024 .f32) : FVec Ideal S4x4352x1024 .f32 :=
  addf (mulf (broadcastInDim S4x4352x1024 ![] bcast_S_S4x4352x1024 (constant S_ .f32 0x3FB504F3#32)) X) (mulf p f)
/-- The mean of every token's row, the row less its mean, and the row normalised. -/
def means (v : FVec Ideal S4x4352x1024 .f32) : FVec Ideal S4x4352x1 .f32 :=
  Host.divf (broadcastInDim S4x4352x1 ![0, 1] bcast_S4x4352_S4x4352x1_0_1 (Host.reduceAdd v (constant S_ .f32 0x00000000#32) reducesTo_S4x4352x1024_S4x4352_d2 h_S_))
    (broadcastInDim S4x4352x1 ![] bcast_S_S4x4352x1 (constant S_ .f32 0x44800000#32))
def centred (v : FVec Ideal S4x4352x1024 .f32) : FVec Ideal S4x4352x1024 .f32 :=
  subf v (broadcastInDim S4x4352x1024 ![0, 1, 2] bcast_S4x4352x1_S4x4352x1024_0_1_2 (means v))
def normed (v : FVec Ideal S4x4352x1024 .f32) : FVec Ideal S4x4352x1024 .f32 :=
  mulf (centred v) (broadcastInDim S4x4352x1024 ![0, 1, 2] bcast_S4x4352x1_S4x4352x1024_0_1_2
    (Host.rsqrt (addf (means (mulf (centred v) (centred v))) (broadcastInDim S4x4352x1 ![] bcast_S_S4x4352x1 (constant S_ .f32 0x3727C5AC#32)))))
def across (g : FVec Ideal S1024 .f32) : FVec Ideal S4x4352x1024 .f32 :=
  broadcastInDim S4x4352x1024 ![0, 1, 2] bcast_S1x1x1024_S4x4352x1024_0_1_2 (broadcastInDim S1x1x1024 ![2] bcast_S1024_S1x1x1024_2 g)
def affine (v : FVec Ideal S4x4352x1024 .f32) (g b : FVec Ideal S1024 .f32) : FVec Ideal S4x4352x1024 .f32 := addf (mulf v (across g)) (across b)
def modulated (v p q : FVec Ideal S4x4352x1024 .f32) : FVec Ideal S4x4352x1024 .f32 :=
  addf (mulf v (addf (broadcastInDim S4x4352x1024 ![] bcast_S_S4x4352x1024 (constant S_ .f32 0x3F800000#32)) p)) q

section
variable (M : FVec Ideal S4x2x6x1024 .f32)
def sel5 : FVec Ideal S4x4352x1024 .f32 := choose (extractStridedSlice S4x1x1x1024 ![0, 0, 5, 0] M slices_S4x2x6x1024_S4x1x1x1024_0_0_5_0)
  (extractStridedSlice S4x1x1x1024 ![0, 1, 5, 0] M slices_S4x2x6x1024_S4x1x1x1024_0_1_5_0)
def sel1 : FVec Ideal S4x4352x1024 .f32 := choose (extractStridedSlice S4x1x1x1024 ![0, 0, 1, 0] M slices_S4x2x6x1024_S4x1x1x1024_0_0_1_0)
  (extractStridedSlice S4x1x1x1024 ![0, 1, 1, 0] M slices_S4x2x6x1024_S4x1x1x1024_0_1_1_0)
def sel0 : FVec Ideal S4x4352x1024 .f32 := choose (extractStridedSlice S4x1x1x1024 ![0, 0, 0, 0] M slices_S4x2x6x1024_S4x1x1x1024_0_0_0_0)
  (extractStridedSlice S4x1x1x1024 ![0, 1, 0, 0] M slices_S4x2x6x1024_S4x1x1x1024_0_1_0_0)
end

section
variable (U : FVec Ideal S4x4352x1024 .bf16) (X : FVec Ideal S4x4352x1024 .f32) (M N : FVec Ideal S4x2x6x1024 .f32) (Wg Wu : FVec Ideal S1024x2816 .f32)
  (Wd : FVec Ideal S2816x1024 .f32) (g b : FVec Ideal S1024 .f32)
def mixed : FVec Ideal S4x4352x1024 .f32 := outer (gated (inner U Wg) (inner U Wu)) Wd
def streamed : FVec Ideal S4x4352x1024 .f32 := affine (normed (residual X (mixed U Wg Wu Wd) (sel5 M))) g b
def onward : FVec Ideal S4x4352x1024 .f32 := modulated (normed (streamed U X M Wg Wu Wd g b)) (sel1 N) (sel0 N)
end

theorem res0_eq (m : (ℓ : Loc nD τ sig) → Buf (Elt Ideal) ℓ) (c : Dev nD) :
    Value.res_main_v89 m c = shapeCast S17408x1024 (streamed (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) shapeCasts_S4x4352x1024_S17408x1024 := rfl
theorem res1_eq (m : (ℓ : Loc nD τ sig) → Buf (Elt Ideal) ℓ) (c : Dev nD) :
    Value.res_main_v91 m c = truncf .bf16 (shapeCast S17408x1024 (onward (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) shapeCasts_S4x4352x1024_S17408x1024) bitsLt_bf16_f32 := rfl

theorem inner_at (U : FVec Ideal S4x4352x1024 .bf16) (W : FVec Ideal S1024x2816 .f32) (B : Fin 4) (s : Fin 4352) (j : Fin 2816) :
    inner U W (ix3 B s j) = ∑ d : Fin 1024, (U (ix3 B s d) : EReal) * W (ix2 d j) := by
  pointwise [inner]

theorem outer_at (h : FVec Ideal S4x4352x2816 .f32) (W : FVec Ideal S2816x1024 .f32) (B : Fin 4) (s : Fin 4352) (k : Fin 1024) :
    outer h W (ix3 B s k) = ∑ j : Fin 2816, (h (ix3 B s j) : EReal) * W (ix2 j k) := by
  pointwise [outer]

theorem gated_at (g v : FVec Ideal S4x4352x2816 .f32) (B : Fin 4) (s : Fin 4352) (j : Fin 2816) :
    gated g v (ix3 B s j) = act (g (ix3 B s j)) (v (ix3 B s j)) := by
  unfold act
  rw [logistic_eq]
  unfold Ideal.logistic
  pointwise [gated]

theorem before_at : ∀ s : Fin 4352, IntOp.cmpi CmpIPredicate.slt (BitVec.ofNat 32 s.val) 256#32 = if s.val < 256 then 1#1 else 0#1 := by decide +kernel

theorem spread_at (x : FVec Ideal S4x1x1x1024 .f32) (B : Fin 4) (s : Fin 4352) (k : Fin 1024) : spread x (ix3 B s k) = x (ix4 B 0 0 k) := by
  pointwise [spread]

theorem choose_at (x y : FVec Ideal S4x1x1x1024 .f32) (B : Fin 4) (s : Fin 4352) (k : Fin 1024) :
    choose x y (ix3 B s k) = pick s (x (ix4 B 0 0 k)) (y (ix4 B 0 0 k)) := by
  have h : choose x y (ix3 B s k) = Scalar.select (IntOp.cmpi CmpIPredicate.slt (BitVec.ofNat 32 s.val) 256#32) (x (ix4 B 0 0 k)) (y (ix4 B 0 0 k)) := by
    rw [← spread_at x B s k, ← spread_at y B s k]
    pointwise [choose]
  rw [h, before_at]
  unfold pick
  split <;> rfl

theorem sel5_at (M : FVec Ideal S4x2x6x1024 .f32) (B : Fin 4) (s : Fin 4352) (k : Fin 1024) : sel5 M (ix3 B s k) = modTok M 5 B s k := by
  refine (choose_at _ _ B s k).trans ?_
  unfold modTok
  pointwise []
theorem sel1_at (M : FVec Ideal S4x2x6x1024 .f32) (B : Fin 4) (s : Fin 4352) (k : Fin 1024) : sel1 M (ix3 B s k) = modTok M 1 B s k := by
  refine (choose_at _ _ B s k).trans ?_
  unfold modTok
  pointwise []
theorem sel0_at (M : FVec Ideal S4x2x6x1024 .f32) (B : Fin 4) (s : Fin 4352) (k : Fin 1024) : sel0 M (ix3 B s k) = modTok M 0 B s k := by
  refine (choose_at _ _ B s k).trans ?_
  unfold modTok
  pointwise []

theorem residual_at (X f p : FVec Ideal S4x4352x1024 .f32) (B : Fin 4) (s : Fin 4352) (k : Fin 1024) :
    residual X f p (ix3 B s k) = Ideal.ofBits .f32 1068827891#32 * (X (ix3 B s k) : EReal) + p (ix3 B s k) * f (ix3 B s k) := by
  pointwise [residual]

theorem means_at (v : FVec Ideal S4x4352x1024 .f32) (B : Fin 4) (s : Fin 4352) : means v (ix3 B s 0) = rowMean fun k => (v (ix3 B s k) : EReal) := by
  unfold rowMean
  pointwise [means]

theorem centred_at (v : FVec Ideal S4x4352x1024 .f32) (B : Fin 4) (s : Fin 4352) (k : Fin 1024) :
    centred v (ix3 B s k) = (v (ix3 B s k) : EReal) - rowMean fun k => (v (ix3 B s k) : EReal) := by
  rw [← means_at]
  pointwise [centred]

theorem normed_at (v : FVec Ideal S4x4352x1024 .f32) (B : Fin 4) (s : Fin 4352) (k : Fin 1024) :
    normed v (ix3 B s k) = rowNorm (fun k => (v (ix3 B s k) : EReal)) k := by
  have h : normed v (ix3 B s k) = (centred v (ix3 B s k) : EReal)
      * Ideal.rsqrt ((means (mulf (centred v) (centred v)) (ix3 B s 0) : EReal) + Ideal.ofBits .f32 925353388#32) := by
    pointwise [normed]
  have hq : ∀ j, (mulf (centred v) (centred v) (ix3 B s j) : EReal) = (centred v (ix3 B s j) : EReal) * centred v (ix3 B s j) := fun j => rfl
  rw [h, means_at]
  simp only [hq, centred_at]
  rfl

theorem affine_at (v : FVec Ideal S4x4352x1024 .f32) (g b : FVec Ideal S1024 .f32) (B : Fin 4) (s : Fin 4352) (k : Fin 1024) :
    affine v g b (ix3 B s k) = (v (ix3 B s k) : EReal) * g (ix1 k) + b (ix1 k) := by
  pointwise [affine, across]

theorem modulated_at (v p q : FVec Ideal S4x4352x1024 .f32) (B : Fin 4) (s : Fin 4352) (k : Fin 1024) :
    modulated v p q (ix3 B s k) = (v (ix3 B s k) : EReal) * (1 + p (ix3 B s k)) + q (ix3 B s k) := by
  pointwise [modulated]

section
variable (U : FVec Ideal S4x4352x1024 .bf16) (X : FVec Ideal S4x4352x1024 .f32) (M N : FVec Ideal S4x2x6x1024 .f32) (Wg Wu : FVec Ideal S1024x2816 .f32)
  (Wd : FVec Ideal S2816x1024 .f32) (g b : FVec Ideal S1024 .f32) (B : Fin 4) (s : Fin 4352) (k : Fin 1024)

theorem mixed_at : mixed U Wg Wu Wd (ix3 B s k) = mixTok U Wg Wu Wd B s k := by
  unfold mixed
  rw [outer_at]
  simp only [gated_at, inner_at]
  rfl

theorem streamed_at : streamed U X M Wg Wu Wd g b (ix3 B s k) = streamTok U X M Wg Wu Wd g b B s k := by
  unfold streamed
  rw [affine_at, normed_at]
  simp only [residual_at, mixed_at, sel5_at]
  rfl

theorem onward_at : onward U X M N Wg Wu Wd g b (ix3 B s k) = nextTok N B s (streamTok U X M Wg Wu Wd g b B s) k := by
  unfold onward
  rw [modulated_at, normed_at, sel1_at, sel0_at]
  simp only [streamed_at]
  rfl
end

end Cert.Reference3Ideal.Ffn
end
-- ==== Proof.FfnValue.lean ====
/- The dense channel mixing: the launch's result arrays, and the reference's results. -/
module

public import proofs.«01_k».proof.Proof.FfnBlock
public import proofs.«01_k».proof.Proof.FfnRef

@[expose] public section

set_option maxRecDepth 16384

noncomputable section

namespace Cert.Kernel3Ideal.Ffn

open Idealize.ShloMosaic Idealize.ShloMosaic.TcCoe Idealize.ShloMosaic.Tactic
open Cert.Kernel3Ideal Cert.Kernel3Ideal.Gen Cert.Ffn

variable (m : (ℓ : Loc nD τ sig) → Buf (Elt Ideal) ℓ)

/-- A row's batch, and its token within it. -/
def batOf (n : Fin 17408) : Fin 4 := ⟨n.val / 4352, by omega⟩
def tokOf (n : Fin 17408) : Fin 4352 := ⟨n.val % 4352, by omega⟩

theorem batOf_row (r : Fin 32) (n : Fin 544) : batOf (row r n) = bat r :=
  Fin.ext (show (r.val * 544 + n.val) / 4352 = r.val / 8 by omega)
theorem tokOf_row (r : Fin 32) (n : Fin 544) : tokOf (row r n) = tok r n :=
  Fin.ext (show (r.val * 544 + n.val) % 4352 = r.val % 8 * 544 + n.val by omega)

/-- The launch's result arrays. -/
def streamGAt (c : Dev nD) (n : Fin 17408) (k : Fin 1024) : EReal :=
  streamTok (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (batOf n) (tokOf n) k
def streamG (c : Dev nD) : FVec Ideal S17408x1024 .f32 := fun i => streamGAt m c (i 0) (i 1)
def nextGAt (c : Dev nD) (n : Fin 17408) (k : Fin 1024) : EReal :=
  nextTok (m ((c.tc : Thread nD τ).loc main_arg3)) (batOf n) (tokOf n) (streamTok (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (batOf n) (tokOf n)) k
def nextG (c : Dev nD) : FVec Ideal S17408x1024 .bf16 := fun i => nextGAt m c (i 0) (i 1)

theorem stream_row (c : Dev nD) (r : Fin 32) (n : Fin 544) (k : Fin 1024) :
    streamTok (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (bat r) (tok r n) k = streamGAt m c (row r n) k := by
  unfold streamGAt
  rw [batOf_row, tokOf_row]
theorem next_row (c : Dev nD) (r : Fin 32) (n : Fin 544) (k : Fin 1024) :
    nextTok (m ((c.tc : Thread nD τ).loc main_arg3)) (bat r) (tok r n) (streamTok (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (bat r) (tok r n)) k = nextGAt m c (row r n) k := by
  unfold nextGAt
  rw [batOf_row, tokOf_row]

theorem covers9 : (cfg0.win 9).Covers := by
  refine (cfg0.win 9).covers_of_indexMap_surj rfl (fun a => (by decide : ∀ a : Fin 2, 0 < S544x1024.size a) a) fun β => ?_
  have n0 : (cfg0.win 9).nblk ⟨0, (by decide : 0 < 2)⟩ = 32 :=
    (by decide : (S17408x1024.size 0 + S544x1024.size 0 - 1) / S544x1024.size 0 = 32)
  have n1 : (cfg0.win 9).nblk ⟨1, (by decide : 1 < 2)⟩ = 1 :=
    (by decide : (S17408x1024.size 1 + S544x1024.size 1 - 1) / S544x1024.size 1 = 1)
  have h0 := Nat.lt_of_lt_of_eq (β ⟨0, (by decide : 0 < 2)⟩).isLt n0
  have h1 := Nat.lt_of_lt_of_eq (β ⟨1, (by decide : 1 < 2)⟩).isLt n1
  obtain ⟨t, ht⟩ : ∃ t : Fin grid0.N, t.val = 2 * (β ⟨0, (by decide : 0 < 2)⟩).val :=
    ⟨⟨2 * (β ⟨0, (by decide : 0 < 2)⟩).val, lt_of_lt_of_eq (by omega) N_0.symm⟩, rfl⟩
  refine ⟨grid0.coords t, fun a => ?_⟩
  have e : (cfg0.win 9).indexMap (grid0.coords t) a = (![t.val / 2, 0] : Fin 2 → ℕ) a := congrFun (map9_at t) a
  rw [e]
  match a with
  | ⟨0, _⟩ => show t.val / 2 = _; omega
  | ⟨1, _⟩ => show 0 = _; omega

theorem covers10 : (cfg0.win 10).Covers := by
  refine (cfg0.win 10).covers_of_indexMap_surj rfl (fun a => (by decide : ∀ a : Fin 2, 0 < S544x1024.size a) a) fun β => ?_
  have n0 : (cfg0.win 10).nblk ⟨0, (by decide : 0 < 2)⟩ = 32 :=
    (by decide : (S17408x1024.size 0 + S544x1024.size 0 - 1) / S544x1024.size 0 = 32)
  have n1 : (cfg0.win 10).nblk ⟨1, (by decide : 1 < 2)⟩ = 1 :=
    (by decide : (S17408x1024.size 1 + S544x1024.size 1 - 1) / S544x1024.size 1 = 1)
  have h0 := Nat.lt_of_lt_of_eq (β ⟨0, (by decide : 0 < 2)⟩).isLt n0
  have h1 := Nat.lt_of_lt_of_eq (β ⟨1, (by decide : 1 < 2)⟩).isLt n1
  obtain ⟨t, ht⟩ : ∃ t : Fin grid0.N, t.val = 2 * (β ⟨0, (by decide : 0 < 2)⟩).val :=
    ⟨⟨2 * (β ⟨0, (by decide : 0 < 2)⟩).val, lt_of_lt_of_eq (by omega) N_0.symm⟩, rfl⟩
  refine ⟨grid0.coords t, fun a => ?_⟩
  have e : (cfg0.win 10).indexMap (grid0.coords t) a = (![t.val / 2, 0] : Fin 2 → ℕ) a := congrFun (map10_at t) a
  rw [e]
  match a with
  | ⟨0, _⟩ => show t.val / 2 = _; omega
  | ⟨1, _⟩ => show 0 = _; omega

theorem arr9_eq (c : Dev nD) : (dats m 0 c).arrAt 9 cfg0.N = streamG m c := by
  refine (dats m 0 c).arrAt_eq_of_covers 9 _ covers9 fun t hf y => ?_
  obtain ⟨z, hz⟩ : ∃ z : S544x1024.Idx, z = (cfg0.win 9).xinj (cfg0.grid.coords t) y := ⟨_, rfl⟩
  have e : z = ix2 (z 0) (z 1) := by
    funext a
    match a with
    | ⟨0, _⟩ => rfl
    | ⟨1, _⟩ => rfl
  have he : ∀ a : Fin 2, ((((cfg0.win 9).blk t).view.emb y a : ℕ)) = cc0_transform_9 (grid0.coords t) a * S544x1024.size a + (z a).val := by
    intro a
    rw [hz]
    exact Pipeline.Window.rect_emb_val (cfg0.win 9) t y a
  rw [map9_at] at he
  have hl : (dats m 0 c).after 9 t ((cfg0.win 9).xinj (cfg0.grid.coords t) y) = (outsAt0 m c t.val t.isLt).1 z := by rw [after0_9, hz]
  refine (show _ = (outsAt0 m c t.val t.isLt).1 z from hl).trans ?_
  rw [e]
  refine (stream_B m c t ((flush0_9 t).mp hf) (z 0) (z 1)).trans ?_
  have e0 : ((cfg0.win 9).blk t).view.emb y 0 = row (tile t) (z 0) := Fin.ext (he 0)
  have e1 : ((cfg0.win 9).blk t).view.emb y 1 = z 1 := Fin.ext ((he 1).trans (show 0 * 1024 + (z 1).val = (z 1).val by omega))
  show _ = streamGAt m c (((cfg0.win 9).blk t).view.emb y 0) (((cfg0.win 9).blk t).view.emb y 1)
  rw [e0, e1]
  exact stream_row m c (tile t) (z 0) (z 1)

theorem arr10_eq (c : Dev nD) : (dats m 0 c).arrAt 10 cfg0.N = nextG m c := by
  refine (dats m 0 c).arrAt_eq_of_covers 10 _ covers10 fun t hf y => ?_
  obtain ⟨z, hz⟩ : ∃ z : S544x1024.Idx, z = (cfg0.win 10).xinj (cfg0.grid.coords t) y := ⟨_, rfl⟩
  have e : z = ix2 (z 0) (z 1) := by
    funext a
    match a with
    | ⟨0, _⟩ => rfl
    | ⟨1, _⟩ => rfl
  have he : ∀ a : Fin 2, ((((cfg0.win 10).blk t).view.emb y a : ℕ)) = cc0_transform_10 (grid0.coords t) a * S544x1024.size a + (z a).val := by
    intro a
    rw [hz]
    exact Pipeline.Window.rect_emb_val (cfg0.win 10) t y a
  rw [map10_at] at he
  have hl : (dats m 0 c).after 10 t ((cfg0.win 10).xinj (cfg0.grid.coords t) y) = (outsAt0 m c t.val t.isLt).2.1 z := by rw [after0_10, hz]
  refine (show _ = (outsAt0 m c t.val t.isLt).2.1 z from hl).trans ?_
  rw [e]
  refine (next_at m c t ((flush0_10 t).mp hf) (z 0) (z 1)).trans ?_
  have e0 : ((cfg0.win 10).blk t).view.emb y 0 = row (tile t) (z 0) := Fin.ext (he 0)
  have e1 : ((cfg0.win 10).blk t).view.emb y 1 = z 1 := Fin.ext ((he 1).trans (show 0 * 1024 + (z 1).val = (z 1).val by omega))
  show _ = nextGAt m c (((cfg0.win 10).blk t).view.emb y 0) (((cfg0.win 10).blk t).view.emb y 1)
  rw [e0, e1]
  exact next_row m c (tile t) (z 0) (z 1)

/-- The reference's rows, batch by batch, in one array. -/
theorem rows_at (x : FVec Ideal Reference3Ideal.S4x4352x1024 .f32) (n : Fin 17408) (k : Fin 1024) :
    shapeCast Reference3Ideal.S17408x1024 x Reference3Ideal.Facts₀.shapeCasts_S4x4352x1024_S17408x1024 (ix2 n k) = x (ix3 (batOf n) (tokOf n) k) := by
  refine shapeCast_apply x _ _ _ ?_
  rw [Shape.rowMajor_val_three, Shape.rowMajor_val_two]
  show ((n.val / 4352 * 4352 + n.val % 4352) * 1024 + k.val : ℕ) = n.val * 1024 + k.val
  omega

end Cert.Kernel3Ideal.Ffn
end
-- ==== Proof.MoeMath.lean ====
/- The routed experts: a tile's expert and whether the tile is used, and the channel mixing of one row. -/
module

public import proofs.«01_k».proof.Proof.FfnMath
public import proofs.«01_k».proof.Proof.Finite
public import proofs.«01_k».proof.Pre_experts
public import Idealize.ShloMosaic.Lib.Affine
public import Idealize.ShloMosaic.Lib.Tactic.WordOmega

@[expose] public section

set_option maxRecDepth 16384

noncomputable section

namespace Cert.Moe

open Idealize.ShloMosaic Cert.Ffn

/-- The shape facts of the printed precondition. -/
theorem preFacts : Cert.Pre_experts.Facts := ⟨by decide, by decide, by decide⟩

/-! ## The tables -/

theorem lt_of_bits (x : BitVec 32) (h0 : IntOp.cmpi .sge x 0#32 = 1#1) (h8 : IntOp.cmpi .slt x 8#32 = 1#1) : x.toNat < 8 := by
  rw [IntOp.cmpi_sge] at h0
  rw [IntOp.cmpi_slt] at h8
  have e0 : (0#32 : BitVec 32).toInt = 0 := by decide
  have e8 : (8#32 : BitVec 32).toInt = 8 := by decide
  rw [e0] at h0
  rw [e8] at h8
  have hx := x.isLt
  rw [BitVec.toInt_eq_toNat_cond] at h0 h8
  split at h0 <;> omega

/-- Under the precondition every tile's expert is below eight. -/
theorem lt_of_pre [Cert.Pre_experts.Facts] {F : FTy → Type} [FloatOps F] (x : FVec F Cert.Pre_experts.S36864x1024 .bf16) (T : IVec Cert.Pre_experts.S72 32)
    (U : IVec Cert.Pre_experts.S1 32) (wg wu : FVec F Cert.Pre_experts.S8x1024x3584 .bf16) (wd : FVec F Cert.Pre_experts.S8x3584x1024 .bf16)
    (h : Cert.Pre_experts.fn (F := F) x T U wg wu wd = fun _ => 1#1) (r : Fin 72) : (T (ix1 r)).toNat < 8 := by
  have hsub : Subsingleton Cert.Pre_experts.S_.Idx := ⟨fun a b => funext fun i => i.elim0⟩
  unfold Cert.Pre_experts.fn at h
  dsimp only at h
  have e := Cert.Natten.reduce_andi _ _ hsub _ _ h (ix1 r)
  have e2 : IntOp.andi (IntOp.cmpi .sge (T (ix1 r)) 0#32) (IntOp.cmpi .slt (T (ix1 r)) 8#32) = 1#1 := e
  obtain ⟨h0, h8⟩ := (by decide : ∀ r g : BitVec 1, IntOp.andi r g = 1#1 → r = 1#1 ∧ g = 1#1) _ _ e2
  exact lt_of_bits _ h0 h8

/-- The expert of tile `r`, and whether the tile holds routed rows. -/
def expert (T : IVec ⟨1, ![72]⟩ 32) (r : Fin 72) : Fin 8 := ⟨(T (ix1 r)).toNat % 8, Nat.mod_lt _ (by decide)⟩
abbrev used (U : IVec ⟨1, ![1]⟩ 32) (r : Fin 72) : Prop := IntOp.cmpi .slt (BitVec.ofNat 32 r.val) (U (ix1 0)) = 1#1

/-- The blocks of the gates' and values' weights, and those of the last product's, lie inside their arrays. -/
theorem block_in (ix : Fin 3 → ℕ) (e j : ℕ) (he : e < 8) (hj : j < 7) (hix : ix = ![e, 0, j]) :
    ∃ h : ∀ a, (ix a + 1) * (⟨3, ![1, 1024, 512]⟩ : Shape).size a ≤ (⟨3, ![8, 1024, 3584]⟩ : Shape).size a,
      EltTy.bits .bf16 = 32 ∨ (Rect.block (s := ⟨3, ![8, 1024, 3584]⟩) (⟨3, ![1, 1024, 512]⟩ : Shape).size ix h).WholeWords (EltTy.packing .bf16) := by
  subst hix
  refine ⟨fun a => ?_, .inr (Affine.block_words_dvd (of_decide_eq_true rfl) (by decide))⟩
  match a with
  | ⟨0, _⟩ => show (e + 1) * 1 ≤ 8; omega
  | ⟨1, _⟩ => show (0 + 1) * 1024 ≤ 1024; omega
  | ⟨2, _⟩ => show (j + 1) * 512 ≤ 3584; omega
theorem block_out (ix : Fin 3 → ℕ) (e j : ℕ) (he : e < 8) (hj : j < 7) (hix : ix = ![e, j, 0]) :
    ∃ h : ∀ a, (ix a + 1) * (⟨3, ![1, 512, 1024]⟩ : Shape).size a ≤ (⟨3, ![8, 3584, 1024]⟩ : Shape).size a,
      EltTy.bits .bf16 = 32 ∨ (Rect.block (s := ⟨3, ![8, 3584, 1024]⟩) (⟨3, ![1, 512, 1024]⟩ : Shape).size ix h).WholeWords (EltTy.packing .bf16) := by
  subst hix
  refine ⟨fun a => ?_, .inr (Affine.block_words_dvd (of_decide_eq_true rfl) (by decide))⟩
  match a with
  | ⟨0, _⟩ => show (e + 1) * 1 ≤ 8; omega
  | ⟨1, _⟩ => show (j + 1) * 512 ≤ 3584; omega
  | ⟨2, _⟩ => show (0 + 1) * 1024 ≤ 1024; omega

/-! ## One row -/

/-- Column `a` of block `j` of the hidden columns. -/
def hcol (j : Fin 7) (a : Fin 512) : Fin 3584 := ⟨j.val * 512 + a.val, by omega⟩

theorem sum_blocks (f : Fin 3584 → EReal) : ∑ j : Fin 7, ∑ a : Fin 512, f (hcol j a) = ∑ x, f x := by
  rw [← Fintype.sum_prod_type']
  exact Fintype.sum_equiv (finProdFinEquiv (m := 7) (n := 512)) _ _ fun p => congrArg f (Fin.ext (show p.1.val * 512 + p.2.val = p.2.val + 512 * p.1.val by omega))

section
variable (X : FVec Ideal ⟨2, ![36864, 1024]⟩ .bf16) (Wg Wu : FVec Ideal ⟨3, ![8, 1024, 3584]⟩ .bf16) (Wd : FVec Ideal ⟨3, ![8, 3584, 1024]⟩ .bf16)
  (e : Fin 8) (n : Fin 36864) (k : Fin 1024)
/-- The hidden product of row `n` under expert `e`. -/
def hidden (j : Fin 3584) : EReal :=
  act (∑ d : Fin 1024, (X (ix2 n d) : EReal) * Wg (ix3 e d j)) (∑ d : Fin 1024, (X (ix2 n d) : EReal) * Wu (ix3 e d j))
/-- Its channel mixing over the whole of the hidden columns, and over one block of them. -/
def whole : EReal := ∑ j : Fin 3584, hidden X Wg Wu e n j * Wd (ix3 e j k)
def block (j : Fin 7) : EReal := ∑ a : Fin 512, hidden X Wg Wu e n (hcol j a) * Wd (ix3 e (hcol j a) k)
/-- The sum over the first `i` blocks. -/
def upto (i : ℕ) : EReal := ∑ j ∈ Finset.range i, if h : j < 7 then block X Wg Wu Wd e n k ⟨j, h⟩ else 0

theorem upto_zero : upto X Wg Wu Wd e n k 0 = 0 := Finset.sum_range_zero _
theorem upto_succ (j : Fin 7) : upto X Wg Wu Wd e n k (j.val + 1) = upto X Wg Wu Wd e n k j.val + block X Wg Wu Wd e n k j := by
  unfold upto
  rw [Finset.sum_range_succ, dif_pos j.isLt]
theorem upto_last : upto X Wg Wu Wd e n k 7 = whole X Wg Wu Wd e n k := by
  unfold upto whole
  rw [Finset.sum_range, ← sum_blocks]
  exact Finset.sum_congr rfl fun j _ => (dif_pos j.isLt).trans rfl
end

/-- The tile of a row. -/
def tileOf (n : Fin 36864) : Fin 72 := ⟨n.val / 512, by omega⟩

/-- The routed experts' result: each row's channel mixing under its tile's expert, zero past the used tiles. -/
def routed (X : FVec Ideal ⟨2, ![36864, 1024]⟩ .bf16) (T : IVec ⟨1, ![72]⟩ 32) (U : IVec ⟨1, ![1]⟩ 32) (Wg Wu : FVec Ideal ⟨3, ![8, 1024, 3584]⟩ .bf16)
    (Wd : FVec Ideal ⟨3, ![8, 3584, 1024]⟩ .bf16) (n : Fin 36864) (k : Fin 1024) : EReal :=
  if used U (tileOf n) then whole X Wg Wu Wd (expert T (tileOf n)) n k else 0

end Cert.Moe
end
-- ==== Proof.MoeTables.lean ====
/- The routed experts' prefetched tables: what the launch finds in them, and the launch's side condition of them. -/
module

public import proofs.«01_k».proof.Proof.Gen.Kernel4Ideal.Frame
public import proofs.«01_k».proof.Proof.Gen.Kernel4.Frame
public import proofs.«01_k».proof.Proof.MoeMath

@[expose] public section

set_option maxRecDepth 16384

noncomputable section

open Idealize.ShloMosaic Idealize.ShloMosaic.TcCoe Idealize.ShloMosaic.Tactic

namespace Cert.Kernel4Ideal.Moe

open Cert.Kernel4Ideal Cert.Kernel4Ideal.Gen Cert.Moe

variable {F : FTy → Type} [FloatOps F]
variable (m : (ℓ : Loc nD τ sig) → Buf (Elt F) ℓ)

/-- The table's slot that a grid point reads. -/
theorem slot_at (i : grid0.Coords) : (Rect.unit (s := S72) ![(Scalar.indexCast (BitVec.ofNat 32 (i 0).val)).toNat] S1.size (k0_off1_inb i)).emb
    (Shape.Idx.first (numel1_S1.symm ▸ Nat.one_pos)) = ix1 (i 0) :=
  funext fun a => match a with
    | ⟨0, _⟩ => Fin.ext ((by decide +kernel : ∀ i : grid0.Coords, ((Rect.unit (s := S72) ![(Scalar.indexCast (BitVec.ofNat 32 (i 0).val)).toNat] S1.size (k0_off1_inb i)).emb
        (Shape.Idx.first (numel1_S1.symm ▸ Nat.one_pos)) 0).val = (i 0).val) i)

theorem word_at : ∀ a : Fin 7, (BitVec.ofNat 32 a.val).toNat = a.val := by decide +kernel

/-- The tiles' experts, and the number of used tiles. -/
def tiles : IVec S72 32 := tbl m 0
def count : IVec S1 32 := tbl m 1

theorem idx1 (i : grid0.Coords) : cc0_transform_1 k0_off1_inb numel1_S1 (tbl m) i = ![(tiles m (ix1 (i 0))).toNat, 0, (i 1).val] :=
  congrArg₂ (fun (x : BitVec 32) (y : ℕ) => ![x.toNat, 0, y]) (congrArg (tiles m) (slot_at i)) (word_at (i 1))
theorem idx2 (i : grid0.Coords) : cc0_transform_2 k0_off1_inb numel1_S1 (tbl m) i = ![(tiles m (ix1 (i 0))).toNat, 0, (i 1).val] :=
  congrArg₂ (fun (x : BitVec 32) (y : ℕ) => ![x.toNat, 0, y]) (congrArg (tiles m) (slot_at i)) (word_at (i 1))
theorem idx3 (i : grid0.Coords) : cc0_transform_3 k0_off1_inb numel1_S1 (tbl m) i = ![(tiles m (ix1 (i 0))).toNat, (i 1).val, 0] :=
  congrArg₂ (fun (x : BitVec 32) (y : ℕ) => ![x.toNat, y, 0]) (congrArg (tiles m) (slot_at i)) (word_at (i 1))

/-- With every tile's expert below eight, every block lies inside its array. -/
theorem ok (hE : ∀ r : Fin 72, (tiles m (ix1 r)).toNat < 8) : Ok m :=
  ⟨fun i => block_in _ _ _ (hE (i 0)) (i 1).isLt (idx1 m i), fun i => block_in _ _ _ (hE (i 0)) (i 1).isLt (idx2 m i),
    fun i => block_out _ _ _ (hE (i 0)) (i 1).isLt (idx3 m i)⟩

end Cert.Kernel4Ideal.Moe

namespace Cert.Kernel4.Moe

open Cert.Kernel4 Cert.Kernel4.Gen Cert.Moe

variable {F : FTy → Type} [FloatOps F]
variable (m : (ℓ : Loc nD τ sig) → Buf (Elt F) ℓ)

/-- The table's slot that a grid point reads. -/
theorem slot_at (i : grid0.Coords) : (Rect.unit (s := S72) ![(Scalar.indexCast (BitVec.ofNat 32 (i 0).val)).toNat] S1.size (k0_off1_inb i)).emb
    (Shape.Idx.first (numel1_S1.symm ▸ Nat.one_pos)) = ix1 (i 0) :=
  funext fun a => match a with
    | ⟨0, _⟩ => Fin.ext ((by decide +kernel : ∀ i : grid0.Coords, ((Rect.unit (s := S72) ![(Scalar.indexCast (BitVec.ofNat 32 (i 0).val)).toNat] S1.size (k0_off1_inb i)).emb
        (Shape.Idx.first (numel1_S1.symm ▸ Nat.one_pos)) 0).val = (i 0).val) i)

theorem word_at : ∀ a : Fin 7, (BitVec.ofNat 32 a.val).toNat = a.val := by decide +kernel

/-- The tiles' experts, and the number of used tiles. -/
def tiles : IVec S72 32 := tbl m 0
def count : IVec S1 32 := tbl m 1

theorem idx1 (i : grid0.Coords) : cc0_transform_1 k0_off1_inb numel1_S1 (tbl m) i = ![(tiles m (ix1 (i 0))).toNat, 0, (i 1).val] :=
  congrArg₂ (fun (x : BitVec 32) (y : ℕ) => ![x.toNat, 0, y]) (congrArg (tiles m) (slot_at i)) (word_at (i 1))
theorem idx2 (i : grid0.Coords) : cc0_transform_2 k0_off1_inb numel1_S1 (tbl m) i = ![(tiles m (ix1 (i 0))).toNat, 0, (i 1).val] :=
  congrArg₂ (fun (x : BitVec 32) (y : ℕ) => ![x.toNat, 0, y]) (congrArg (tiles m) (slot_at i)) (word_at (i 1))
theorem idx3 (i : grid0.Coords) : cc0_transform_3 k0_off1_inb numel1_S1 (tbl m) i = ![(tiles m (ix1 (i 0))).toNat, (i 1).val, 0] :=
  congrArg₂ (fun (x : BitVec 32) (y : ℕ) => ![x.toNat, y, 0]) (congrArg (tiles m) (slot_at i)) (word_at (i 1))

/-- With every tile's expert below eight, every block lies inside its array. -/
theorem ok (hE : ∀ r : Fin 72, (tiles m (ix1 r)).toNat < 8) : Ok m :=
  ⟨fun i => block_in _ _ _ (hE (i 0)) (i 1).isLt (idx1 m i), fun i => block_in _ _ _ (hE (i 0)) (i 1).isLt (idx2 m i),
    fun i => block_out _ _ _ (hE (i 0)) (i 1).isLt (idx3 m i)⟩

end Cert.Kernel4.Moe

end
-- ==== Proof.MoeBody.lean ====
/- The routed experts: what one step of the launch leaves, at an index of its blocks. -/
module

public import proofs.«01_k».proof.Proof.MoeTables
public import Idealize.ShloMosaic.Lib.Pipeline.ValueKit
public import Idealize.ShloMosaic.Lib.Pipeline.Covers
public import Idealize.ShloMosaic.Lib.IdealHost

@[expose] public section

set_option maxRecDepth 16384

noncomputable section

namespace Cert.Kernel4Ideal.Moe

open Idealize.ShloMosaic Idealize.ShloMosaic.TcCoe Idealize.ShloMosaic.Tactic
open Cert.Kernel4Ideal Cert.Kernel4Ideal.Gen Cert.Ffn Cert.Moe

theorem pay1_at (n : Fin 512) (k : Fin 1024) : (k0_pay1 (F := Ideal) (ix2 n k) : EReal) = 0 := by
  pointwise [k0_pay1]

theorem pay2_at (x : FVec Ideal S512x1024 .bf16) (wg wu : FVec Ideal S1x1024x512 .bf16) (acc : FVec Ideal S512x1024 .f32)
    (wd : FVec Ideal S1x512x1024 .bf16) (n : Fin 512) (k : Fin 1024) :
    k0_pay2 (F := Ideal) x wg wu acc wd (ix2 n k) = (acc (ix2 n k) : EReal)
      + ∑ a : Fin 512, act (∑ d : Fin 1024, (x (ix2 n d) : EReal) * wg (ix3 0 d a)) (∑ d : Fin 1024, (x (ix2 n d) : EReal) * wu (ix3 0 d a)) * wd (ix3 0 a k) := by
  pointwise [k0_pay2]
  rfl

theorem pay3_at (v : FVec Ideal S512x1024 .f32) (n : Fin 512) (k : Fin 1024) : (k0_pay3 (F := Ideal) v (ix2 n k) : EReal) = v (ix2 n k) := by
  pointwise [k0_pay3]

section
variable (c : Dev nD) (i : grid0.Coords) (a4 h4 a5 h5 a6 h6 a7 h7 a8 h8 a9 h9)
  (x0 : Vec Ideal S512x1024 .bf16) (x1 x2 : Vec Ideal S1x1024x512 .bf16) (x3 : Vec Ideal S1x512x1024 .bf16) (t0 t1) (xs : Vec Ideal S512x1024 .f32)

theorem scratch_A (hc0 hc2 hc1) : sout0_A_0 (F := Ideal) c i a4 h4 a5 h5 a6 h6 a7 h7 a8 h8 a9 h9 hc0 hc2 x0 x1 x2 x3 t0 t1 hc1
    = k0_pay2 (F := Ideal) x0 x1 x2 (k0_pay1 (F := Ideal)) x3 := by
  frame_out
theorem scratch_B (hc0 hc2 hc1) : sout0_B_0 (F := Ideal) c i a4 h4 a5 h5 a6 h6 a7 h7 a8 h8 a9 h9 hc0 hc2 x0 x1 x2 x3 t0 t1 hc1
    = k0_pay1 (F := Ideal) := by
  frame_out
theorem scratch_C (hc0 hc2 hc1) : sout0_C_0 (F := Ideal) c i a4 h4 a5 h5 a6 h6 a7 h7 a8 h8 a9 h9 hc0 hc2 x0 x1 x2 x3 t0 t1 xs hc1
    = k0_pay2 (F := Ideal) x0 x1 x2 xs x3 := by
  frame_out
theorem scratch_D (hc0 hc2 hc1) : sout0_D_0 (F := Ideal) c i a4 h4 a5 h5 a6 h6 a7 h7 a8 h8 a9 h9 hc0 hc2 x0 x1 x2 x3 t0 t1 xs hc1 = xs := rfl
theorem scratch_E (hc0 hc2 hc1) : sout0_E_0 (F := Ideal) c i a4 h4 a5 h5 a6 h6 a7 h7 a8 h8 a9 h9 hc0 hc2 x0 x1 x2 x3 t0 t1 xs hc1
    = k0_pay2 (F := Ideal) x0 x1 x2 xs x3 := by
  frame_out
theorem scratch_F (hc0 hc2 hc1) : sout0_F_0 (F := Ideal) c i a4 h4 a5 h5 a6 h6 a7 h7 a8 h8 a9 h9 hc0 hc2 x0 x1 x2 x3 t0 t1 xs hc1 = xs := rfl
theorem out_E (hc0 hc2 hc1) : out0_E_4 (F := Ideal) c i a4 h4 a5 h5 a6 h6 a7 h7 a8 h8 a9 h9 hc0 hc2 x0 x1 x2 x3 t0 t1 xs hc1
    = k0_pay3 (F := Ideal) (k0_pay2 (F := Ideal) x0 x1 x2 xs x3) := by
  frame_out
theorem out_F (hc0 hc2 hc1) : out0_F_4 (F := Ideal) c i a4 h4 a5 h5 a6 h6 a7 h7 a8 h8 a9 h9 hc0 hc2 x0 x1 x2 x3 t0 t1 xs hc1
    = k0_pay3 (F := Ideal) xs := by
  frame_out
end
end Cert.Kernel4Ideal.Moe
end
-- ==== Proof.MoeValue.lean ====
/- The routed experts: the launch's blocks as entries of the arguments, its scratch step by step, and its result array. -/
module

public import proofs.«01_k».proof.Proof.MoeBody

@[expose] public section

set_option maxRecDepth 16384

noncomputable section

namespace Cert.Kernel4Ideal.Moe

open Idealize.ShloMosaic Idealize.ShloMosaic.TcCoe Idealize.ShloMosaic.Tactic
open Cert.Kernel4Ideal Cert.Kernel4Ideal.Gen Cert.Ffn Cert.Moe

variable (m : (ℓ : Loc nD τ sig) → Buf (Elt Ideal) ℓ)

/-- Row `n` of tile `r`. -/
def row (r : Fin 72) (n : Fin 512) : Fin 36864 := ⟨r.val * 512 + n.val, by omega⟩
theorem tileOf_row (r : Fin 72) (n : Fin 512) : tileOf (row r n) = r :=
  Fin.ext (show (r.val * 512 + n.val) / 512 = r.val by omega)

/-- A point's tile, and its block of hidden columns. -/
def tile (t : Fin grid0.N) : Fin 72 := ⟨t.val / 7, by have := lt_of_lt_of_eq t.isLt N_0; omega⟩
def part (t : Fin grid0.N) : Fin 7 := ⟨t.val % 7, by omega⟩
theorem coord0_at (t : Fin grid0.N) : grid0.coords t 0 = tile t :=
  Fin.ext ((by decide +kernel : ∀ t : Fin grid0.N, (grid0.coords t 0).val = t.val / 7) t)
theorem coord1_at (t : Fin grid0.N) : grid0.coords t 1 = part t :=
  Fin.ext ((by decide +kernel : ∀ t : Fin grid0.N, (grid0.coords t 1).val = t.val % 7) t)
theorem map0_at : ∀ t : Fin grid0.N, cc0_transform_0 (grid0.coords t) = ![t.val / 7, 0] := by decide +kernel
theorem map4_at : ∀ t : Fin grid0.N, cc0_transform_4 (grid0.coords t) = ![t.val / 7, 0] := by decide +kernel
theorem map1_at (t : Fin grid0.N) : cc0_transform_1 k0_off1_inb numel1_S1 (tbl m) (grid0.coords t) = ![(tiles m (ix1 (tile t))).toNat, 0, t.val % 7] := by
  rw [idx1, coord0_at, coord1_at]
  rfl
theorem map2_at (t : Fin grid0.N) : cc0_transform_2 k0_off1_inb numel1_S1 (tbl m) (grid0.coords t) = ![(tiles m (ix1 (tile t))).toNat, 0, t.val % 7] := by
  rw [idx2, coord0_at, coord1_at]
  rfl
theorem map3_at (t : Fin grid0.N) : cc0_transform_3 k0_off1_inb numel1_S1 (tbl m) (grid0.coords t) = ![(tiles m (ix1 (tile t))).toNat, t.val % 7, 0] := by
  rw [idx3, coord0_at, coord1_at]
  rfl

theorem x_blk (hO : Ok m) (c : Dev nD) (t : Fin (cfgM m hO).N) (n : Fin 512) (d : Fin 1024) :
    iblk m hO c 0 t (ix2 n d) = m ((c.tc : Thread nD τ).loc main_arg0) (ix2 (row (tile t) n) d) := by
  show V m c main_arg0 ((((cfgM m hO).win 0).blk t).view.emb (ix2 n d)) = _
  rw [V_main_arg0]
  refine congrArg _ (funext fun x => Fin.ext ?_)
  refine (Pipeline.Window.rect_emb_val ((cfgM m hO).win 0) t (ix2 n d) x).trans ?_
  show cc0_transform_0 (grid0.coords t) x * _ + _ = _
  rw [map0_at t]
  match x with
  | ⟨0, _⟩ => rfl
  | ⟨1, _⟩ => show 0 * 1024 + d.val = d.val; omega

theorem gate_blk (hO : Ok m) (hE : ∀ r : Fin 72, (tiles m (ix1 r)).toNat < 8) (c : Dev nD) (t : Fin (cfgM m hO).N) (d : Fin 1024) (a : Fin 512) :
    iblk m hO c 1 t (ix3 (0 : Fin 1) d a) = m ((c.tc : Thread nD τ).loc main_arg3) (ix3 (expert (tiles m) (tile t)) d (hcol (part t) a)) := by
  show V m c main_arg3 ((((cfgM m hO).win 1).blk t).view.emb (ix3 (0 : Fin 1) d a)) = _
  rw [V_main_arg3]
  refine congrArg _ (funext fun x => Fin.ext ?_)
  refine (Pipeline.Window.rect_emb_val ((cfgM m hO).win 1) t (ix3 (0 : Fin 1) d a) x).trans ?_
  show cc0_transform_1 k0_off1_inb numel1_S1 (tbl m) (grid0.coords t) x * _ + _ = _
  rw [map1_at]
  match x with
  | ⟨0, _⟩ => show (tiles m (ix1 (tile t))).toNat * 1 + 0 = (tiles m (ix1 (tile t))).toNat % 8; have := hE (tile t); omega
  | ⟨1, _⟩ => show 0 * 1024 + d.val = d.val; omega
  | ⟨2, _⟩ => rfl

theorem up_blk (hO : Ok m) (hE : ∀ r : Fin 72, (tiles m (ix1 r)).toNat < 8) (c : Dev nD) (t : Fin (cfgM m hO).N) (d : Fin 1024) (a : Fin 512) :
    iblk m hO c 2 t (ix3 (0 : Fin 1) d a) = m ((c.tc : Thread nD τ).loc main_arg4) (ix3 (expert (tiles m) (tile t)) d (hcol (part t) a)) := by
  show V m c main_arg4 ((((cfgM m hO).win 2).blk t).view.emb (ix3 (0 : Fin 1) d a)) = _
  rw [V_main_arg4]
  refine congrArg _ (funext fun x => Fin.ext ?_)
  refine (Pipeline.Window.rect_emb_val ((cfgM m hO).win 2) t (ix3 (0 : Fin 1) d a) x).trans ?_
  show cc0_transform_2 k0_off1_inb numel1_S1 (tbl m) (grid0.coords t) x * _ + _ = _
  rw [map2_at]
  match x with
  | ⟨0, _⟩ => show (tiles m (ix1 (tile t))).toNat * 1 + 0 = (tiles m (ix1 (tile t))).toNat % 8; have := hE (tile t); omega
  | ⟨1, _⟩ => show 0 * 1024 + d.val = d.val; omega
  | ⟨2, _⟩ => rfl

theorem down_blk (hO : Ok m) (hE : ∀ r : Fin 72, (tiles m (ix1 r)).toNat < 8) (c : Dev nD) (t : Fin (cfgM m hO).N) (a : Fin 512) (k : Fin 1024) :
    iblk m hO c 3 t (ix3 (0 : Fin 1) a k) = m ((c.tc : Thread nD τ).loc main_arg5) (ix3 (expert (tiles m) (tile t)) (hcol (part t) a) k) := by
  show V m c main_arg5 ((((cfgM m hO).win 3).blk t).view.emb (ix3 (0 : Fin 1) a k)) = _
  rw [V_main_arg5]
  refine congrArg _ (funext fun x => Fin.ext ?_)
  refine (Pipeline.Window.rect_emb_val ((cfgM m hO).win 3) t (ix3 (0 : Fin 1) a k) x).trans ?_
  show cc0_transform_3 k0_off1_inb numel1_S1 (tbl m) (grid0.coords t) x * _ + _ = _
  rw [map3_at]
  match x with
  | ⟨0, _⟩ => show (tiles m (ix1 (tile t))).toNat * 1 + 0 = (tiles m (ix1 (tile t))).toNat % 8; have := hE (tile t); omega
  | ⟨1, _⟩ => rfl
  | ⟨2, _⟩ => show 0 * 1024 + k.val = k.val; omega

/-- One step's contribution: a block of the hidden columns, over the rows of the point's tile. -/
theorem step_at (hO : Ok m) (hE : ∀ r : Fin 72, (tiles m (ix1 r)).toNat < 8) (c : Dev nD) (t : Fin (cfgM m hO).N) (acc : FVec Ideal S512x1024 .f32)
    (n : Fin 512) (k : Fin 1024) :
    k0_pay2 (F := Ideal) (iblk m hO c 0 t) (iblk m hO c 1 t) (iblk m hO c 2 t) acc (iblk m hO c 3 t) (ix2 n k) = (acc (ix2 n k) : EReal)
      + block (m ((c.tc : Thread nD τ).loc main_arg0)) (m ((c.tc : Thread nD τ).loc main_arg3)) (m ((c.tc : Thread nD τ).loc main_arg4)) (m ((c.tc : Thread nD τ).loc main_arg5))
        (expert (tiles m) (tile t)) (row (tile t) n) k (part t) := by
  refine (pay2_at (iblk m hO c 0 t) (iblk m hO c 1 t) (iblk m hO c 2 t) acc (iblk m hO c 3 t) n k).trans ?_
  refine congrArg _ (Finset.sum_congr rfl fun a _ => ?_)
  refine congrArg₂ (fun x y : EReal => x * y) ?_ (down_blk m hO hE c t a k)
  exact congrArg₂ act (Finset.sum_congr rfl fun d _ => congrArg₂ (fun x y : EReal => x * y) (x_blk m hO c t n d) (gate_blk m hO hE c t d a))
    (Finset.sum_congr rfl fun d _ => congrArg₂ (fun x y : EReal => x * y) (x_blk m hO c t n d) (up_blk m hO hE c t d a))

/-- The word that a point compares its tile with, and what the comparison decides. -/
theorem bit_iff : ∀ b : BitVec 1, (Scalar.cmpi .ne (Scalar.extui b : BitVec 32) 0#32 = 1#1) ↔ b = 1#1 := by decide
theorem word_eq : tbM0_1.view.readAt (Elt Ideal) (Rect.unit (s := S1) ![0] S1.size inb_S1_S1_0).toLoadRect (tbl m 1) (Shape.Idx.first (numel1_S1.symm ▸ Nat.one_pos))
    = count m (ix1 0) :=
  congrArg (count m) (funext fun a => match a with | ⟨0, _⟩ => Subsingleton.elim (α := Fin 1) _ _)
theorem used_iff (t : Fin grid0.N) : cond0_1 (grid0.coords t) (tbM0_1.view.readAt (Elt Ideal) (Rect.unit (s := S1) ![0] S1.size inb_S1_S1_0).toLoadRect (tbl m 1)
      (Shape.Idx.first (numel1_S1.symm ▸ Nat.one_pos))) ↔ used (count m) (tile t) := by
  rw [word_eq]
  refine (bit_iff _).trans ?_
  rw [coord0_at]
  rfl

/-- What the first point of a tile leaves in the scratch, and what a later one makes of what it finds there. -/
theorem first_used (hO : Ok m) (c : Dev nD) (t : Fin (cfgM m hO).N) (h0 : t.val % 7 = 0) (hu : used (count m) (tile t)) :
    (outsAt0 m hO c t.val t.isLt).2 = k0_pay2 (F := Ideal) (iblk m hO c 0 t) (iblk m hO c 1 t) (iblk m hO c 2 t) (k0_pay1 (F := Ideal)) (iblk m hO c 3 t) := by
  rw [outsAt0_A m hO c t h0 ((used_iff m t).mpr hu) (by omega)]
  dsimp only
  exact scratch_A _ _ _ _ _ _ _ _ _ _ _ _ _ _ _ _ _ _ _ _ _ _ _
theorem first_unused (hO : Ok m) (c : Dev nD) (t : Fin (cfgM m hO).N) (h0 : t.val % 7 = 0) (hu : ¬used (count m) (tile t)) :
    (outsAt0 m hO c t.val t.isLt).2 = k0_pay1 (F := Ideal) := by
  rw [outsAt0_B m hO c t h0 (fun h => hu ((used_iff m t).mp h)) (by omega)]
  dsimp only
  exact scratch_B _ _ _ _ _ _ _ _ _ _ _ _ _ _ _ _ _ _ _ _ _ _ _
theorem later_used (hO : Ok m) (c : Dev nD) (t : Fin (cfgM m hO).N) (h0 : ¬t.val % 7 = 0) (hu : used (count m) (tile t)) :
    (outsAt0 m hO c t.val t.isLt).2 = k0_pay2 (F := Ideal) (iblk m hO c 0 t) (iblk m hO c 1 t) (iblk m hO c 2 t)
      (outsAt0 m hO c (t.val - 1) (Nat.lt_of_le_of_lt (Nat.sub_le _ _) t.isLt)).2 (iblk m hO c 3 t) := by
  by_cases h2 : t.val % 7 = 6
  · rw [outsAt0_E m hO c t h0 ((used_iff m t).mpr hu) h2]
    dsimp only
    exact scratch_E _ _ _ _ _ _ _ _ _ _ _ _ _ _ _ _ _ _ _ _ _ _ _ _
  · rw [outsAt0_C m hO c t h0 ((used_iff m t).mpr hu) h2]
    dsimp only
    exact scratch_C _ _ _ _ _ _ _ _ _ _ _ _ _ _ _ _ _ _ _ _ _ _ _ _
theorem later_unused (hO : Ok m) (c : Dev nD) (t : Fin (cfgM m hO).N) (h0 : ¬t.val % 7 = 0) (hu : ¬used (count m) (tile t)) :
    (outsAt0 m hO c t.val t.isLt).2 = (outsAt0 m hO c (t.val - 1) (Nat.lt_of_le_of_lt (Nat.sub_le _ _) t.isLt)).2 := by
  by_cases h2 : t.val % 7 = 6
  · rw [outsAt0_F m hO c t h0 (fun h => hu ((used_iff m t).mp h)) h2]
    dsimp only
    exact scratch_F _ _ _ _ _ _ _ _ _ _ _ _ _ _ _ _ _ _ _ _ _ _ _ _
  · rw [outsAt0_D m hO c t h0 (fun h => hu ((used_iff m t).mp h)) h2]
    dsimp only
    exact scratch_D _ _ _ _ _ _ _ _ _ _ _ _ _ _ _ _ _ _ _ _ _ _ _ _
/-- At a tile's last point the result block is the scratch. -/
theorem last_out (hO : Ok m) (c : Dev nD) (t : Fin (cfgM m hO).N) (h2 : t.val % 7 = 6) (n : Fin 512) (k : Fin 1024) :
    ((outsAt0 m hO c t.val t.isLt).1 (ix2 n k) : EReal) = (outsAt0 m hO c t.val t.isLt).2 (ix2 n k) := by
  by_cases hu : used (count m) (tile t)
  · rw [later_used m hO c t (by omega) hu, outsAt0_E m hO c t (by omega) ((used_iff m t).mpr hu) h2]
    dsimp only
    exact (congrFun (out_E _ _ _ _ _ _ _ _ _ _ _ _ _ _ _ _ _ _ _ _ _ _ _ _) _).trans (pay3_at _ n k)
  · rw [later_unused m hO c t (by omega) hu, outsAt0_F m hO c t (by omega) (fun h => hu ((used_iff m t).mp h)) h2]
    dsimp only
    exact (congrFun (out_F _ _ _ _ _ _ _ _ _ _ _ _ _ _ _ _ _ _ _ _ _ _ _ _) _).trans (pay3_at _ n k)

/-- The scratch after a point: the tile's rows over the blocks of hidden columns so far, or zero. -/
def held (c : Dev nD) (r : Fin 72) (n : Fin 512) (k : Fin 1024) (i : ℕ) : EReal :=
  if used (count m) r then
    upto (m ((c.tc : Thread nD τ).loc main_arg0)) (m ((c.tc : Thread nD τ).loc main_arg3)) (m ((c.tc : Thread nD τ).loc main_arg4)) (m ((c.tc : Thread nD τ).loc main_arg5))
      (expert (tiles m) r) (row r n) k i
  else 0

theorem scratch_at (hO : Ok m) (hE : ∀ r : Fin 72, (tiles m (ix1 r)).toNat < 8) (c : Dev nD) (n : Fin 512) (k : Fin 1024) :
    ∀ (i : ℕ) (t : Fin (cfgM m hO).N), t.val % 7 = i → ((outsAt0 m hO c t.val t.isLt).2 (ix2 n k) : EReal) = held m c (tile t) n k (i + 1) := by
  intro i
  induction i with
  | zero =>
    intro t ht
    by_cases hu : used (count m) (tile t)
    · unfold held
      have hs := upto_succ (m ((c.tc : Thread nD τ).loc main_arg0)) (m ((c.tc : Thread nD τ).loc main_arg3)) (m ((c.tc : Thread nD τ).loc main_arg4)) (m ((c.tc : Thread nD τ).loc main_arg5))
        (expert (tiles m) (tile t)) (row (tile t) n) k (part t)
      have hp : (part t).val = 0 := ht
      rw [hp, upto_zero] at hs
      rw [if_pos hu, hs, first_used m hO c t ht hu, step_at m hO hE, pay1_at]
    · unfold held
      rw [if_neg hu, first_unused m hO c t ht hu, pay1_at]
  | succ i ih =>
    intro t ht
    have hN := t.isLt
    have hb := ih ⟨t.val - 1, Nat.lt_of_le_of_lt (Nat.sub_le _ _) t.isLt⟩ (show (t.val - 1) % 7 = i by omega)
    have e : tile ⟨t.val - 1, Nat.lt_of_le_of_lt (Nat.sub_le _ _) t.isLt⟩ = tile t := Fin.ext (show (t.val - 1) / 7 = t.val / 7 by omega)
    rw [e] at hb
    by_cases hu : used (count m) (tile t)
    · have hs := upto_succ (m ((c.tc : Thread nD τ).loc main_arg0)) (m ((c.tc : Thread nD τ).loc main_arg3)) (m ((c.tc : Thread nD τ).loc main_arg4)) (m ((c.tc : Thread nD τ).loc main_arg5))
        (expert (tiles m) (tile t)) (row (tile t) n) k (part t)
      have hp : (part t).val = i + 1 := ht
      rw [hp] at hs
      unfold held at hb ⊢
      rw [if_pos hu] at hb ⊢
      rw [hs, later_used m hO c t (by omega) hu, step_at m hO hE]
      exact congrArg (fun x : EReal => x + _) hb
    · unfold held at hb ⊢
      rw [if_neg hu] at hb ⊢
      rw [later_unused m hO c t (by omega) hu]
      exact hb

/-- The launch's result array. -/
def GAt (c : Dev nD) (n : Fin 36864) (k : Fin 1024) : EReal :=
  routed (m ((c.tc : Thread nD τ).loc main_arg0)) (tiles m) (count m) (m ((c.tc : Thread nD τ).loc main_arg3)) (m ((c.tc : Thread nD τ).loc main_arg4)) (m ((c.tc : Thread nD τ).loc main_arg5)) n k
def G (c : Dev nD) : FVec Ideal S36864x1024 .bf16 := fun i => GAt m c (i 0) (i 1)

theorem out_at (hO : Ok m) (hE : ∀ r : Fin 72, (tiles m (ix1 r)).toNat < 8) (c : Dev nD) (t : Fin (cfgM m hO).N) (h2 : t.val % 7 = 6) (n : Fin 512) (k : Fin 1024) :
    ((outsAt0 m hO c t.val t.isLt).1 (ix2 n k) : EReal) = GAt m c (row (tile t) n) k := by
  refine (last_out m hO c t h2 n k).trans ((scratch_at m hO hE c n k 6 t h2).trans ?_)
  unfold held GAt routed
  rw [tileOf_row, upto_last]

theorem G_of (c : Dev nD) (i : S36864x1024.Idx) (n : Fin 36864) (k : Fin 1024) (h0 : (i 0).val = n.val) (h1 : (i 1).val = k.val) : G m c i = GAt m c n k := by
  have e0 : i 0 = n := Fin.ext h0
  have e1 : i 1 = k := Fin.ext h1
  show GAt m c (i 0) (i 1) = _
  rw [e0, e1]

theorem covers4 (hO : Ok m) : ((cfgM m hO).win 4).Covers := by
  refine ((cfgM m hO).win 4).covers_of_indexMap_surj rfl (fun a => (by decide : ∀ a : Fin 2, 0 < S512x1024.size a) a) fun β => ?_
  have n0 : ((cfgM m hO).win 4).nblk ⟨0, (by decide : 0 < 2)⟩ = 72 :=
    (by decide : (S36864x1024.size 0 + S512x1024.size 0 - 1) / S512x1024.size 0 = 72)
  have n1 : ((cfgM m hO).win 4).nblk ⟨1, (by decide : 1 < 2)⟩ = 1 :=
    (by decide : (S36864x1024.size 1 + S512x1024.size 1 - 1) / S512x1024.size 1 = 1)
  have h0 := Nat.lt_of_lt_of_eq (β ⟨0, (by decide : 0 < 2)⟩).isLt n0
  have h1 := Nat.lt_of_lt_of_eq (β ⟨1, (by decide : 1 < 2)⟩).isLt n1
  obtain ⟨t, ht⟩ : ∃ t : Fin grid0.N, t.val = 7 * (β ⟨0, (by decide : 0 < 2)⟩).val :=
    ⟨⟨7 * (β ⟨0, (by decide : 0 < 2)⟩).val, lt_of_lt_of_eq (by omega) N_0.symm⟩, rfl⟩
  refine ⟨grid0.coords t, fun a => ?_⟩
  have e : ((cfgM m hO).win 4).indexMap (grid0.coords t) a = (![t.val / 7, 0] : Fin 2 → ℕ) a := congrFun (map4_at t) a
  rw [e]
  match a with
  | ⟨0, _⟩ => show t.val / 7 = _; omega
  | ⟨1, _⟩ => show 0 = _; omega

theorem arr_eq (hO : Ok m) (hE : ∀ r : Fin 72, (tiles m (ix1 r)).toNat < 8) (c : Dev nD) : (dats m hO 0 c).arrAt 4 (cfgM m hO).N = G m c := by
  refine (dats m hO 0 c).arrAt_eq_of_covers 4 _ (covers4 m hO) fun t hf y => ?_
  obtain ⟨z, hz⟩ : ∃ z : S512x1024.Idx, z = ((cfgM m hO).win 4).xinj ((cfgM m hO).grid.coords t) y := ⟨_, rfl⟩
  have e : z = ix2 (z 0) (z 1) := by
    funext a
    match a with
    | ⟨0, _⟩ => rfl
    | ⟨1, _⟩ => rfl
  have he : ∀ a : Fin 2, (((((cfgM m hO).win 4).blk t).view.emb y a : ℕ)) = cc0_transform_4 (grid0.coords t) a * S512x1024.size a + (z a).val := by
    intro a
    rw [hz]
    exact Pipeline.Window.rect_emb_val ((cfgM m hO).win 4) t y a
  rw [map4_at] at he
  have hl : (dats m hO 0 c).after 4 t (((cfgM m hO).win 4).xinj ((cfgM m hO).grid.coords t) y) = (outsAt0 m hO c t.val t.isLt).1 z := by rw [after0_4, hz]
  refine (show _ = (outsAt0 m hO c t.val t.isLt).1 z from hl).trans ?_
  rw [e]
  refine (out_at m hO hE c t ((flush0_4 _ t).mp hf) (z 0) (z 1)).trans (G_of m c _ _ _ ((he 0).trans ?_) ((he 1).trans ?_)).symm
  · rfl
  · show 0 * 1024 + (z 1).val = (z 1).val; omega

end Cert.Kernel4Ideal.Moe
end
-- ==== Proof.MoeRef.lean ====
/- The routed experts' reference: its result as a chain of stages, and each at an index. -/
module

public import proofs.«01_k».proof.Proof.Gen.Reference4Ideal.Run
public import proofs.«01_k».proof.Proof.MoeMath
public import Idealize.ShloMosaic.Lib.Pipeline.Value

@[expose] public section

set_option maxRecDepth 16384

noncomputable section

namespace Cert.Reference4Ideal.Moe

open Idealize.ShloMosaic Idealize.ShloMosaic.TcCoe Idealize.ShloMosaic.Tactic
open Cert.Reference4Ideal Cert.Reference4Ideal.Gen Cert.Ffn Cert.Moe

/-- The hidden columns' products under every expert, and the channel mixing. -/
def inner (X : FVec Ideal S36864x1024 .bf16) (W : FVec Ideal S8x1024x3584 .bf16) : FVec Ideal S8x36864x3584 .f32 :=
  transpose S8x36864x3584 [0, 2, 1] (Host.dotGeneral dot_S8x1024x3584_S36864x1024_S8x3584x36864_1_1_02_0_n_n none (extf .f32 W bitsLt_bf16_f32)
    (extf .f32 X bitsLt_bf16_f32)) transposes_S8x3584x36864_S8x36864x3584_0_2_1
def gated (g v : FVec Ideal S8x36864x3584 .f32) : FVec Ideal S8x36864x3584 .f32 :=
  mulf (mulf g (Host.divf (broadcastInDim S8x36864x3584 ![] bcast_S_S8x36864x3584 (constant S_ .f32 0x3F800000#32))
    (addf (broadcastInDim S8x36864x3584 ![] bcast_S_S8x36864x3584 (constant S_ .f32 0x3F800000#32)) (Host.exp (Host.negf g))))) v
def outer (h : FVec Ideal S8x36864x3584 .f32) (W : FVec Ideal S8x3584x1024 .bf16) : FVec Ideal S8x36864x1024 .f32 :=
  Host.dotGeneral dot_S8x36864x3584_S8x3584x1024_S8x36864x1024_2_1_1_2_0_0 none h (extf .f32 W bitsLt_bf16_f32)
/-- Every row's expert, none past the used tiles, and the rows that an expert keeps. -/
def tileWord (T : IVec S72 32) (U : IVec S1 32) : IVec S72 32 :=
  select (cmpi .slt (iotaInDim S72 32 0) (broadcastInDim S72 ![] bcast_S_S72 (shapeCast S_ U shapeCasts_S1_S_))) T
    (broadcastInDim S72 ![] bcast_S_S72 (id (constantI S_ 32 4294967295#32)))
def rowWord (T : IVec S72 32) (U : IVec S1 32) : IVec S36864 32 :=
  shapeCast S36864 (broadcastInDim S72x512 ![0] bcast_S72_S72x512_0 (tileWord T U)) shapeCasts_S72x512_S36864
def kept (T : IVec S72 32) (U : IVec S1 32) : IVec S8x36864 1 :=
  cmpi .eq (broadcastInDim S8x36864 ![0, 1] bcast_S8x1_S8x36864_0_1 (broadcastInDim S8x1 ![0] bcast_S8_S8x1_0 (iotaInDim S8 32 0)))
    (broadcastInDim S8x36864 ![0, 1] bcast_S1x36864_S8x36864_0_1 (broadcastInDim S1x36864 ![1] bcast_S36864_S1x36864_1 (rowWord T U)))
def gathered (b : IVec S8x36864 1) (f : FVec Ideal S8x36864x1024 .f32) : FVec Ideal S36864x1024 .bf16 :=
  truncf .bf16 (Host.reduceAdd (select (broadcastInDim S8x36864x1024 ![0, 1, 2] bcast_S8x36864x1_S8x36864x1024_0_1_2
    (broadcastInDim S8x36864x1 ![0, 1] bcast_S8x36864_S8x36864x1_0_1 b)) f
    (broadcastInDim S8x36864x1024 ![] bcast_S_S8x36864x1024 (id (constant S_ .f32 0x00000000#32))))
    (constant S_ .f32 0x00000000#32) reducesTo_S8x36864x1024_S36864x1024_d0 h_S_) bitsLt_bf16_f32

/-- The reference's result, of its arguments. -/
def result (X : FVec Ideal S36864x1024 .bf16) (T : IVec S72 32) (U : IVec S1 32) (Wg Wu : FVec Ideal S8x1024x3584 .bf16) (Wd : FVec Ideal S8x3584x1024 .bf16) :
    FVec Ideal S36864x1024 .bf16 := gathered (kept T U) (outer (gated (inner X Wg) (inner X Wu)) Wd)

theorem inner_at (X : FVec Ideal S36864x1024 .bf16) (W : FVec Ideal S8x1024x3584 .bf16) (e : Fin 8) (n : Fin 36864) (j : Fin 3584) :
    inner X W (ix3 e n j) = ∑ d : Fin 1024, (X (ix2 n d) : EReal) * W (ix3 e d j) := by
  have h : inner X W (ix3 e n j) = ∑ d : Fin 1024, (W (ix3 e d j) : EReal) * X (ix2 n d) := by
    pointwise [inner]
  exact h.trans (Finset.sum_congr rfl fun d _ => mul_comm _ _)

theorem gated_at (g v : FVec Ideal S8x36864x3584 .f32) (e : Fin 8) (n : Fin 36864) (j : Fin 3584) :
    gated g v (ix3 e n j) = act (g (ix3 e n j)) (v (ix3 e n j)) := by
  unfold act
  rw [logistic_eq]
  unfold Ideal.logistic
  pointwise [gated]

theorem outer_at (h : FVec Ideal S8x36864x3584 .f32) (W : FVec Ideal S8x3584x1024 .bf16) (e : Fin 8) (n : Fin 36864) (k : Fin 1024) :
    outer h W (ix3 e n k) = ∑ j : Fin 3584, (h (ix3 e n j) : EReal) * W (ix3 e j k) := by
  pointwise [outer]

theorem tileWord_at (T : IVec S72 32) (U : IVec S1 32) (r : Fin 72) :
    tileWord T U (ix1 r) = Scalar.select (IntOp.cmpi .slt (BitVec.ofNat 32 r.val) (U (ix1 0))) (T (ix1 r)) 4294967295#32 := by
  pointwise [tileWord]
  rfl

theorem rowWord_at (T : IVec S72 32) (U : IVec S1 32) (n : Fin 36864) : rowWord T U (ix1 n) = tileWord T U (ix1 (tileOf n)) := by
  have h : rowWord T U (ix1 n) = broadcastInDim S72x512 ![0] bcast_S72_S72x512_0 (tileWord T U) (ix2 (tileOf n) (⟨n.val % 512, by omega⟩ : Fin 512)) := by
    refine shapeCast_apply _ _ _ _ ?_
    rw [Shape.rowMajor_val_two, Shape.rowMajor_val_one]
    show (n.val / 512 * 512 + n.val % 512 : ℕ) = n.val
    omega
  rw [h]
  pointwise []

theorem kept_at (T : IVec S72 32) (U : IVec S1 32) (e : Fin 8) (n : Fin 36864) :
    kept T U (ix2 e n) = IntOp.cmpi .eq (BitVec.ofNat 32 e.val) (tileWord T U (ix1 (tileOf n))) := by
  rw [← rowWord_at]
  pointwise [kept]

/-- A tile's word names an expert only where the tile is used. -/
theorem word_iff (T : IVec S72 32) (U : IVec S1 32) (hE : ∀ r : Fin 72, (T (ix1 r)).toNat < 8) (e : Fin 8) (r : Fin 72) :
    IntOp.cmpi .eq (BitVec.ofNat 32 e.val) (tileWord T U (ix1 r)) = 1#1 ↔ used U r ∧ e = Cert.Moe.expert T r := by
  rw [IntOp.cmpi_eq, tileWord_at]
  unfold used
  have he : (BitVec.ofNat 32 e.val).toNat = e.val := (by decide : ∀ e : Fin 8, (BitVec.ofNat 32 e.val).toNat = e.val) e
  have hr : (Cert.Moe.expert T r).val = (T (ix1 r)).toNat := Nat.mod_eq_of_lt (hE r)
  unfold Scalar.select
  split
  · rename_i hu
    refine ⟨fun h => ⟨hu, Fin.ext ?_⟩, fun h => BitVec.eq_of_toNat_eq ?_⟩
    · rw [hr, ← h, he]
    · rw [he, ← hr, h.2]
  · rename_i hu
    refine ⟨fun h => absurd h ((by decide : ∀ e : Fin 8, BitVec.ofNat 32 e.val ≠ 4294967295#32) e), fun h => absurd h.1 hu⟩

theorem gathered_at (b : IVec S8x36864 1) (f : FVec Ideal S8x36864x1024 .f32) (n : Fin 36864) (k : Fin 1024) :
    gathered b f (ix2 n k) = ∑ e : Fin 8, Scalar.select (b (ix2 e n)) (f (ix3 e n k) : EReal) 0 := by
  pointwise [gathered]
  refine Finset.sum_congr rfl fun e _ => congrArg _ ?_
  show (constant (F := Ideal) S_ .f32 0x00000000#32 ix0 : EReal) = 0
  pointwise []

/-- The reference's result at an index. -/
theorem result_at (X : FVec Ideal S36864x1024 .bf16) (T : IVec S72 32) (U : IVec S1 32) (Wg Wu : FVec Ideal S8x1024x3584 .bf16) (Wd : FVec Ideal S8x3584x1024 .bf16)
    (hE : ∀ r : Fin 72, (T (ix1 r)).toNat < 8) (n : Fin 36864) (k : Fin 1024) :
    result X T U Wg Wu Wd (ix2 n k) = routed X T U Wg Wu Wd n k := by
  have hf : ∀ e, (outer (gated (inner X Wg) (inner X Wu)) Wd (ix3 e n k) : EReal) = whole X Wg Wu Wd e n k := by
    intro e
    rw [outer_at]
    unfold whole Cert.Moe.hidden
    refine Finset.sum_congr rfl fun j _ => ?_
    rw [gated_at, inner_at, inner_at]
  unfold result routed
  rw [gathered_at]
  have hs : ∀ e : Fin 8, (Scalar.select (kept T U (ix2 e n)) (outer (gated (inner X Wg) (inner X Wu)) Wd (ix3 e n k) : EReal) 0)
      = if used U (tileOf n) ∧ e = Cert.Moe.expert T (tileOf n) then whole X Wg Wu Wd e n k else 0 := by
    intro e
    rw [kept_at, hf]
    unfold Scalar.select
    exact if_congr (word_iff T U hE e (tileOf n)) rfl rfl
  rw [Finset.sum_congr rfl fun e _ => hs e]
  by_cases hu : used U (tileOf n)
  · rw [if_pos hu, Finset.sum_eq_single (Cert.Moe.expert T (tileOf n)) (fun e _ he => if_neg fun h => he h.2) fun h => absurd (Finset.mem_univ _) h,
      if_pos ⟨hu, rfl⟩]
  · rw [if_neg hu]
    exact Finset.sum_eq_zero fun e _ => if_neg fun h => hu h.1

end Cert.Reference4Ideal.Moe
end
-- ==== Proof.MergeMath.lean ====
/- The merge of the four mixers for one token, and the layer's first residual, in the operations of the ideal values. -/
module

public import proofs.«01_k».proof.Proof.FfnMath

@[expose] public section

noncomputable section

namespace Cert.Merge

open Idealize.ShloMosaic Cert.Ffn

/-- The logistic function as the kernel writes it on half-width values. -/
def gate (g : EReal) : EReal :=
  Ideal.ofBits .bf16 16128#16 + Ideal.ofBits .bf16 16128#16 * Ideal.tanh (Ideal.ofBits .bf16 16128#16 * g)

theorem half_eq : Ideal.ofBits .bf16 16128#16 = Ideal.ofBits .f32 1056964608#32 := by
  rw [Cert.Ffn.half_eq]
  simp [Ideal.ofBits, Ideal.ieee, -EReal.coe_mul]; norm_num

theorem gate_eq (g : EReal) : gate g = Ideal.logistic g := by
  unfold gate
  rw [half_eq]
  exact logistic_eq g

/-- One entry of a row's product with a matrix. -/
def prod {n : ℕ} (v : Fin n → EReal) (W : Fin n → Fin 1024 → EReal) (k : Fin 1024) : EReal := ∑ d, v d * W d k

/-- The call's arguments. -/
structure Call where
  ya : FVec Ideal ⟨3, ![4, 4352, 384]⟩ .bf16
  ybA : FVec Ideal ⟨3, ![4, 4096, 128]⟩ .f32
  ybB : FVec Ideal ⟨3, ![4, 4096, 128]⟩ .f32
  ybC : FVec Ideal ⟨3, ![4, 256, 256]⟩ .bf16
  ycL : FVec Ideal ⟨3, ![4, 4096, 384]⟩ .bf16
  ycC : FVec Ideal ⟨3, ![4, 256, 384]⟩ .bf16
  yd : FVec Ideal ⟨3, ![4, 4352, 256]⟩ .bf16
  pg : FVec Ideal ⟨3, ![4, 4352, 4096]⟩ .bf16
  xC : FVec Ideal ⟨3, ![4, 256, 1024]⟩ .f32
  xL : FVec Ideal ⟨3, ![4, 4096, 1024]⟩ .f32
  mods : FVec Ideal ⟨4, ![4, 2, 6, 1024]⟩ .f32
  wa : FVec Ideal ⟨2, ![384, 1024]⟩ .f32
  wb : FVec Ideal ⟨2, ![256, 1024]⟩ .f32
  wc : FVec Ideal ⟨2, ![384, 1024]⟩ .f32
  wd : FVec Ideal ⟨2, ![256, 1024]⟩ .f32
  wo : FVec Ideal ⟨2, ![1024, 1024]⟩ .f32
  gain : FVec Ideal ⟨1, ![1024]⟩ .f32
  bias : FVec Ideal ⟨1, ![1024]⟩ .f32

/-- Token `s` among the context's, and among the latents'. -/
def ctxTok (s : Fin 4352) : Fin 256 := ⟨s.val % 256, by omega⟩
def latTok (s : Fin 4352) : Fin 4096 := ⟨s.val - 256, by omega⟩
/-- Column `k` of branch `i` of the gates. -/
def gcol (i : Fin 4) (k : Fin 1024) : Fin 4096 := ⟨i.val * 1024 + k.val, by omega⟩
/-- Column `d` of two halves side by side. -/
def side (p q : Fin 128 → EReal) (d : Fin 256) : EReal :=
  if h : d.val < 128 then p ⟨d.val, h⟩ else q ⟨d.val - 128, by omega⟩

/-- The branches of a token, each with its gate, summed. -/
def mergeRow (a : Fin 384 → EReal) (b : Fin 256 → EReal) (c : Fin 384 → EReal) (d : Fin 256 → EReal) (g : Fin 4 → Fin 1024 → EReal)
    (wa : Fin 384 → Fin 1024 → EReal) (wb : Fin 256 → Fin 1024 → EReal) (wc : Fin 384 → Fin 1024 → EReal) (wd : Fin 256 → Fin 1024 → EReal)
    (k : Fin 1024) : EReal :=
  Ideal.logistic (g 0 k) * prod a wa k + Ideal.logistic (g 1 k) * prod b wb k + Ideal.logistic (g 2 k) * prod c wc k + Ideal.logistic (g 3 k) * prod d wd k

namespace Call
variable (A : Call) (B : Fin 4) (s : Fin 4352)
def hyena (d : Fin 256) : EReal :=
  pick s (A.ybC (ix3 B d (ctxTok s))) (side (fun j => A.ybA (ix3 B (latTok s) j)) (fun j => A.ybB (ix3 B (latTok s) j)) d)
def natten (d : Fin 384) : EReal := pick s (A.ycC (ix3 B (ctxTok s) d)) (A.ycL (ix3 B (latTok s) d))
def token (k : Fin 1024) : EReal := pick s (A.xC (ix3 B (ctxTok s) k)) (A.xL (ix3 B (latTok s) k))
def merged : Fin 1024 → EReal :=
  mergeRow (fun d => A.ya (ix3 B s d)) (A.hyena B s) (A.natten B s) (fun d => A.yd (ix3 B s d)) (fun i k => A.pg (ix3 B s (gcol i k)))
    (fun d k => A.wa (ix2 d k)) (fun d k => A.wb (ix2 d k)) (fun d k => A.wc (ix2 d k)) (fun d k => A.wd (ix2 d k))
/-- The residual stream after the merge, and its modulated norm. -/
def out : Fin 1024 → EReal :=
  stream (A.token B s) (modTok A.mods 2 B s) (prod (A.merged B s) fun j k => A.wo (ix2 j k)) (fun j => A.gain (ix1 j)) (fun j => A.bias (ix1 j))
def onward : Fin 1024 → EReal := next (A.out B s) (modTok A.mods 4 B s) (modTok A.mods 3 B s)
end Call

end Cert.Merge
end
-- ==== Proof.MergeBody.lean ====
/- The merge: what one step of the launch leaves, at an index of its blocks. -/
module

public import proofs.«01_k».proof.Proof.Gen.Kernel5Ideal.Value
public import proofs.«01_k».proof.Proof.MergeMath
public import Idealize.ShloMosaic.Lib.Pipeline.ValueKit
public import Idealize.ShloMosaic.Lib.Pipeline.Covers
public import Idealize.ShloMosaic.Lib.IdealHost

@[expose] public section

set_option maxRecDepth 16384

noncomputable section

namespace Cert.Kernel5Ideal.Merge

open Idealize.ShloMosaic Idealize.ShloMosaic.TcCoe Idealize.ShloMosaic.Tactic
open Cert.Kernel5Ideal Cert.Kernel5Ideal.Gen Cert.Ffn Cert.Merge

/-- The first tile of a batch holds the context. -/
theorem first_at : ∀ j : Fin 17, IntOp.cmpi CmpIPredicate.eq (IntOp.addi (BitVec.ofNat 32 j.val) 0#32) 0#32 = if j.val = 0 then 1#1 else 0#1 := by decide +kernel
theorem first_sel {α : Type} (j : Fin 17) (p q : α) :
    Scalar.select (Scalar.cmpi .eq (Scalar.addi (BitVec.ofNat 32 j.val) 0#32) 0#32) p q = if j.val = 0 then p else q := by
  show Scalar.select (IntOp.cmpi CmpIPredicate.eq (IntOp.addi (BitVec.ofNat 32 j.val) 0#32) 0#32) p q = _
  rw [first_at]
  split <;> rfl

theorem pay3_at (x : FVec Ideal S1x256x384 .bf16) (w : FVec Ideal S384x1024 .bf16) (n : Fin 256) (k : Fin 1024) :
    k0_pay3 (F := Ideal) x w (ix2 n k) = prod (fun d => x (ix3 0 n d)) (fun d k => w (ix2 d k)) k := by
  unfold prod
  pointwise [k0_pay3]

theorem pay2_at (i : grid0.Coords) (x y : FVec Ideal S1x256x384 .bf16) (n : Fin 256) (d : Fin 384) :
    k0_pay2 (F := Ideal) i x y (ix2 n d) = if (i 1).val = 0 then y (ix3 0 n d) else x (ix3 0 n d) := by
  rw [← first_sel (i 1)]
  pointwise [k0_pay2]

theorem pay6_at (x : FVec Ideal S256x384 .bf16) (w : FVec Ideal S384x1024 .bf16) (n : Fin 256) (k : Fin 1024) :
    k0_pay6 (F := Ideal) x (k0_pay5 w) (ix2 n k) = prod (fun d => x (ix2 n d)) (fun d k => w (ix2 d k)) k := by
  unfold prod
  pointwise [k0_pay6, k0_pay5]

theorem pay7_at (x : FVec Ideal S1x256x256 .bf16) (w : FVec Ideal S256x1024 .bf16) (n : Fin 256) (k : Fin 1024) :
    k0_pay7 (F := Ideal) x w (ix2 n k) = prod (fun d => x (ix3 0 n d)) (fun d k => w (ix2 d k)) k := by
  unfold prod
  pointwise [k0_pay7]

theorem side_at (x y : FVec Ideal S256x128 .f32) (n d : Fin 256) :
    concatenate S256x256 1 [⟨S256x128, x⟩, ⟨S256x128, y⟩] concatenates_S256x128_S256x128_S256x256_d1 (ix2 n d)
      = side (fun j => x (ix2 n j)) (fun j => y (ix2 n j)) d := by
  pointwise []
  unfold side
  split <;> rfl

theorem pay4_at (i : grid0.Coords) (x y : FVec Ideal S1x256x128 .f32) (z : FVec Ideal S1x256x256 .bf16) (w : FVec Ideal S256x1024 .bf16) (n : Fin 256) (k : Fin 1024) :
    k0_pay4 (F := Ideal) i x y z w (ix2 n k)
      = prod (fun d => if (i 1).val = 0 then z (ix3 0 d n) else side (fun j => x (ix3 0 n j)) (fun j => y (ix3 0 n j)) d) (fun d k => w (ix2 d k)) k := by
  unfold prod
  simp only [← first_sel (i 1)]
  pointwise [k0_pay4]
  refine Eq.trans ?_ (Fin.sum_univ_add (a := 128) (b := 128) _).symm
  refine congrArg₂ (fun a b : EReal => a + b) (Finset.sum_congr rfl fun d _ => ?_) (Finset.sum_congr rfl fun d _ => ?_)
  · have e : side (fun j => x (ix3 0 n j)) (fun j => y (ix3 0 n j)) (Fin.castAdd 128 d) = x (ix3 0 n d) := by
      unfold side
      rw [dif_pos (show (Fin.castAdd 128 d).val < 128 from d.isLt)]
      rfl
    rw [e]
    rfl
  · have e : side (fun j => x (ix3 0 n j)) (fun j => y (ix3 0 n j)) (Fin.natAdd 128 d) = y (ix3 0 n d) := by
      unfold side
      rw [dif_neg (show ¬(Fin.natAdd 128 d).val < 128 from Nat.not_lt.2 (Nat.le_add_right 128 d.val))]
      exact congrArg (fun j => y (ix3 0 n j)) (Fin.ext (show 128 + d.val - 128 = d.val by omega))
    rw [e]
    rfl

theorem pay8_at (p q : FVec Ideal S256x1024 .f32) (g h : FVec Ideal S1x256x1024 .bf16) (n : Fin 256) (k : Fin 1024) :
    k0_pay8 (F := Ideal) p q g h (ix2 n k) = gate (g (ix3 0 n k)) * p (ix2 n k) + gate (h (ix3 0 n k)) * q (ix2 n k) := by
  unfold gate
  pointwise [k0_pay8]

theorem pay11_at (i : grid0.Coords) (p q r : FVec Ideal S256x1024 .f32) (g h : FVec Ideal S1x256x1024 .bf16) (w : FVec Ideal S1024x1024 .bf16)
    (e : FVec Ideal S1x1x6x1024 .f32) (x y : FVec Ideal S1x256x1024 .f32) (n : Fin 256) (k : Fin 1024) :
    k0_pay11 (F := Ideal) (Scalar.addi (BitVec.ofNat 32 (i 1).val) 0#32) p q r (k0_pay9 g) h w e x y (ix2 n k)
      = Ideal.ofBits .f32 1068827891#32 * (if (i 1).val = 0 then y (ix3 0 n k) else x (ix3 0 n k))
        + e (ix4 0 0 2 k) * prod (fun j => r (ix2 n j) + gate (g (ix3 0 n j)) * p (ix2 n j) + gate (h (ix3 0 n j)) * q (ix2 n j)) (fun j k => w (ix2 j k)) k := by
  unfold prod gate
  rw [← first_sel (i 1)]
  pointwise [k0_pay11, k0_pay9, k0_pay10]

theorem pay12_at (a : BitVec 32) (p q r : FVec Ideal S256x1024 .f32) (g : FVec Ideal S256x1024 .bf16) (h : FVec Ideal S1x256x1024 .bf16) (w : FVec Ideal S1024x1024 .bf16)
    (e : FVec Ideal S1x1x6x1024 .f32) (x y : FVec Ideal S1x256x1024 .f32) (n : Fin 256) :
    k0_pay12 (F := Ideal) a p q r g h w e x y (ix2 n 0) = ∑ j : Fin 1024, (k0_pay11 (F := Ideal) a p q r g h w e x y (ix2 n j) : EReal) := by
  pointwise [k0_pay12]

theorem pay13_at (z : FVec Ideal S256x1024 .f32) (s : FVec Ideal S256x1 .f32) (g b : FVec Ideal S1x1024 .f32) (n : Fin 256) (k : Fin 1024)
    (hs : s (ix2 n 0) = ∑ j : Fin 1024, (z (ix2 n j) : EReal)) :
    k0_pay13 (F := Ideal) z s g b (ix2 n k) = rowNorm (fun j => (z (ix2 n j) : EReal)) k * g (ix2 0 k) + b (ix2 0 k) := by
  unfold rowNorm rowMean
  pointwise [k0_pay13, hs]

theorem pay14_at (z : FVec Ideal S256x1024 .f32) (s : FVec Ideal S256x1 .f32) (g b : FVec Ideal S1x1024 .f32) (n : Fin 256) (k : Fin 1024) :
    k0_pay14 (F := Ideal) z s g b (ix3 0 n k) = k0_pay13 (F := Ideal) z s g b (ix2 n k) := by
  pointwise [k0_pay14]

theorem pay15_at (z : FVec Ideal S256x1024 .f32) (s : FVec Ideal S256x1 .f32) (g b : FVec Ideal S1x1024 .f32) (n : Fin 256) (k : Fin 1024) :
    k0_pay15 (F := Ideal) z s g b (ix2 n k) = rowNorm (fun j => (k0_pay13 (F := Ideal) z s g b (ix2 n j) : EReal)) k := by
  unfold rowNorm rowMean
  pointwise [k0_pay15]

theorem pay1_at (e : FVec Ideal S1x1x6x1024 .f32) (z : FVec Ideal S256x1024 .f32) (n : Fin 256) (k : Fin 1024) :
    k0_pay1 (F := Ideal) (k0_pay10 e) z (k0_pay16 (k0_pay10 e)) (Scalar.ofBits .f32 0x3F800000#32) (ix3 0 n k)
      = (z (ix2 n k) : EReal) * (1 + e (ix4 0 0 4 k)) + e (ix4 0 0 3 k) := by
  pointwise [k0_pay1, k0_pay10, k0_pay16]

theorem zero2 : (![0, 0] : Fin 2 → ℕ) = fun _ => 0 := by decide
theorem zero3 : (![0, 0, 0] : Fin 3 → ℕ) = fun _ => 0 := by decide
theorem zero4 : (![0, 0, 0, 0] : Fin 4 → ℕ) = fun _ => 0 := by decide
/-- The columns of branch `e` of a block of gates. -/
theorem gates_at (x : FVec Ideal S1x256x4096 .bf16) (e : Fin 4) (o : ℕ) (ho : o = e.val * 1024) (h) (n : Fin 256) (k : Fin 1024) :
    View.ld (Val := Elt Ideal) (e' := .bf16) x (Rect.unit ![0, 0, o] S1x256x1024.size h) (ix3 (0 : Fin 1) n k) = x (ix3 (0 : Fin 1) n (gcol e k)) := by
  subst ho
  refine View.ld_unit_apply_of _ _ _ _ _ _ fun a => ?_
  match a with
  | ⟨0, _⟩ => rfl
  | ⟨1, _⟩ => exact (Nat.zero_add _).symm
  | ⟨2, _⟩ => rfl

section
variable (i : grid0.Coords) (x0 : Vec Ideal S1x256x384 .bf16) (x1 x2 : Vec Ideal S1x256x128 .f32) (x3 : Vec Ideal S1x256x256 .bf16) (x4 x5 : Vec Ideal S1x256x384 .bf16)
  (x6 : Vec Ideal S1x256x256 .bf16) (x7 : Vec Ideal S1x256x4096 .bf16) (x8 x9 : Vec Ideal S1x256x1024 .f32) (x10 : Vec Ideal S1x1x6x1024 .f32)
  (x11 : Vec Ideal S384x1024 .bf16) (x12 : Vec Ideal S256x1024 .bf16) (x13 : Vec Ideal S384x1024 .bf16) (x14 : Vec Ideal S256x1024 .bf16)
  (x15 : Vec Ideal S1024x1024 .bf16) (x16 x17 : Vec Ideal S1x1024 .f32)

/-- The merge of a token, and the stream after it, from a step's blocks. -/
def mergeBlk (n : Fin 256) : Fin 1024 → EReal :=
  mergeRow (fun d => x0 (ix3 0 n d)) (fun d => if (i 1).val = 0 then x3 (ix3 0 d n) else side (fun j => x1 (ix3 0 n j)) (fun j => x2 (ix3 0 n j)) d)
    (fun d => if (i 1).val = 0 then x5 (ix3 0 n d) else x4 (ix3 0 n d)) (fun d => x6 (ix3 0 n d)) (fun e k => x7 (ix3 0 n (gcol e k)))
    (fun d k => x11 (ix2 d k)) (fun d k => x12 (ix2 d k)) (fun d k => x13 (ix2 d k)) (fun d k => x14 (ix2 d k))
def streamBlk (n : Fin 256) : Fin 1024 → EReal :=
  stream (fun k => if (i 1).val = 0 then x8 (ix3 0 n k) else x9 (ix3 0 n k)) (fun k => x10 (ix4 0 0 2 k))
    (prod (mergeBlk i x0 x1 x2 x3 x4 x5 x6 x7 x11 x12 x13 x14 n) fun j k => x15 (ix2 j k)) (fun k => x16 (ix2 0 k)) (fun k => x17 (ix2 0 k))

/-- The residual before its layer norm, from a step's blocks. -/
theorem residual_at (n : Fin 256) (k : Fin 1024) :
    k0_pay22 (F := Ideal) i x0 x1 x2 x3 x4 x5 x6 x7 x8 x9 x10 x11 x12 x13 x14 x15 x16 x17 (ix2 n k)
      = Ideal.ofBits .f32 1068827891#32 * (if (i 1).val = 0 then x8 (ix3 0 n k) else x9 (ix3 0 n k))
        + x10 (ix4 0 0 2 k) * prod (mergeBlk i x0 x1 x2 x3 x4 x5 x6 x7 x11 x12 x13 x14 n) (fun j k => x15 (ix2 j k)) k := by
  unfold k0_pay22 k0_pay20 k0_pay19 k0_pay18 k0_pay17
  refine (pay11_at i _ _ _ _ _ _ _ _ _ n k).trans ?_
  unfold mergeBlk mergeRow
  simp only [View.ld_unit_zero (S := S256x1024) zero2, View.ld_unit_zero (S := S384x1024) zero2, View.ld_unit_zero (S := S1x256x128) zero3,
    View.ld_unit_zero (S := S1x256x384) zero3, View.ld_unit_zero (S := S1x256x256) zero3,  pay8_at, pay3_at, pay4_at, pay6_at, pay2_at, pay7_at, gate_eq,
    gates_at x7 0 0 rfl, gates_at x7 1 1024 rfl, gates_at x7 2 2048 rfl, gates_at x7 3 3072 rfl]
  rw [show View.ld x8 r0_11 = x8 from View.ld_unit_zero zero3 _ _, show View.ld x9 r0_11 = x9 from View.ld_unit_zero zero3 _ _,
    show View.ld x10 r0_10 = x10 from View.ld_unit_zero zero4 _ _, show View.ld x15 r0_9 = x15 from View.ld_unit_zero zero2 _ _]

theorem sum_at (n : Fin 256) :
    k0_pay23 (F := Ideal) i x0 x1 x2 x3 x4 x5 x6 x7 x8 x9 x10 x11 x12 x13 x14 x15 x16 x17 (ix2 n 0)
      = ∑ j : Fin 1024, (k0_pay22 (F := Ideal) i x0 x1 x2 x3 x4 x5 x6 x7 x8 x9 x10 x11 x12 x13 x14 x15 x16 x17 (ix2 n j) : EReal) := by
  unfold k0_pay23 k0_pay22
  exact pay12_at _ _ _ _ _ _ _ _ _ _ n

theorem pay13_blk (n : Fin 256) (k : Fin 1024) :
    k0_pay13 (F := Ideal) (k0_pay22 (F := Ideal) i x0 x1 x2 x3 x4 x5 x6 x7 x8 x9 x10 x11 x12 x13 x14 x15 x16 x17)
        (k0_pay23 (F := Ideal) i x0 x1 x2 x3 x4 x5 x6 x7 x8 x9 x10 x11 x12 x13 x14 x15 x16 x17) x16 x17 (ix2 n k)
      = streamBlk i x0 x1 x2 x3 x4 x5 x6 x7 x8 x9 x10 x11 x12 x13 x14 x15 x16 x17 n k := by
  rw [pay13_at _ _ _ _ n k (sum_at i x0 x1 x2 x3 x4 x5 x6 x7 x8 x9 x10 x11 x12 x13 x14 x15 x16 x17 n)]
  unfold streamBlk stream
  simp only [residual_at]

theorem out18_at (n : Fin 256) (k : Fin 1024) :
    out0_18 (F := Ideal) i x0 x1 x2 x3 x4 x5 x6 x7 x8 x9 x10 x11 x12 x13 x14 x15 x16 x17 (ix3 0 n k)
      = streamBlk i x0 x1 x2 x3 x4 x5 x6 x7 x8 x9 x10 x11 x12 x13 x14 x15 x16 x17 n k := by
  frame_out
  rw [pay14_at]
  exact pay13_blk i x0 x1 x2 x3 x4 x5 x6 x7 x8 x9 x10 x11 x12 x13 x14 x15 x16 x17 n k

theorem out19_at (n : Fin 256) (k : Fin 1024) :
    out0_19 (F := Ideal) i x0 x1 x2 x3 x4 x5 x6 x7 x8 x9 x10 x11 x12 x13 x14 x15 x16 x17 (ix3 0 n k)
      = next (streamBlk i x0 x1 x2 x3 x4 x5 x6 x7 x8 x9 x10 x11 x12 x13 x14 x15 x16 x17 n) (fun k => x10 (ix4 0 0 4 k)) (fun k => x10 (ix4 0 0 3 k)) k := by
  frame_out
  unfold k0_pay21
  rw [View.ld_unit_zero (by decide)]
  refine (pay1_at _ _ n k).trans ?_
  rw [pay15_at]
  unfold next
  simp only [pay13_blk]
end
end Cert.Kernel5Ideal.Merge
end
-- ==== Proof.MergeBlock.lean ====
/- The merge: the launch's blocks as entries of the arguments, and what a step leaves. -/
module

public import proofs.«01_k».proof.Proof.MergeBody

@[expose] public section

set_option maxRecDepth 16384

noncomputable section

namespace Cert.Kernel5Ideal.Merge

open Idealize.ShloMosaic Idealize.ShloMosaic.TcCoe Idealize.ShloMosaic.Tactic
open Cert.Kernel5Ideal Cert.Kernel5Ideal.Gen Cert.Ffn Cert.Merge

variable (m : (ℓ : Loc nD τ sig) → Buf (Elt Ideal) ℓ)

/-- The batch of a step, and row `n` of its block among the batch's tokens and among the latents. -/
def bat (t : Fin cfg0.N) : Fin 4 := ⟨t.val / 17, by have := lt_of_lt_of_eq t.isLt (show cfg0.N = 68 from N_0); omega⟩
def tok (t : Fin cfg0.N) (n : Fin 256) : Fin 4352 := ⟨t.val % 17 * 256 + n.val, by omega⟩
def lat (t : Fin cfg0.N) (n : Fin 256) : Fin 4096 := ⟨(t.val % 17 - 1) * 256 + n.val, by omega⟩
/-- The kind of modulation of a step. -/
def kind (t : Fin cfg0.N) : Fin 2 := ⟨min (t.val % 17) 1, by omega⟩

theorem coord1_at (t : Fin cfg0.N) : (grid0.coords t 1).val = t.val % 17 :=
  (by decide +kernel : ∀ t : Fin grid0.N, (grid0.coords t 1).val = t.val % 17) t
theorem map0_at : ∀ t : Fin grid0.N, cc0_transform_0 (grid0.coords t) = ![t.val / 17, t.val % 17, 0] := by decide +kernel
theorem map1_at : ∀ t : Fin grid0.N, cc0_transform_1 (grid0.coords t) = ![t.val / 17, t.val % 17 - 1, 0] := by decide +kernel
theorem map2_at : ∀ t : Fin grid0.N, cc0_transform_2 (grid0.coords t) = ![t.val / 17, t.val % 17 - 1, 0] := by decide +kernel
theorem map3_at : ∀ t : Fin grid0.N, cc0_transform_3 (grid0.coords t) = ![t.val / 17, 0, 0] := by decide +kernel
theorem map4_at : ∀ t : Fin grid0.N, cc0_transform_4 (grid0.coords t) = ![t.val / 17, t.val % 17 - 1, 0] := by decide +kernel
theorem map5_at : ∀ t : Fin grid0.N, cc0_transform_5 (grid0.coords t) = ![t.val / 17, 0, 0] := by decide +kernel
theorem map6_at : ∀ t : Fin grid0.N, cc0_transform_6 (grid0.coords t) = ![t.val / 17, t.val % 17, 0] := by decide +kernel
theorem map7_at : ∀ t : Fin grid0.N, cc0_transform_7 (grid0.coords t) = ![t.val / 17, t.val % 17, 0] := by decide +kernel
theorem map8_at : ∀ t : Fin grid0.N, cc0_transform_8 (grid0.coords t) = ![t.val / 17, 0, 0] := by decide +kernel
theorem map9_at : ∀ t : Fin grid0.N, cc0_transform_9 (grid0.coords t) = ![t.val / 17, t.val % 17 - 1, 0] := by decide +kernel
theorem map10_at : ∀ t : Fin grid0.N, cc0_transform_10 (grid0.coords t) = ![t.val / 17, min (t.val % 17) 1, 0, 0] := by decide +kernel
theorem map11_at : ∀ t : Fin grid0.N, cc0_transform_11 (grid0.coords t) = ![0, 0] := by decide +kernel
theorem map12_at : ∀ t : Fin grid0.N, cc0_transform_12 (grid0.coords t) = ![0, 0] := by decide +kernel
theorem map13_at : ∀ t : Fin grid0.N, cc0_transform_13 (grid0.coords t) = ![0, 0] := by decide +kernel
theorem map14_at : ∀ t : Fin grid0.N, cc0_transform_14 (grid0.coords t) = ![0, 0] := by decide +kernel
theorem map15_at : ∀ t : Fin grid0.N, cc0_transform_15 (grid0.coords t) = ![0, 0] := by decide +kernel
theorem map16_at : ∀ t : Fin grid0.N, cc0_transform_16 (grid0.coords t) = ![0, 0] := by decide +kernel
theorem map17_at : ∀ t : Fin grid0.N, cc0_transform_17 (grid0.coords t) = ![0, 0] := by decide +kernel
theorem map18_at : ∀ t : Fin grid0.N, cc0_transform_18 (grid0.coords t) = ![t.val / 17, t.val % 17, 0] := by decide +kernel
theorem map19_at : ∀ t : Fin grid0.N, cc0_transform_19 (grid0.coords t) = ![t.val / 17, t.val % 17, 0] := by decide +kernel

/-- An entry of a block is the array's entry at the block's offset plus the entry's place in it. -/
theorem emb_eq {G : Pipeline.Grid} (w : Pipeline.Window sig G) (t : Fin G.N) (hk : w.kind = .blocked) (M : Fin w.shape.rank → ℕ)
    (hM : w.index t = M) (y : (w.xblock (G.coords t)).Idx) (z : w.shape.Idx) (h : ∀ a, (z a : ℕ) = M a * w.size a + y a) : (w.rect t).emb y = z :=
  funext fun a => Fin.ext ((Pipeline.Window.rect_emb_val w t y a hk).trans (by rw [h a, hM]))

theorem unit_row (x : ℕ) : x = x * 1 + 0 := by omega
theorem zero_row (s x : ℕ) : x = 0 * s + x := by omega
theorem line_at (x : FVec Ideal S1024 .f32) (k : Fin 1024) : shapeCast S1x1024 x shapeCasts_S1024_S1x1024 (ix2 (0 : Fin 1) k) = x (ix1 k) := by pointwise

theorem ya_blk (c : Dev nD) (t : Fin cfg0.N) (n : Fin 256) (d : Fin 384) :
    iblk m c 0 t (ix3 (0 : Fin 1) n d) = m ((c.tc : Thread nD τ).loc main_arg0) (ix3 (bat t) (tok t n) d) := by
  refine (congrArg (V m c main_arg0) (emb_eq (cfg0.win 0) t rfl _ (map0_at t) _ (ix3 (bat t) (tok t n) d) fun a => ?_)).trans (congrFun (V_main_arg0 m c) _)
  match a with
  | ⟨0, _⟩ => exact unit_row _
  | ⟨1, _⟩ => exact rfl
  | ⟨2, _⟩ => exact zero_row _ _

theorem ybA_blk (c : Dev nD) (t : Fin cfg0.N) (n : Fin 256) (d : Fin 128) :
    iblk m c 1 t (ix3 (0 : Fin 1) n d) = m ((c.tc : Thread nD τ).loc main_arg1) (ix3 (bat t) (lat t n) d) := by
  refine (congrArg (V m c main_arg1) (emb_eq (cfg0.win 1) t rfl _ (map1_at t) _ (ix3 (bat t) (lat t n) d) fun a => ?_)).trans (congrFun (V_main_arg1 m c) _)
  match a with
  | ⟨0, _⟩ => exact unit_row _
  | ⟨1, _⟩ => exact rfl
  | ⟨2, _⟩ => exact zero_row _ _

theorem ybB_blk (c : Dev nD) (t : Fin cfg0.N) (n : Fin 256) (d : Fin 128) :
    iblk m c 2 t (ix3 (0 : Fin 1) n d) = m ((c.tc : Thread nD τ).loc main_arg2) (ix3 (bat t) (lat t n) d) := by
  refine (congrArg (V m c main_arg2) (emb_eq (cfg0.win 2) t rfl _ (map2_at t) _ (ix3 (bat t) (lat t n) d) fun a => ?_)).trans (congrFun (V_main_arg2 m c) _)
  match a with
  | ⟨0, _⟩ => exact unit_row _
  | ⟨1, _⟩ => exact rfl
  | ⟨2, _⟩ => exact zero_row _ _

theorem ybC_blk (c : Dev nD) (t : Fin cfg0.N) (n : Fin 256) (d : Fin 256) :
    iblk m c 3 t (ix3 (0 : Fin 1) n d) = m ((c.tc : Thread nD τ).loc main_arg3) (ix3 (bat t) n d) := by
  refine (congrArg (V m c main_arg3) (emb_eq (cfg0.win 3) t rfl _ (map3_at t) _ (ix3 (bat t) n d) fun a => ?_)).trans (congrFun (V_main_arg3 m c) _)
  match a with
  | ⟨0, _⟩ => exact unit_row _
  | ⟨1, _⟩ => exact zero_row _ _
  | ⟨2, _⟩ => exact zero_row _ _

theorem ycL_blk (c : Dev nD) (t : Fin cfg0.N) (n : Fin 256) (d : Fin 384) :
    iblk m c 4 t (ix3 (0 : Fin 1) n d) = m ((c.tc : Thread nD τ).loc main_arg4) (ix3 (bat t) (lat t n) d) := by
  refine (congrArg (V m c main_arg4) (emb_eq (cfg0.win 4) t rfl _ (map4_at t) _ (ix3 (bat t) (lat t n) d) fun a => ?_)).trans (congrFun (V_main_arg4 m c) _)
  match a with
  | ⟨0, _⟩ => exact unit_row _
  | ⟨1, _⟩ => exact rfl
  | ⟨2, _⟩ => exact zero_row _ _

theorem ycC_blk (c : Dev nD) (t : Fin cfg0.N) (n : Fin 256) (d : Fin 384) :
    iblk m c 5 t (ix3 (0 : Fin 1) n d) = m ((c.tc : Thread nD τ).loc main_arg5) (ix3 (bat t) n d) := by
  refine (congrArg (V m c main_arg5) (emb_eq (cfg0.win 5) t rfl _ (map5_at t) _ (ix3 (bat t) n d) fun a => ?_)).trans (congrFun (V_main_arg5 m c) _)
  match a with
  | ⟨0, _⟩ => exact unit_row _
  | ⟨1, _⟩ => exact zero_row _ _
  | ⟨2, _⟩ => exact zero_row _ _

theorem yd_blk (c : Dev nD) (t : Fin cfg0.N) (n : Fin 256) (d : Fin 256) :
    iblk m c 6 t (ix3 (0 : Fin 1) n d) = m ((c.tc : Thread nD τ).loc main_arg6) (ix3 (bat t) (tok t n) d) := by
  refine (congrArg (V m c main_arg6) (emb_eq (cfg0.win 6) t rfl _ (map6_at t) _ (ix3 (bat t) (tok t n) d) fun a => ?_)).trans (congrFun (V_main_arg6 m c) _)
  match a with
  | ⟨0, _⟩ => exact unit_row _
  | ⟨1, _⟩ => exact rfl
  | ⟨2, _⟩ => exact zero_row _ _

theorem pg_blk (c : Dev nD) (t : Fin cfg0.N) (n : Fin 256) (d : Fin 4096) :
    iblk m c 7 t (ix3 (0 : Fin 1) n d) = m ((c.tc : Thread nD τ).loc main_arg7) (ix3 (bat t) (tok t n) d) := by
  refine (congrArg (V m c main_arg7) (emb_eq (cfg0.win 7) t rfl _ (map7_at t) _ (ix3 (bat t) (tok t n) d) fun a => ?_)).trans (congrFun (V_main_arg7 m c) _)
  match a with
  | ⟨0, _⟩ => exact unit_row _
  | ⟨1, _⟩ => exact rfl
  | ⟨2, _⟩ => exact zero_row _ _

theorem xC_blk (c : Dev nD) (t : Fin cfg0.N) (n : Fin 256) (d : Fin 1024) :
    iblk m c 8 t (ix3 (0 : Fin 1) n d) = m ((c.tc : Thread nD τ).loc main_arg8) (ix3 (bat t) n d) := by
  refine (congrArg (V m c main_arg8) (emb_eq (cfg0.win 8) t rfl _ (map8_at t) _ (ix3 (bat t) n d) fun a => ?_)).trans (congrFun (V_main_arg8 m c) _)
  match a with
  | ⟨0, _⟩ => exact unit_row _
  | ⟨1, _⟩ => exact zero_row _ _
  | ⟨2, _⟩ => exact zero_row _ _

theorem xL_blk (c : Dev nD) (t : Fin cfg0.N) (n : Fin 256) (d : Fin 1024) :
    iblk m c 9 t (ix3 (0 : Fin 1) n d) = m ((c.tc : Thread nD τ).loc main_arg9) (ix3 (bat t) (lat t n) d) := by
  refine (congrArg (V m c main_arg9) (emb_eq (cfg0.win 9) t rfl _ (map9_at t) _ (ix3 (bat t) (lat t n) d) fun a => ?_)).trans (congrFun (V_main_arg9 m c) _)
  match a with
  | ⟨0, _⟩ => exact unit_row _
  | ⟨1, _⟩ => exact rfl
  | ⟨2, _⟩ => exact zero_row _ _

theorem mods_blk (c : Dev nD) (t : Fin cfg0.N) (e : Fin 6) (k : Fin 1024) :
    iblk m c 10 t (ix4 (0 : Fin 1) (0 : Fin 1) e k) = m ((c.tc : Thread nD τ).loc main_arg10) (ix4 (bat t) (kind t) e k) := by
  refine (congrArg (V m c main_arg10) (emb_eq (cfg0.win 10) t rfl _ (map10_at t) _ (ix4 (bat t) (kind t) e k) fun a => ?_)).trans (congrFun (V_main_arg10 m c) _)
  match a with
  | ⟨0, _⟩ => exact unit_row _
  | ⟨1, _⟩ => exact unit_row _
  | ⟨2, _⟩ => exact zero_row _ _
  | ⟨3, _⟩ => exact zero_row _ _

theorem V_wa (c : Dev nD) : V m c main_v0 = truncf (F := Ideal) .bf16 (m ((c.tc : Thread nD τ).loc main_arg11)) bitsLt_bf16_f32 := by
  unfold_abbrev_sides
  after_results
theorem wa_blk (c : Dev nD) (t : Fin cfg0.N) (n : Fin 384) (d : Fin 1024) :
    iblk m c 11 t (ix2 n d) = m ((c.tc : Thread nD τ).loc main_arg11) (ix2 n d) := by
  refine (congrArg (V m c main_v0) (emb_eq (cfg0.win 11) t rfl _ (map11_at t) _ (ix2 n d) fun a => ?_)).trans (congrFun (V_wa m c) _)
  match a with
  | ⟨0, _⟩ => exact zero_row _ _
  | ⟨1, _⟩ => exact zero_row _ _

theorem V_wb (c : Dev nD) : V m c main_v1 = truncf (F := Ideal) .bf16 (m ((c.tc : Thread nD τ).loc main_arg12)) bitsLt_bf16_f32 := by
  unfold_abbrev_sides
  after_results
theorem wb_blk (c : Dev nD) (t : Fin cfg0.N) (n : Fin 256) (d : Fin 1024) :
    iblk m c 12 t (ix2 n d) = m ((c.tc : Thread nD τ).loc main_arg12) (ix2 n d) := by
  refine (congrArg (V m c main_v1) (emb_eq (cfg0.win 12) t rfl _ (map12_at t) _ (ix2 n d) fun a => ?_)).trans (congrFun (V_wb m c) _)
  match a with
  | ⟨0, _⟩ => exact zero_row _ _
  | ⟨1, _⟩ => exact zero_row _ _

theorem V_wc (c : Dev nD) : V m c main_v2 = truncf (F := Ideal) .bf16 (m ((c.tc : Thread nD τ).loc main_arg13)) bitsLt_bf16_f32 := by
  unfold_abbrev_sides
  after_results
theorem wc_blk (c : Dev nD) (t : Fin cfg0.N) (n : Fin 384) (d : Fin 1024) :
    iblk m c 13 t (ix2 n d) = m ((c.tc : Thread nD τ).loc main_arg13) (ix2 n d) := by
  refine (congrArg (V m c main_v2) (emb_eq (cfg0.win 13) t rfl _ (map13_at t) _ (ix2 n d) fun a => ?_)).trans (congrFun (V_wc m c) _)
  match a with
  | ⟨0, _⟩ => exact zero_row _ _
  | ⟨1, _⟩ => exact zero_row _ _

theorem V_wd (c : Dev nD) : V m c main_v3 = truncf (F := Ideal) .bf16 (m ((c.tc : Thread nD τ).loc main_arg14)) bitsLt_bf16_f32 := by
  unfold_abbrev_sides
  after_results
theorem wd_blk (c : Dev nD) (t : Fin cfg0.N) (n : Fin 256) (d : Fin 1024) :
    iblk m c 14 t (ix2 n d) = m ((c.tc : Thread nD τ).loc main_arg14) (ix2 n d) := by
  refine (congrArg (V m c main_v3) (emb_eq (cfg0.win 14) t rfl _ (map14_at t) _ (ix2 n d) fun a => ?_)).trans (congrFun (V_wd m c) _)
  match a with
  | ⟨0, _⟩ => exact zero_row _ _
  | ⟨1, _⟩ => exact zero_row _ _

theorem V_wo (c : Dev nD) : V m c main_v4 = truncf (F := Ideal) .bf16 (m ((c.tc : Thread nD τ).loc main_arg15)) bitsLt_bf16_f32 := by
  unfold_abbrev_sides
  after_results
theorem wo_blk (c : Dev nD) (t : Fin cfg0.N) (n : Fin 1024) (d : Fin 1024) :
    iblk m c 15 t (ix2 n d) = m ((c.tc : Thread nD τ).loc main_arg15) (ix2 n d) := by
  refine (congrArg (V m c main_v4) (emb_eq (cfg0.win 15) t rfl _ (map15_at t) _ (ix2 n d) fun a => ?_)).trans (congrFun (V_wo m c) _)
  match a with
  | ⟨0, _⟩ => exact zero_row _ _
  | ⟨1, _⟩ => exact zero_row _ _

theorem V_gain (c : Dev nD) : V m c main_v5 = shapeCast S1x1024 (m ((c.tc : Thread nD τ).loc main_arg16)) shapeCasts_S1024_S1x1024 := by
  unfold_abbrev_sides
  after_results
  rfl
theorem gain_blk (c : Dev nD) (t : Fin cfg0.N) (d : Fin 1024) :
    iblk m c 16 t (ix2 (0 : Fin 1) d) = m ((c.tc : Thread nD τ).loc main_arg16) (ix1 d) := by
  refine (congrArg (V m c main_v5) (emb_eq (cfg0.win 16) t rfl _ (map16_at t) _ (ix2 (0 : Fin 1) d) fun a => ?_)).trans
    ((congrFun (V_gain m c) _).trans (line_at _ d))
  match a with
  | ⟨0, _⟩ => exact zero_row _ _
  | ⟨1, _⟩ => exact zero_row _ _

theorem V_bias (c : Dev nD) : V m c main_v6 = shapeCast S1x1024 (m ((c.tc : Thread nD τ).loc main_arg17)) shapeCasts_S1024_S1x1024 := by
  unfold_abbrev_sides
  after_results
  rfl
theorem bias_blk (c : Dev nD) (t : Fin cfg0.N) (d : Fin 1024) :
    iblk m c 17 t (ix2 (0 : Fin 1) d) = m ((c.tc : Thread nD τ).loc main_arg17) (ix1 d) := by
  refine (congrArg (V m c main_v6) (emb_eq (cfg0.win 17) t rfl _ (map17_at t) _ (ix2 (0 : Fin 1) d) fun a => ?_)).trans
    ((congrFun (V_bias m c) _).trans (line_at _ d))
  match a with
  | ⟨0, _⟩ => exact zero_row _ _
  | ⟨1, _⟩ => exact zero_row _ _

/-- The call, from the launch's arguments. -/
def call (c : Dev nD) : Call :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15), m ((c.tc : Thread nD τ).loc main_arg16), m ((c.tc : Thread nD τ).loc main_arg17)⟩

theorem pick_tok (t : Fin cfg0.N) (n : Fin 256) (p q : EReal) : pick (tok t n) p q = if t.val % 17 = 0 then p else q := by
  unfold pick tok
  by_cases h : t.val % 17 = 0
  · rw [if_pos h, if_pos (show t.val % 17 * 256 + n.val < 256 by omega)]
  · rw [if_neg h, if_neg (show ¬t.val % 17 * 256 + n.val < 256 by omega)]

/-- A block chosen by its tile is the token's choice between the context and the latents. -/
theorem choice (t : Fin cfg0.N) (n : Fin 256) (f : Fin 256 → EReal) (g : Fin 4096 → EReal) :
    (if (grid0.coords t 1).val = 0 then f n else g (lat t n)) = pick (tok t n) (f (ctxTok (tok t n))) (g (latTok (tok t n))) := by
  rw [pick_tok, coord1_at]
  by_cases h : t.val % 17 = 0
  · rw [if_pos h, if_pos h]
    exact congrArg f (Fin.ext (show n.val = (t.val % 17 * 256 + n.val) % 256 by omega))
  · rw [if_neg h, if_neg h]
    exact congrArg g (Fin.ext (show (t.val % 17 - 1) * 256 + n.val = t.val % 17 * 256 + n.val - 256 by omega))

theorem mods_at (c : Dev nD) (t : Fin cfg0.N) (n : Fin 256) (e : Fin 6) (k : Fin 1024) :
    iblk m c 10 t (ix4 (0 : Fin 1) (0 : Fin 1) e k) = modTok (m ((c.tc : Thread nD τ).loc main_arg10)) e (bat t) (tok t n) k := by
  rw [mods_blk]
  unfold modTok
  rw [pick_tok]
  by_cases h : t.val % 17 = 0
  · rw [if_pos h, show kind t = 0 from Fin.ext (show min (t.val % 17) 1 = 0 by omega)]
  · rw [if_neg h, show kind t = 1 from Fin.ext (show min (t.val % 17) 1 = 1 by omega)]

theorem merge_at (c : Dev nD) (t : Fin cfg0.N) (n : Fin 256) :
    mergeBlk (grid0.coords t) (iblk m c 0 t) (iblk m c 1 t) (iblk m c 2 t) (iblk m c 3 t) (iblk m c 4 t) (iblk m c 5 t) (iblk m c 6 t) (iblk m c 7 t)
      (iblk m c 11 t) (iblk m c 12 t) (iblk m c 13 t) (iblk m c 14 t) n = (call m c).merged (bat t) (tok t n) := by
  unfold mergeBlk Call.merged
  congr 1
  · exact funext fun d => ya_blk m c t n d
  · funext d
    refine Eq.trans ?_ (choice t n (fun r => m ((c.tc : Thread nD τ).loc main_arg3) (ix3 (bat t) d r))
      (fun r => side (fun j => m ((c.tc : Thread nD τ).loc main_arg1) (ix3 (bat t) r j)) (fun j => m ((c.tc : Thread nD τ).loc main_arg2) (ix3 (bat t) r j)) d))
    exact if_congr Iff.rfl (ybC_blk m c t d n) (congrArg₂ (fun p q => side p q d) (funext fun j => ybA_blk m c t n j) (funext fun j => ybB_blk m c t n j))
  · funext d
    refine Eq.trans ?_ (choice t n (fun r => m ((c.tc : Thread nD τ).loc main_arg5) (ix3 (bat t) r d)) (fun r => m ((c.tc : Thread nD τ).loc main_arg4) (ix3 (bat t) r d)))
    exact if_congr Iff.rfl (ycC_blk m c t n d) (ycL_blk m c t n d)
  · exact funext fun d => yd_blk m c t n d
  · exact funext fun e => funext fun k => pg_blk m c t n (gcol e k)
  · exact funext fun d => funext fun k => wa_blk m c t d k
  · exact funext fun d => funext fun k => wb_blk m c t d k
  · exact funext fun d => funext fun k => wc_blk m c t d k
  · exact funext fun d => funext fun k => wd_blk m c t d k

theorem stream_at (c : Dev nD) (t : Fin cfg0.N) (n : Fin 256) :
    streamBlk (grid0.coords t) (iblk m c 0 t) (iblk m c 1 t) (iblk m c 2 t) (iblk m c 3 t) (iblk m c 4 t) (iblk m c 5 t) (iblk m c 6 t) (iblk m c 7 t) (iblk m c 8 t) (iblk m c 9 t)
      (iblk m c 10 t) (iblk m c 11 t) (iblk m c 12 t) (iblk m c 13 t) (iblk m c 14 t) (iblk m c 15 t) (iblk m c 16 t) (iblk m c 17 t) n
      = (call m c).out (bat t) (tok t n) := by
  unfold streamBlk Call.out
  rw [merge_at]
  congr 1
  · funext k
    refine Eq.trans ?_ (choice t n (fun r => m ((c.tc : Thread nD τ).loc main_arg8) (ix3 (bat t) r k)) (fun r => m ((c.tc : Thread nD τ).loc main_arg9) (ix3 (bat t) r k)))
    exact if_congr Iff.rfl (xC_blk m c t n k) (xL_blk m c t n k)
  · exact funext fun k => mods_at m c t n 2 k
  · exact congrArg (prod _) (funext fun j => funext fun k => wo_blk m c t j k)
  · exact funext fun k => gain_blk m c t k
  · exact funext fun k => bias_blk m c t k

/-- The blocks that a step leaves: the stream, and its modulated norm. -/
theorem after18_at (c : Dev nD) (t : Fin cfg0.N) (n : Fin 256) (k : Fin 1024) :
    (dats m 0 c).after 18 t (ix3 (0 : Fin 1) n k) = (call m c).out (bat t) (tok t n) k := by
  rw [after0_18]
  refine (out18_at _ _ _ _ _ _ _ _ _ _ _ _ _ _ _ _ _ _ _ n k).trans ?_
  rw [stream_at]
theorem after19_at (c : Dev nD) (t : Fin cfg0.N) (n : Fin 256) (k : Fin 1024) :
    (dats m 0 c).after 19 t (ix3 (0 : Fin 1) n k) = (call m c).onward (bat t) (tok t n) k := by
  rw [after0_19]
  refine (out19_at _ _ _ _ _ _ _ _ _ _ _ _ _ _ _ _ _ _ _ n k).trans ?_
  unfold Call.onward
  rw [stream_at, funext fun k => mods_at m c t n 4 k, funext fun k => mods_at m c t n 3 k]
  rfl

end Cert.Kernel5Ideal.Merge
end
-- ==== Proof.MergeValue.lean ====
/- The merge: the launch's result arrays. -/
module

public import proofs.«01_k».proof.Proof.MergeBlock

@[expose] public section

set_option maxRecDepth 16384

noncomputable section

namespace Cert.Kernel5Ideal.Merge

open Idealize.ShloMosaic Idealize.ShloMosaic.TcCoe Idealize.ShloMosaic.Tactic
open Cert.Kernel5Ideal Cert.Kernel5Ideal.Gen Cert.Ffn Cert.Merge

variable (m : (ℓ : Loc nD τ sig) → Buf (Elt Ideal) ℓ)

/-- The launch's result arrays. -/
def outG (c : Dev nD) : FVec Ideal S4x4352x1024 .f32 := fun i => (call m c).out (i 0) (i 1) (i 2)
def onwardG (c : Dev nD) : FVec Ideal S4x4352x1024 .bf16 := fun i => (call m c).onward (i 0) (i 1) (i 2)

/-- Some step's block is at every tile of every batch. -/
theorem step_of (b s : ℕ) (hb : b < 4) (hs : s < 17) : ∃ t : Fin grid0.N, t.val / 17 = b ∧ t.val % 17 = s :=
  ⟨⟨17 * b + s, lt_of_lt_of_eq (by omega) N_0.symm⟩, show (17 * b + s) / 17 = b by omega, show (17 * b + s) % 17 = s by omega⟩

theorem covers18 : (cfg0.win 18).Covers := by
  refine (cfg0.win 18).covers_of_indexMap_surj rfl (fun a => (by decide : ∀ a : Fin 3, 0 < S1x256x1024.size a) a) fun β => ?_
  have n0 : (cfg0.win 18).nblk ⟨0, (by decide : 0 < 3)⟩ = 4 := (by decide : (S4x4352x1024.size 0 + S1x256x1024.size 0 - 1) / S1x256x1024.size 0 = 4)
  have n1 : (cfg0.win 18).nblk ⟨1, (by decide : 1 < 3)⟩ = 17 := (by decide : (S4x4352x1024.size 1 + S1x256x1024.size 1 - 1) / S1x256x1024.size 1 = 17)
  have n2 : (cfg0.win 18).nblk ⟨2, (by decide : 2 < 3)⟩ = 1 := (by decide : (S4x4352x1024.size 2 + S1x256x1024.size 2 - 1) / S1x256x1024.size 2 = 1)
  have h0 := Nat.lt_of_lt_of_eq (β ⟨0, (by decide : 0 < 3)⟩).isLt n0
  have h1 := Nat.lt_of_lt_of_eq (β ⟨1, (by decide : 1 < 3)⟩).isLt n1
  have h2 := Nat.lt_of_lt_of_eq (β ⟨2, (by decide : 2 < 3)⟩).isLt n2
  obtain ⟨t, e0, e1⟩ := step_of _ _ h0 h1
  refine ⟨grid0.coords t, fun a => (congrFun (map18_at t) a).trans ?_⟩
  match a with
  | ⟨0, _⟩ => exact e0
  | ⟨1, _⟩ => exact e1
  | ⟨2, _⟩ => show 0 = _; omega

theorem covers19 : (cfg0.win 19).Covers := by
  refine (cfg0.win 19).covers_of_indexMap_surj rfl (fun a => (by decide : ∀ a : Fin 3, 0 < S1x256x1024.size a) a) fun β => ?_
  have n0 : (cfg0.win 19).nblk ⟨0, (by decide : 0 < 3)⟩ = 4 := (by decide : (S4x4352x1024.size 0 + S1x256x1024.size 0 - 1) / S1x256x1024.size 0 = 4)
  have n1 : (cfg0.win 19).nblk ⟨1, (by decide : 1 < 3)⟩ = 17 := (by decide : (S4x4352x1024.size 1 + S1x256x1024.size 1 - 1) / S1x256x1024.size 1 = 17)
  have n2 : (cfg0.win 19).nblk ⟨2, (by decide : 2 < 3)⟩ = 1 := (by decide : (S4x4352x1024.size 2 + S1x256x1024.size 2 - 1) / S1x256x1024.size 2 = 1)
  have h0 := Nat.lt_of_lt_of_eq (β ⟨0, (by decide : 0 < 3)⟩).isLt n0
  have h1 := Nat.lt_of_lt_of_eq (β ⟨1, (by decide : 1 < 3)⟩).isLt n1
  have h2 := Nat.lt_of_lt_of_eq (β ⟨2, (by decide : 2 < 3)⟩).isLt n2
  obtain ⟨t, e0, e1⟩ := step_of _ _ h0 h1
  refine ⟨grid0.coords t, fun a => (congrFun (map19_at t) a).trans ?_⟩
  match a with
  | ⟨0, _⟩ => exact e0
  | ⟨1, _⟩ => exact e1
  | ⟨2, _⟩ => show 0 = _; omega

/-- Where an entry of a step's block lies in the result. -/
theorem idx_eq (z : S1x256x1024.Idx) : z = ix3 (0 : Fin 1) (z 1) (z 2) := by
  funext a
  match a with
  | ⟨0, _⟩ => exact Fin.ext (show (z 0).val = 0 by have : (z 0).val < 1 := (z 0).isLt; omega)
  | ⟨1, _⟩ => rfl
  | ⟨2, _⟩ => rfl

theorem place (t : Fin cfg0.N) (z : S1x256x1024.Idx) (i : S4x4352x1024.Idx)
    (h : ∀ a : Fin 3, (i a).val = (![t.val / 17, t.val % 17, 0] : Fin 3 → ℕ) a * S1x256x1024.size a + (z a).val) : i 0 = bat t ∧ i 1 = tok t (z 1) ∧ i 2 = z 2 := by
  refine ⟨Fin.ext ((h 0).trans ?_), Fin.ext (h 1), Fin.ext ((h 2).trans ?_)⟩
  · have : (z 0).val < 1 := (z 0).isLt
    show t.val / 17 * 1 + (z 0).val = t.val / 17
    omega
  · exact (zero_row _ _).symm

theorem arr18_eq (c : Dev nD) : (dats m 0 c).arrAt 18 cfg0.N = outG m c := by
  refine (dats m 0 c).arrAt_eq_of_covers 18 _ covers18 fun t hf y => ?_
  obtain ⟨z, hz⟩ : ∃ z : S1x256x1024.Idx, z = (cfg0.win 18).xinj (cfg0.grid.coords t) y := ⟨_, rfl⟩
  have he : ∀ a : Fin 3, ((((cfg0.win 18).blk t).view.emb y a : ℕ)) = cc0_transform_18 (grid0.coords t) a * S1x256x1024.size a + (z a).val := by
    intro a
    rw [hz]
    exact Pipeline.Window.rect_emb_val (cfg0.win 18) t y a
  rw [map18_at] at he
  obtain ⟨e0, e1, e2⟩ := place t z (((cfg0.win 18).blk t).view.emb y) he
  show (dats m 0 c).after 18 t ((cfg0.win 18).xinj (cfg0.grid.coords t) y)
    = (call m c).out (((cfg0.win 18).blk t).view.emb y 0) (((cfg0.win 18).blk t).view.emb y 1) (((cfg0.win 18).blk t).view.emb y 2)
  rw [e0, e1, e2, ← hz]
  exact (congrArg ((dats m 0 c).after 18 t) (idx_eq z)).trans (after18_at m c t (z 1) (z 2))

theorem arr19_eq (c : Dev nD) : (dats m 0 c).arrAt 19 cfg0.N = onwardG m c := by
  refine (dats m 0 c).arrAt_eq_of_covers 19 _ covers19 fun t hf y => ?_
  obtain ⟨z, hz⟩ : ∃ z : S1x256x1024.Idx, z = (cfg0.win 19).xinj (cfg0.grid.coords t) y := ⟨_, rfl⟩
  have he : ∀ a : Fin 3, ((((cfg0.win 19).blk t).view.emb y a : ℕ)) = cc0_transform_19 (grid0.coords t) a * S1x256x1024.size a + (z a).val := by
    intro a
    rw [hz]
    exact Pipeline.Window.rect_emb_val (cfg0.win 19) t y a
  rw [map19_at] at he
  obtain ⟨e0, e1, e2⟩ := place t z (((cfg0.win 19).blk t).view.emb y) he
  show (dats m 0 c).after 19 t ((cfg0.win 19).xinj (cfg0.grid.coords t) y)
    = (call m c).onward (((cfg0.win 19).blk t).view.emb y 0) (((cfg0.win 19).blk t).view.emb y 1) (((cfg0.win 19).blk t).view.emb y 2)
  rw [e0, e1, e2, ← hz]
  exact (congrArg ((dats m 0 c).after 19 t) (idx_eq z)).trans (after19_at m c t (z 1) (z 2))

end Cert.Kernel5Ideal.Merge
end
-- ==== Proof.MergeRef.lean ====
/- The merge's reference: its results as a chain of stages, and each at an index. -/
module

public import proofs.«01_k».proof.Proof.Gen.Reference5Ideal.Run
public import proofs.«01_k».proof.Proof.FfnRef
public import proofs.«01_k».proof.Proof.MergeMath

@[expose] public section

set_option maxRecDepth 16384

noncomputable section

namespace Cert.Reference5Ideal.Merge

open Idealize.ShloMosaic Idealize.ShloMosaic.TcCoe Idealize.ShloMosaic.Tactic
open Cert.Reference5Ideal Cert.Reference5Ideal.Gen Cert.Ffn Cert.Merge
open Cert.Reference3Ideal.Ffn (choose residual normed affine modulated choose_at residual_at normed_at affine_at modulated_at)

/-- The branches' rows, from the context's tokens and the latents'. -/
def hyenas (a b : FVec Ideal S4x4096x128 .f32) (c : FVec Ideal S4x256x256 .bf16) : FVec Ideal S4x4352x256 .f32 :=
  concatenate S4x4352x256 1 [⟨S4x256x256, transpose S4x256x256 [0, 2, 1] (extf .f32 c bitsLt_bf16_f32) transposes_S4x256x256_S4x256x256_0_2_1⟩,
    ⟨S4x4096x256, concatenate S4x4096x256 2 [⟨S4x4096x128, a⟩, ⟨S4x4096x128, b⟩] concatenates_S4x4096x128_S4x4096x128_S4x4096x256_d2⟩] concatenates_S4x256x256_S4x4096x256_S4x4352x256_d1
def nattens (l : FVec Ideal S4x4096x384 .bf16) (c : FVec Ideal S4x256x384 .bf16) : FVec Ideal S4x4352x384 .bf16 :=
  concatenate S4x4352x384 1 [⟨S4x256x384, c⟩, ⟨S4x4096x384, l⟩] concatenates_S4x256x384_S4x4096x384_S4x4352x384_d1
def tokens (c : FVec Ideal S4x256x1024 .f32) (l : FVec Ideal S4x4096x1024 .f32) : FVec Ideal S4x4352x1024 .f32 :=
  concatenate S4x4352x1024 1 [⟨S4x256x1024, c⟩, ⟨S4x4096x1024, l⟩] concatenates_S4x256x1024_S4x4096x1024_S4x4352x1024_d1
/-- The gates, branch by branch. -/
def gates (g : FVec Ideal S4x4352x4096 .bf16) : FVec Ideal S4x4352x4x1024 .f32 :=
  shapeCast S4x4352x4x1024 (Host.divf (broadcastInDim S4x4352x4096 ![] bcast_S_S4x4352x4096 (constant S_ .f32 0x3F800000#32))
    (addf (broadcastInDim S4x4352x4096 ![] bcast_S_S4x4352x4096 (constant S_ .f32 0x3F800000#32)) (Host.exp (Host.negf (extf .f32 g bitsLt_bf16_f32)))))
    shapeCasts_S4x4352x4096_S4x4352x4x1024
def alone (x : FVec Ideal S4x4352x1x1024 .f32) : FVec Ideal S4x4352x1024 .f32 := shapeCast S4x4352x1024 x shapeCasts_S4x4352x1x1024_S4x4352x1024
/-- The products with the weights. -/
def dot384 (v : FVec Ideal S4x4352x384 .f32) (w : FVec Ideal S384x1024 .f32) : FVec Ideal S4x4352x1024 .f32 :=
  Host.dotGeneral dot_S4x4352x384_S384x1024_S4x4352x1024_2_0_01_1_n_n none v w
def dot256 (v : FVec Ideal S4x4352x256 .f32) (w : FVec Ideal S256x1024 .f32) : FVec Ideal S4x4352x1024 .f32 :=
  Host.dotGeneral dot_S4x4352x256_S256x1024_S4x4352x1024_2_0_01_1_n_n none v w
def dot1024 (v : FVec Ideal S4x4352x1024 .f32) (w : FVec Ideal S1024x1024 .f32) : FVec Ideal S4x4352x1024 .f32 :=
  Host.dotGeneral dot_S4x4352x1024_S1024x1024_S4x4352x1024_2_0_01_1_n_n none v w

section
variable (M : FVec Ideal S4x2x6x1024 .f32)
def sel2 : FVec Ideal S4x4352x1024 .f32 := choose (extractStridedSlice S4x1x1x1024 ![0, 0, 2, 0] M slices_S4x2x6x1024_S4x1x1x1024_0_0_2_0)
  (extractStridedSlice S4x1x1x1024 ![0, 1, 2, 0] M slices_S4x2x6x1024_S4x1x1x1024_0_1_2_0)
def sel3 : FVec Ideal S4x4352x1024 .f32 := choose (extractStridedSlice S4x1x1x1024 ![0, 0, 3, 0] M slices_S4x2x6x1024_S4x1x1x1024_0_0_3_0)
  (extractStridedSlice S4x1x1x1024 ![0, 1, 3, 0] M slices_S4x2x6x1024_S4x1x1x1024_0_1_3_0)
def sel4 : FVec Ideal S4x4352x1024 .f32 := choose (extractStridedSlice S4x1x1x1024 ![0, 0, 4, 0] M slices_S4x2x6x1024_S4x1x1x1024_0_0_4_0)
  (extractStridedSlice S4x1x1x1024 ![0, 1, 4, 0] M slices_S4x2x6x1024_S4x1x1x1024_0_1_4_0)
end

section
variable (A : Call)
def branches : FVec Ideal S4x4352x1024 .f32 :=
  addf (addf (addf
    (mulf (alone (extractStridedSlice S4x4352x1x1024 ![0, 0, 0, 0] (gates A.pg) slices_S4x4352x4x1024_S4x4352x1x1024_0_0_0_0)) (dot384 (extf .f32 A.ya bitsLt_bf16_f32) A.wa))
    (mulf (alone (extractStridedSlice S4x4352x1x1024 ![0, 0, 1, 0] (gates A.pg) slices_S4x4352x4x1024_S4x4352x1x1024_0_0_1_0)) (dot256 (hyenas A.ybA A.ybB A.ybC) A.wb)))
    (mulf (alone (extractStridedSlice S4x4352x1x1024 ![0, 0, 2, 0] (gates A.pg) slices_S4x4352x4x1024_S4x4352x1x1024_0_0_2_0)) (dot384 (extf .f32 (nattens A.ycL A.ycC) bitsLt_bf16_f32) A.wc)))
    (mulf (alone (extractStridedSlice S4x4352x1x1024 ![0, 0, 3, 0] (gates A.pg) slices_S4x4352x4x1024_S4x4352x1x1024_0_0_3_0)) (dot256 (extf .f32 A.yd bitsLt_bf16_f32) A.wd))
def streamed : FVec Ideal S4x4352x1024 .f32 := affine (normed (residual (tokens A.xC A.xL) (dot1024 (branches A) A.wo) (sel2 A.mods))) A.gain A.bias
def following : FVec Ideal S4x4352x1024 .f32 := modulated (normed (streamed A)) (sel4 A.mods) (sel3 A.mods)
end

/-- The call, from the reference's arguments. -/
def call (m : (ℓ : Loc nD τ sig) → Buf (Elt Ideal) ℓ) (c : Dev nD) : Call :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15), m ((c.tc : Thread nD τ).loc main_arg16), m ((c.tc : Thread nD τ).loc main_arg17)⟩

theorem res0_eq (m : (ℓ : Loc nD τ sig) → Buf (Elt Ideal) ℓ) (c : Dev nD) :
    Value.res_main_v75 (F := Ideal) (StableHlo.launchContents m c) = streamed (call m c) := rfl

theorem tok_concat {W : ℕ} (x : (⟨3, ![4, 256, W]⟩ : Shape).Idx → EReal) (y : (⟨3, ![4, 4096, W]⟩ : Shape).Idx → EReal)
    (h : Shape.Concatenates [⟨3, ![4, 256, W]⟩, ⟨3, ![4, 4096, W]⟩] ⟨3, ![4, 4352, W]⟩ 1) (B : Fin 4) (s : Fin 4352) (k : Fin W) :
    concatenate ⟨3, ![4, 4352, W]⟩ 1 [⟨⟨3, ![4, 256, W]⟩, x⟩, ⟨⟨3, ![4, 4096, W]⟩, y⟩] h (ix3 B s k) = pick s (x (ix3 B (ctxTok s) k)) (y (ix3 B (latTok s) k)) := by
  unfold pick
  by_cases hs : s.val < 256
  · rw [if_pos hs]
    refine concatenate_pair_apply_left (t := ⟨3, ![4, 4352, W]⟩) (1 : Fin 3) x y h (ix3 B s k) rfl (ix3 B (ctxTok s) k) fun b => ?_
    match b with
    | ⟨0, _⟩ => rfl
    | ⟨1, _⟩ => exact Nat.mod_eq_of_lt hs
    | ⟨2, _⟩ => rfl
  · rw [if_neg hs]
    refine concatenate_pair_apply_right (t := ⟨3, ![4, 4352, W]⟩) (1 : Fin 3) x y h (ix3 B s k) rfl rfl (ix3 B (latTok s) k) (fun b hb => ?_) (show s.val - 256 + 256 = s.val by omega)
    match b with
    | ⟨0, _⟩ => rfl
    | ⟨1, _⟩ => exact absurd rfl hb
    | ⟨2, _⟩ => rfl

theorem side_concat (x y : FVec Ideal S4x4096x128 .f32) (B : Fin 4) (r : Fin 4096) (d : Fin 256) :
    concatenate S4x4096x256 2 [⟨S4x4096x128, x⟩, ⟨S4x4096x128, y⟩] concatenates_S4x4096x128_S4x4096x128_S4x4096x256_d2 (ix3 B r d)
      = side (fun j => x (ix3 B r j)) (fun j => y (ix3 B r j)) d := by
  unfold side
  by_cases hd : d.val < 128
  · rw [dif_pos hd]
    refine concatenate_pair_apply_left (t := S4x4096x256) (2 : Fin 3) x y _ (ix3 B r d) rfl (ix3 B r ⟨d.val, hd⟩) fun b => ?_
    match b with
    | ⟨0, _⟩ => rfl
    | ⟨1, _⟩ => rfl
    | ⟨2, _⟩ => rfl
  · rw [dif_neg hd]
    refine concatenate_pair_apply_right (t := S4x4096x256) (2 : Fin 3) x y _ (ix3 B r d) rfl rfl (ix3 B r ⟨d.val - 128, by omega⟩) (fun b hb => ?_) (show d.val - 128 + 128 = d.val by omega)
    match b with
    | ⟨0, _⟩ => rfl
    | ⟨1, _⟩ => rfl
    | ⟨2, _⟩ => exact absurd rfl hb

theorem turned_at (c : FVec Ideal S4x256x256 .bf16) (B : Fin 4) (n d : Fin 256) :
    transpose S4x256x256 [0, 2, 1] (extf .f32 c bitsLt_bf16_f32) transposes_S4x256x256_S4x256x256_0_2_1 (ix3 B n d) = c (ix3 B d n) := by
  pointwise []

theorem gates_at (g : FVec Ideal S4x4352x4096 .bf16) (B : Fin 4) (s : Fin 4352) (e : Fin 4) (k : Fin 1024) :
    gates g (ix4 B s e k) = Ideal.logistic (g (ix3 B s (gcol e k))) := by
  unfold gates
  refine (shapeCast_apply _ _ (ix4 B s e k) (ix3 B s (gcol e k)) ?_).trans ?_
  · rw [Shape.rowMajor_val_three, Shape.rowMajor_val_four]
    show ((B.val * 4352 + s.val) * 4096 + (e.val * 1024 + k.val) : ℕ) = ((B.val * 4352 + s.val) * 4 + e.val) * 1024 + k.val
    omega
  · unfold Ideal.logistic
    pointwise []

theorem alone_at (x : FVec Ideal S4x4352x1x1024 .f32) (B : Fin 4) (s : Fin 4352) (k : Fin 1024) : alone x (ix3 B s k) = x (ix4 B s 0 k) := by
  pointwise [alone]

theorem gate0_at (g : FVec Ideal S4x4352x4x1024 .f32) (B : Fin 4) (s : Fin 4352) (k : Fin 1024) :
    alone (extractStridedSlice S4x4352x1x1024 ![0, 0, 0, 0] g slices_S4x4352x4x1024_S4x4352x1x1024_0_0_0_0) (ix3 B s k) = g (ix4 B s 0 k) := by
  rw [alone_at]
  pointwise []
theorem gate1_at (g : FVec Ideal S4x4352x4x1024 .f32) (B : Fin 4) (s : Fin 4352) (k : Fin 1024) :
    alone (extractStridedSlice S4x4352x1x1024 ![0, 0, 1, 0] g slices_S4x4352x4x1024_S4x4352x1x1024_0_0_1_0) (ix3 B s k) = g (ix4 B s 1 k) := by
  rw [alone_at]
  pointwise []
theorem gate2_at (g : FVec Ideal S4x4352x4x1024 .f32) (B : Fin 4) (s : Fin 4352) (k : Fin 1024) :
    alone (extractStridedSlice S4x4352x1x1024 ![0, 0, 2, 0] g slices_S4x4352x4x1024_S4x4352x1x1024_0_0_2_0) (ix3 B s k) = g (ix4 B s 2 k) := by
  rw [alone_at]
  pointwise []
theorem gate3_at (g : FVec Ideal S4x4352x4x1024 .f32) (B : Fin 4) (s : Fin 4352) (k : Fin 1024) :
    alone (extractStridedSlice S4x4352x1x1024 ![0, 0, 3, 0] g slices_S4x4352x4x1024_S4x4352x1x1024_0_0_3_0) (ix3 B s k) = g (ix4 B s 3 k) := by
  rw [alone_at]
  pointwise []

theorem dot384_at (v : FVec Ideal S4x4352x384 .f32) (w : FVec Ideal S384x1024 .f32) (B : Fin 4) (s : Fin 4352) (k : Fin 1024) :
    dot384 v w (ix3 B s k) = prod (fun d => v (ix3 B s d)) (fun d k => w (ix2 d k)) k := by
  unfold prod
  pointwise [dot384]
theorem dot256_at (v : FVec Ideal S4x4352x256 .f32) (w : FVec Ideal S256x1024 .f32) (B : Fin 4) (s : Fin 4352) (k : Fin 1024) :
    dot256 v w (ix3 B s k) = prod (fun d => v (ix3 B s d)) (fun d k => w (ix2 d k)) k := by
  unfold prod
  pointwise [dot256]
theorem dot1024_at (v : FVec Ideal S4x4352x1024 .f32) (w : FVec Ideal S1024x1024 .f32) (B : Fin 4) (s : Fin 4352) (k : Fin 1024) :
    dot1024 v w (ix3 B s k) = prod (fun d => v (ix3 B s d)) (fun d k => w (ix2 d k)) k := by
  unfold prod
  pointwise [dot1024]

theorem sel2_at (M : FVec Ideal S4x2x6x1024 .f32) (B : Fin 4) (s : Fin 4352) (k : Fin 1024) : sel2 M (ix3 B s k) = modTok M 2 B s k := by
  refine (choose_at _ _ B s k).trans ?_
  unfold modTok
  pointwise []
theorem sel3_at (M : FVec Ideal S4x2x6x1024 .f32) (B : Fin 4) (s : Fin 4352) (k : Fin 1024) : sel3 M (ix3 B s k) = modTok M 3 B s k := by
  refine (choose_at _ _ B s k).trans ?_
  unfold modTok
  pointwise []
theorem sel4_at (M : FVec Ideal S4x2x6x1024 .f32) (B : Fin 4) (s : Fin 4352) (k : Fin 1024) : sel4 M (ix3 B s k) = modTok M 4 B s k := by
  refine (choose_at _ _ B s k).trans ?_
  unfold modTok
  pointwise []

section
variable (A : Call) (B : Fin 4) (s : Fin 4352) (k : Fin 1024)

theorem hyenas_at (d : Fin 256) : hyenas A.ybA A.ybB A.ybC (ix3 B s d) = A.hyena B s d := by
  refine (tok_concat _ _ _ B s d).trans ?_
  rw [turned_at, side_concat]
  rfl
theorem nattens_at (d : Fin 384) : nattens A.ycL A.ycC (ix3 B s d) = A.natten B s d := tok_concat _ _ _ B s d
theorem tokens_at : tokens A.xC A.xL (ix3 B s k) = A.token B s k := tok_concat _ _ _ B s k

theorem branches_at : branches A (ix3 B s k) = A.merged B s k := by
  have h : ∀ x y : FVec Ideal S4x4352x1024 .f32, mulf x y (ix3 B s k) = (x (ix3 B s k) : EReal) * y (ix3 B s k) := fun _ _ => rfl
  have h' : ∀ x y : FVec Ideal S4x4352x1024 .f32, addf x y (ix3 B s k) = (x (ix3 B s k) : EReal) + y (ix3 B s k) := fun _ _ => rfl
  unfold branches
  rw [h', h', h', h, h, h, h, gate0_at, gate1_at, gate2_at, gate3_at, gates_at, gates_at, gates_at, gates_at, dot384_at, dot384_at, dot256_at, dot256_at,
    funext fun d => hyenas_at A B s d]
  rw [show (fun d => (extf .f32 (nattens A.ycL A.ycC) bitsLt_bf16_f32 : FVec Ideal S4x4352x384 .f32) (ix3 B s d)) = A.natten B s from funext fun d => nattens_at A B s d]
  rfl

theorem streamed_at : streamed A (ix3 B s k) = A.out B s k := by
  unfold streamed
  rw [affine_at, normed_at]
  simp only [residual_at, dot1024_at, branches_at, sel2_at, tokens_at]
  rfl

theorem following_at : following A (ix3 B s k) = A.onward B s k := by
  unfold following
  rw [modulated_at, normed_at, sel4_at, sel3_at]
  simp only [streamed_at]
  rfl
end

end Cert.Reference5Ideal.Merge
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Tables
public import proofs.«01_k».proof.Proof.Finite
public import proofs.«01_k».proof.Proof.Value
public import proofs.«01_k».proof.Proof.Gates
public import proofs.«01_k».proof.Proof.FfnValue
public import proofs.«01_k».proof.Proof.MoeValue
public import proofs.«01_k».proof.Proof.MoeRef
public import proofs.«01_k».proof.Proof.MergeValue
public import proofs.«01_k».proof.Proof.MergeRef
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, leaves its arguments alone, and declares no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m g)

theorem algebraic : Cert.algebraic_KernelIdeal_ReferenceIdeal_pre_finite (hKernelIdeal := Cert.KernelIdeal.Gen.facts)
    (hReferenceIdeal := Cert.ReferenceIdeal.Gen.facts) (hPre_finite := Cert.Natten.preFacts) := by
  intro m g m' g' hpre hagree
  have hok := Cert.KernelIdeal.Natten.ok m
  refine ⟨fun c => Cert.KernelIdeal.Natten.G m c, ?_, ?_⟩
  · exact (θ_run Cert.KernelIdeal.defs _ _).mono
      (fun r h c => ⟨((h.1 c).1 4).trans (Cert.KernelIdeal.Natten.arr_eq m hok c), (h.2 c).1, (h.2 c).2⟩)
      (θ_run_and (Cert.KernelIdeal.Gen.run_main (F := Ideal) m g hok) (Cert.KernelIdeal.Gen.unchanged (F := Ideal) m g hok))
  · refine (θ_run Cert.ReferenceIdeal.defs _ _).mono (fun r h c => ⟨(h c).1.trans ?_, (h c).2⟩)
      (Cert.ReferenceIdeal.Value.run (F := Ideal) m' g')
    have hreal := @Cert.Natten.real_of_pre Cert.Natten.preFacts _ _ (hpre c).1 (hpre c).2
    refine (Cert.ReferenceIdeal.Natten.res_eq m' c).trans ?_
    rw [(hagree c).1, (hagree c).2]
    exact (Cert.Natten.value_eq _ _ hreal.1 hreal.2 m c rfl rfl).symm

theorem frame_reference2 : Cert.quiescent_Reference2Ideal (hReference2Ideal := Cert.Reference2Ideal.Gen.facts) := fun m g _ =>
  (θ_run Cert.Reference2Ideal.defs _ _).mono
    (fun r h => ⟨fun c => (h c).2, Idealize.ShloMosaic.sem_eq_zero_of_no_sems (by decide) r.2⟩)
    (Cert.Reference2Ideal.Value.run (F := Ideal) m g)

theorem frame_reference3 : Cert.quiescent_Reference3Ideal (hReference3Ideal := Cert.Reference3Ideal.Gen.facts) := fun m g _ =>
  (θ_run Cert.Reference3Ideal.defs _ _).mono
    (fun r h => ⟨fun c => (h c).2.2, Idealize.ShloMosaic.sem_eq_zero_of_no_sems (by decide) r.2⟩)
    (Cert.Reference3Ideal.Value.run (F := Ideal) m g)

/-- The gates' projection. -/
theorem algebraic2 : Cert.algebraic_Kernel2Ideal_Reference2Ideal (hKernel2Ideal := Cert.Kernel2Ideal.Gen.facts)
    (hReference2Ideal := Cert.Reference2Ideal.Gen.facts) := by
  intro m g m' g' _ hagree
  refine ⟨fun c => Cert.Kernel2Ideal.Gates.G m c, ?_, ?_⟩
  · exact (θ_run Cert.Kernel2Ideal.defs _ _).mono (fun r h c => ⟨(h c).1.trans (Cert.Kernel2Ideal.Gates.arr_eq m c), (h c).2⟩)
      (Cert.Kernel2Ideal.Value.run_blocks (F := Ideal) m g)
  · refine (θ_run Cert.Reference2Ideal.defs _ _).mono (fun r h c => ⟨(h c).1.trans ?_, (h c).2⟩)
      (Cert.Reference2Ideal.Value.run (F := Ideal) m' g')
    rw [(hagree c).1, (hagree c).2]
    funext i
    have e : i = ix2 (i 0) (i 1) := funext fun a => match a with
      | ⟨0, _⟩ => rfl
      | ⟨1, _⟩ => rfl
    rw [e]
    exact Cert.Kernel2Ideal.Gates.ref_at _ _ (i 0) (i 1)

/-- The dense channel mixing. -/
theorem algebraic3 : Cert.algebraic_Kernel3Ideal_Reference3Ideal (hKernel3Ideal := Cert.Kernel3Ideal.Gen.facts)
    (hReference3Ideal := Cert.Reference3Ideal.Gen.facts) := by
  intro m g m' g' _ hagree
  refine ⟨fun c => Cert.Kernel3Ideal.Ffn.streamG m c, fun c => Cert.Kernel3Ideal.Ffn.nextG m c, ?_, ?_⟩
  · exact (θ_run Cert.Kernel3Ideal.defs _ _).mono
      (fun r h c => ⟨(h c).1.trans (Cert.Kernel3Ideal.Ffn.arr9_eq m c), (h c).2.1.trans (Cert.Kernel3Ideal.Ffn.arr10_eq m c), (h c).2.2⟩)
      (Cert.Kernel3Ideal.Value.run_blocks (F := Ideal) m g)
  · refine (θ_run Cert.Reference3Ideal.defs _ _).mono (fun r h c => ⟨(h c).1.trans ?_, (h c).2.1.trans ?_, (h c).2.2⟩)
      (Cert.Reference3Ideal.Value.run (F := Ideal) m' g')
    all_goals obtain ⟨h0, h1, h2, h3, h4, h5, h6, h7, h8⟩ := hagree c
    · rw [Cert.Reference3Ideal.Ffn.res0_eq, h0, h1, h2, h4, h5, h6, h7, h8]
      funext i
      have e : i = ix2 (i 0) (i 1) := funext fun a => match a with
        | ⟨0, _⟩ => rfl
        | ⟨1, _⟩ => rfl
      rw [e]
      exact (Cert.Kernel3Ideal.Ffn.rows_at _ (i 0) (i 1)).trans (Cert.Reference3Ideal.Ffn.streamed_at _ _ _ _ _ _ _ _ _ _ (i 1))
    · rw [Cert.Reference3Ideal.Ffn.res1_eq, h0, h1, h2, h3, h4, h5, h6, h7, h8]
      funext i
      have e : i = ix2 (i 0) (i 1) := funext fun a => match a with
        | ⟨0, _⟩ => rfl
        | ⟨1, _⟩ => rfl
      rw [e]
      exact (Cert.Kernel3Ideal.Ffn.rows_at _ (i 0) (i 1)).trans (Cert.Reference3Ideal.Ffn.onward_at _ _ _ _ _ _ _ _ _ _ _ (i 1))

theorem frame_reference4 : Cert.quiescent_Reference4Ideal (hReference4Ideal := Cert.Reference4Ideal.Gen.facts) (hPre_experts := Cert.Moe.preFacts) := fun m g _ =>
  (θ_run Cert.Reference4Ideal.defs _ _).mono
    (fun r h => ⟨fun c => (h c).2, Idealize.ShloMosaic.sem_eq_zero_of_no_sems (by decide) r.2⟩)
    (Cert.Reference4Ideal.Value.run (F := Ideal) m g)

/-- Every tile's expert is one of the eight, by the precondition. -/
theorem experts4 (m : (ℓ : Loc Cert.Kernel4.nD Cert.Kernel4.τ Cert.Kernel4.sig) → Buf (Elt Bits) ℓ)
    (h : Cert.Pre_Kernel4 (hPre_experts := Cert.Moe.preFacts) m) (r : Fin 72) : (Cert.Kernel4.Moe.tiles m (ix1 r)).toNat < 8 :=
  @Cert.Moe.lt_of_pre Cert.Moe.preFacts _ _ _ _ _ _ _ _ (h 0) r
theorem experts4_ideal (m : (ℓ : Loc Cert.Kernel4Ideal.nD Cert.Kernel4Ideal.τ Cert.Kernel4Ideal.sig) → Buf (Elt Ideal) ℓ)
    (h : Cert.Pre_Kernel4Ideal (hPre_experts := Cert.Moe.preFacts) m) (r : Fin 72) : (Cert.Kernel4Ideal.Moe.tiles m (ix1 r)).toNat < 8 :=
  @Cert.Moe.lt_of_pre Cert.Moe.preFacts _ _ _ _ _ _ _ _ (h 0) r

/-- The routed experts. -/
theorem algebraic4 : Cert.algebraic_Kernel4Ideal_Reference4Ideal (hKernel4Ideal := Cert.Kernel4Ideal.Gen.facts)
    (hReference4Ideal := Cert.Reference4Ideal.Gen.facts) (hPre_experts := Cert.Moe.preFacts) := by
  intro m g m' g' hpre hagree
  have hE := experts4_ideal m hpre
  have hok := Cert.Kernel4Ideal.Moe.ok m hE
  refine ⟨fun c => Cert.Kernel4Ideal.Moe.G m c, ?_, ?_⟩
  · exact (θ_run Cert.Kernel4Ideal.defs _ _).mono
      (fun r h c => ⟨((h.1 c).1 4).trans (Cert.Kernel4Ideal.Moe.arr_eq m hok hE c), h.2 c⟩)
      (θ_run_and (Cert.Kernel4Ideal.Gen.run_main (F := Ideal) m g hok) (Cert.Kernel4Ideal.Gen.unchanged (F := Ideal) m g hok))
  · refine (θ_run Cert.Reference4Ideal.defs _ _).mono (fun r h c => ⟨(h c).1.trans ?_, (h c).2⟩)
      (Cert.Reference4Ideal.Value.run (F := Ideal) m' g')
    obtain ⟨h0, h1, h2, h3, h4, h5⟩ := hagree c
    have ht : m' ((c.tc : Thread Cert.Reference4Ideal.nD Cert.Reference4Ideal.τ).loc Cert.Reference4Ideal.main_arg1) = Cert.Kernel4Ideal.Moe.tiles m :=
      h1.trans (Cert.Kernel4Ideal.Gen.V_pre m c 0)
    have hu : m' ((c.tc : Thread Cert.Reference4Ideal.nD Cert.Reference4Ideal.τ).loc Cert.Reference4Ideal.main_arg2) = Cert.Kernel4Ideal.Moe.count m :=
      h2.trans (Cert.Kernel4Ideal.Gen.V_pre m c 1)
    show Cert.Reference4Ideal.Moe.result (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) = _
    rw [h0, ht, hu, h3, h4, h5]
    funext i
    have e : i = ix2 (i 0) (i 1) := funext fun a => match a with
      | ⟨0, _⟩ => rfl
      | ⟨1, _⟩ => rfl
    rw [e]
    exact Cert.Reference4Ideal.Moe.result_at _ _ _ _ _ _ hE (i 0) (i 1)

theorem frame_reference5 : Cert.quiescent_Reference5Ideal (hReference5Ideal := Cert.Reference5Ideal.Gen.facts) := fun m g _ =>
  (θ_run Cert.Reference5Ideal.defs _ _).mono
    (fun r h => ⟨fun c => (h c).2.2, Idealize.ShloMosaic.sem_eq_zero_of_no_sems (by decide) r.2⟩)
    (Cert.Reference5Ideal.Value.run (F := Ideal) m g)

/-- The merge. -/
theorem algebraic5 : Cert.algebraic_Kernel5Ideal_Reference5Ideal (hKernel5Ideal := Cert.Kernel5Ideal.Gen.facts)
    (hReference5Ideal := Cert.Reference5Ideal.Gen.facts) := by
  intro m g m' g' _ hagree
  have hcall : ∀ c, Cert.Reference5Ideal.Merge.call m' c = Cert.Kernel5Ideal.Merge.call m c := by
    intro c
    obtain ⟨h0, h1, h2, h3, h4, h5, h6, h7, h8, h9, h10, h11, h12, h13, h14, h15, h16, h17⟩ := hagree c
    unfold Cert.Reference5Ideal.Merge.call
    rw [h0, h1, h2, h3, h4, h5, h6, h7, h8, h9, h10, h11, h12, h13, h14, h15, h16, h17]
    rfl
  refine ⟨fun c => Cert.Kernel5Ideal.Merge.outG m c, fun c => Cert.Kernel5Ideal.Merge.onwardG m c, ?_, ?_⟩
  · exact (θ_run Cert.Kernel5Ideal.defs _ _).mono
      (fun r h c => ⟨(h c).1.trans (Cert.Kernel5Ideal.Merge.arr18_eq m c), (h c).2.1.trans (Cert.Kernel5Ideal.Merge.arr19_eq m c), (h c).2.2⟩)
      (Cert.Kernel5Ideal.Value.run_blocks (F := Ideal) m g)
  · refine (θ_run Cert.Reference5Ideal.defs _ _).mono (fun r h c => ⟨(h c).1.trans ?_,
      (h c).2.1.trans ((show _ = truncf (F := Ideal) .bf16 (Cert.Reference5Ideal.Merge.following (Cert.Reference5Ideal.Merge.call m' c)) _ from rfl).trans ?_), (h c).2.2⟩)
      (Cert.Reference5Ideal.Value.run (F := Ideal) m' g')
    · refine (Cert.Reference5Ideal.Merge.res0_eq m' c).trans ?_
      rw [hcall]
      funext i
      have e : i = ix3 (i 0) (i 1) (i 2) := funext fun a => match a with
        | ⟨0, _⟩ => rfl
        | ⟨1, _⟩ => rfl
        | ⟨2, _⟩ => rfl
      rw [e]
      exact Cert.Reference5Ideal.Merge.streamed_at _ (i 0) (i 1) (i 2)
    · rw [hcall]
      funext i
      have e : i = ix3 (i 0) (i 1) (i 2) := funext fun a => match a with
        | ⟨0, _⟩ => rfl
        | ⟨1, _⟩ => rfl
        | ⟨2, _⟩ => rfl
      rw [e]
      exact Cert.Reference5Ideal.Merge.following_at _ (i 0) (i 1) (i 2)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts, Cert.Kernel4Ideal.Gen.facts,
    Cert.Reference4Ideal.Gen.facts, Cert.Kernel5.Gen.facts, Cert.Kernel5Ideal.Gen.facts, Cert.Reference5Ideal.Gen.facts, Cert.Natten.preFacts, Cert.Moe.preFacts,
    fun m g _ => Cert.Kernel.Gen.frame m g (Cert.Kernel.Natten.ok m),
    fun m g _ => Cert.KernelIdeal.Gen.frame m g (Cert.KernelIdeal.Natten.ok m),
    fun m g _ => Cert.KernelIdeal.Gen.frame m g (Cert.KernelIdeal.Natten.ok m),
    fun m g _ => frame_reference m g,
    fun m g _ => frame_reference m g,
    fun m g _ => Cert.Kernel2.Gen.frame m g,
    fun m g _ => Cert.Kernel2Ideal.Gen.frame m g,
    frame_reference2,
    fun m g _ => Cert.Kernel3.Gen.frame m g,
    fun m g _ => Cert.Kernel3Ideal.Gen.frame m g,
    frame_reference3,
    fun m g h => Cert.Kernel4.Gen.frame m g (Cert.Kernel4.Moe.ok m (experts4 m h)),
    fun m g h => Cert.Kernel4Ideal.Gen.frame m g (Cert.Kernel4Ideal.Moe.ok m (experts4_ideal m h)),
    frame_reference4,
    fun m g _ => Cert.Kernel5.Gen.frame m g,
    fun m g _ => Cert.Kernel5Ideal.Gen.frame m g,
    frame_reference5,
    trivial,
    algebraic,
    trivial,
    algebraic2,
    trivial,
    algebraic3,
    trivial,
    algebraic4,
    trivial,
    algebraic5⟩

end Cert.Proof

end
